-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_gates_finite [hPre_gates_finite : Cert.Pre_gates_finite.Facts] (m : (ℓ : Loc Cert.GatesIdeal.nD Cert.GatesIdeal.τ Cert.GatesIdeal.sig) → Buf (Elt Ideal) ℓ) : Prop :=
  ∀ c : Dev Cert.GatesIdeal.nD,
    (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_gates_finite [hPre_gates_finite : Cert.Pre_gates_finite.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Gate1 (m : (ℓ : Loc Cert.Gate1.nD Cert.Gate1.τ Cert.Gate1.sig) → Buf (Elt Bits) ℓ) : Prop :=
  True

def Pre_Gate1Ideal (m : (ℓ : Loc Cert.Gate1Ideal.nD Cert.Gate1Ideal.τ Cert.Gate1Ideal.sig) → Buf (Elt Ideal) ℓ) : Prop :=
  True

def Pre_Gate1RefIdeal (m : (ℓ : Loc Cert.Gate1RefIdeal.nD Cert.Gate1RefIdeal.τ Cert.Gate1RefIdeal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesIdeal_pre_gates_finite [hGatesIdeal : Cert.GatesIdeal.Facts] [hPre_gates_finite : Cert.Pre_gates_finite.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_gates_finite m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5))
      ∧ r.2.sem = fun _ => 0)

def quiescent_GatesRefIdeal_pre_gates_finite [hGatesRefIdeal : Cert.GatesRefIdeal.Facts] [hPre_gates_finite : Cert.Pre_gates_finite.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_gates_finite m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_Gate1 [hGate1 : Cert.Gate1.Facts] : Prop :=
  ∀ (m : (ℓ : Loc Cert.Gate1.nD Cert.Gate1.τ Cert.Gate1.sig) → Buf (Elt Bits) ℓ) (g : Dev Cert.Gate1.nD → PrngReg), Pre_Gate1 m →
    θ_run (Cert.Gate1.defs (F := Bits)) (onTc (τ := Cert.Gate1.τ) (Cert.Gate1.main (F := Bits))) ⟨m, fun _ => 0, g⟩ (fun r => (∀ c : Dev Cert.Gate1.nD,
      r.2.mem ((c.tc : Thread Cert.Gate1.nD Cert.Gate1.τ).loc Cert.Gate1.main_arg0) = m ((c.tc : Thread Cert.Gate1.nD Cert.Gate1.τ).loc Cert.Gate1.main_arg0)
      ∧ r.2.mem ((c.tc : Thread Cert.Gate1.nD Cert.Gate1.τ).loc Cert.Gate1.main_arg1) = m ((c.tc : Thread Cert.Gate1.nD Cert.Gate1.τ).loc Cert.Gate1.main_arg1)
      ∧ r.2.mem ((c.tc : Thread Cert.Gate1.nD Cert.Gate1.τ).loc Cert.Gate1.main_arg2) = m ((c.tc : Thread Cert.Gate1.nD Cert.Gate1.τ).loc Cert.Gate1.main_arg2))
      ∧ r.2.sem = fun _ => 0)

def quiescent_Gate1Ideal [hGate1Ideal : Cert.Gate1Ideal.Facts] : Prop :=
  ∀ (m : (ℓ : Loc Cert.Gate1Ideal.nD Cert.Gate1Ideal.τ Cert.Gate1Ideal.sig) → Buf (Elt Ideal) ℓ) (g : Dev Cert.Gate1Ideal.nD → PrngReg), Pre_Gate1Ideal m →
    θ_run (Cert.Gate1Ideal.defs (F := Ideal)) (onTc (τ := Cert.Gate1Ideal.τ) (Cert.Gate1Ideal.main (F := Ideal))) ⟨m, fun _ => 0, g⟩ (fun r => (∀ c : Dev Cert.Gate1Ideal.nD,
      r.2.mem ((c.tc : Thread Cert.Gate1Ideal.nD Cert.Gate1Ideal.τ).loc Cert.Gate1Ideal.main_arg0) = m ((c.tc : Thread Cert.Gate1Ideal.nD Cert.Gate1Ideal.τ).loc Cert.Gate1Ideal.main_arg0)
      ∧ r.2.mem ((c.tc : Thread Cert.Gate1Ideal.nD Cert.Gate1Ideal.τ).loc Cert.Gate1Ideal.main_arg1) = m ((c.tc : Thread Cert.Gate1Ideal.nD Cert.Gate1Ideal.τ).loc Cert.Gate1Ideal.main_arg1)
      ∧ r.2.mem ((c.tc : Thread Cert.Gate1Ideal.nD Cert.Gate1Ideal.τ).loc Cert.Gate1Ideal.main_arg2) = m ((c.tc : Thread Cert.Gate1Ideal.nD Cert.Gate1Ideal.τ).loc Cert.Gate1Ideal.main_arg2))
      ∧ r.2.sem = fun _ => 0)

def quiescent_Gate1RefIdeal [hGate1RefIdeal : Cert.Gate1RefIdeal.Facts] : Prop :=
  ∀ (m : (ℓ : Loc Cert.Gate1RefIdeal.nD Cert.Gate1RefIdeal.τ Cert.Gate1RefIdeal.sig) → Buf (Elt Ideal) ℓ) (g : Dev Cert.Gate1RefIdeal.nD → PrngReg), Pre_Gate1RefIdeal m →
    θ_run (Cert.Gate1RefIdeal.defs (F := Ideal)) (onTc (τ := Cert.Gate1RefIdeal.τ) (Cert.Gate1RefIdeal.main (F := Ideal))) ⟨m, fun _ => 0, g⟩ (fun r => (∀ c : Dev Cert.Gate1RefIdeal.nD,
      r.2.mem ((c.tc : Thread Cert.Gate1RefIdeal.nD Cert.Gate1RefIdeal.τ).loc Cert.Gate1RefIdeal.main_arg0) = m ((c.tc : Thread Cert.Gate1RefIdeal.nD Cert.Gate1RefIdeal.τ).loc Cert.Gate1RefIdeal.main_arg0)
      ∧ r.2.mem ((c.tc : Thread Cert.Gate1RefIdeal.nD Cert.Gate1RefIdeal.τ).loc Cert.Gate1RefIdeal.main_arg1) = m ((c.tc : Thread Cert.Gate1RefIdeal.nD Cert.Gate1RefIdeal.τ).loc Cert.Gate1RefIdeal.main_arg1)
      ∧ r.2.mem ((c.tc : Thread Cert.Gate1RefIdeal.nD Cert.Gate1RefIdeal.τ).loc Cert.Gate1RefIdeal.main_arg2) = m ((c.tc : Thread Cert.Gate1RefIdeal.nD Cert.Gate1RefIdeal.τ).loc Cert.Gate1RefIdeal.main_arg2))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1)
      ∧ r.2.mem ((c.tc : Thread Cert.Up1.nD Cert.Up1.τ).loc Cert.Up1.main_arg2) = m ((c.tc : Thread Cert.Up1.nD Cert.Up1.τ).loc Cert.Up1.main_arg2)
      ∧ r.2.mem ((c.tc : Thread Cert.Up1.nD Cert.Up1.τ).loc Cert.Up1.main_arg3) = m ((c.tc : Thread Cert.Up1.nD Cert.Up1.τ).loc Cert.Up1.main_arg3))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1)
      ∧ r.2.mem ((c.tc : Thread Cert.Up1Ideal.nD Cert.Up1Ideal.τ).loc Cert.Up1Ideal.main_arg2) = m ((c.tc : Thread Cert.Up1Ideal.nD Cert.Up1Ideal.τ).loc Cert.Up1Ideal.main_arg2)
      ∧ r.2.mem ((c.tc : Thread Cert.Up1Ideal.nD Cert.Up1Ideal.τ).loc Cert.Up1Ideal.main_arg3) = m ((c.tc : Thread Cert.Up1Ideal.nD Cert.Up1Ideal.τ).loc Cert.Up1Ideal.main_arg3))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1)
      ∧ r.2.mem ((c.tc : Thread Cert.Up1RefIdeal.nD Cert.Up1RefIdeal.τ).loc Cert.Up1RefIdeal.main_arg2) = m ((c.tc : Thread Cert.Up1RefIdeal.nD Cert.Up1RefIdeal.τ).loc Cert.Up1RefIdeal.main_arg2)
      ∧ r.2.mem ((c.tc : Thread Cert.Up1RefIdeal.nD Cert.Up1RefIdeal.τ).loc Cert.Up1RefIdeal.main_arg3) = m ((c.tc : Thread Cert.Up1RefIdeal.nD Cert.Up1RefIdeal.τ).loc Cert.Up1RefIdeal.main_arg3))
      ∧ r.2.sem = fun _ => 0)

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v30_0)) (v1 : (c : Dev Cert.FfnIdeal.nD) → Buf (Elt Ideal) ((c.tc : Thread Cert.FfnIdeal.nD Cert.FfnIdeal.τ).loc Cert.FfnIdeal.main_v30_1)) (v2 : (c : Dev Cert.FfnIdeal.nD) → Buf (Elt Ideal) ((c.tc : Thread Cert.FfnIdeal.nD Cert.FfnIdeal.τ).loc Cert.FfnIdeal.main_v30_2)) (v3 : (c : Dev Cert.FfnIdeal.nD) → Buf (Elt Ideal) ((c.tc : Thread Cert.FfnIdeal.nD Cert.FfnIdeal.τ).loc Cert.FfnIdeal.main_v30_3)) (v4 : (c : Dev Cert.FfnIdeal.nD) → Buf (Elt Ideal) ((c.tc : Thread Cert.FfnIdeal.nD Cert.FfnIdeal.τ).loc Cert.FfnIdeal.main_v30_4)) (v5 : (c : Dev Cert.FfnIdeal.nD) → Buf (Elt Ideal) ((c.tc : Thread Cert.FfnIdeal.nD Cert.FfnIdeal.τ).loc Cert.FfnIdeal.main_v30_5)) (v6 : (c : Dev Cert.FfnIdeal.nD) → Buf (Elt Ideal) ((c.tc : Thread Cert.FfnIdeal.nD Cert.FfnIdeal.τ).loc Cert.FfnIdeal.main_v30_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v30_0) = v0 c
          ∧ r.2.mem ((c.tc : Thread Cert.FfnIdeal.nD Cert.FfnIdeal.τ).loc Cert.FfnIdeal.main_v30_1) = v1 c
          ∧ r.2.mem ((c.tc : Thread Cert.FfnIdeal.nD Cert.FfnIdeal.τ).loc Cert.FfnIdeal.main_v30_2) = v2 c
          ∧ r.2.mem ((c.tc : Thread Cert.FfnIdeal.nD Cert.FfnIdeal.τ).loc Cert.FfnIdeal.main_v30_3) = v3 c
          ∧ r.2.mem ((c.tc : Thread Cert.FfnIdeal.nD Cert.FfnIdeal.τ).loc Cert.FfnIdeal.main_v30_4) = v4 c
          ∧ r.2.mem ((c.tc : Thread Cert.FfnIdeal.nD Cert.FfnIdeal.τ).loc Cert.FfnIdeal.main_v30_5) = v5 c
          ∧ r.2.mem ((c.tc : Thread Cert.FfnIdeal.nD Cert.FfnIdeal.τ).loc Cert.FfnIdeal.main_v30_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_v64) = v1 c
          ∧ r.2.mem ((c.tc : Thread Cert.FfnRefIdeal.nD Cert.FfnRefIdeal.τ).loc Cert.FfnRefIdeal.main_v69) = v2 c
          ∧ r.2.mem ((c.tc : Thread Cert.FfnRefIdeal.nD Cert.FfnRefIdeal.τ).loc Cert.FfnRefIdeal.main_v71) = v3 c
          ∧ r.2.mem ((c.tc : Thread Cert.FfnRefIdeal.nD Cert.FfnRefIdeal.τ).loc Cert.FfnRefIdeal.main_v72) = v4 c
          ∧ r.2.mem ((c.tc : Thread Cert.FfnRefIdeal.nD Cert.FfnRefIdeal.τ).loc Cert.FfnRefIdeal.main_v67) = v5 c
          ∧ r.2.mem ((c.tc : Thread Cert.FfnRefIdeal.nD Cert.FfnRefIdeal.τ).loc Cert.FfnRefIdeal.main_v73) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v156_0)) (v1 : (c : Dev Cert.AttnIdeal.nD) → Buf (Elt Ideal) ((c.tc : Thread Cert.AttnIdeal.nD Cert.AttnIdeal.τ).loc Cert.AttnIdeal.main_v156_1)) (v2 : (c : Dev Cert.AttnIdeal.nD) → Buf (Elt Ideal) ((c.tc : Thread Cert.AttnIdeal.nD Cert.AttnIdeal.τ).loc Cert.AttnIdeal.main_v156_2)) (v3 : (c : Dev Cert.AttnIdeal.nD) → Buf (Elt Ideal) ((c.tc : Thread Cert.AttnIdeal.nD Cert.AttnIdeal.τ).loc Cert.AttnIdeal.main_v156_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v156_0) = v0 c
          ∧ r.2.mem ((c.tc : Thread Cert.AttnIdeal.nD Cert.AttnIdeal.τ).loc Cert.AttnIdeal.main_v156_1) = v1 c
          ∧ r.2.mem ((c.tc : Thread Cert.AttnIdeal.nD Cert.AttnIdeal.τ).loc Cert.AttnIdeal.main_v156_2) = v2 c
          ∧ r.2.mem ((c.tc : Thread Cert.AttnIdeal.nD Cert.AttnIdeal.τ).loc Cert.AttnIdeal.main_v156_4) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v155) = v0 c
          ∧ r.2.mem ((c.tc : Thread Cert.AttnRefIdeal.nD Cert.AttnRefIdeal.τ).loc Cert.AttnRefIdeal.main_v156) = v1 c
          ∧ r.2.mem ((c.tc : Thread Cert.AttnRefIdeal.nD Cert.AttnRefIdeal.τ).loc Cert.AttnRefIdeal.main_v157) = v2 c
          ∧ r.2.mem ((c.tc : Thread Cert.AttnRefIdeal.nD Cert.AttnRefIdeal.τ).loc Cert.AttnRefIdeal.main_v159) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Gates_GatesIdeal : Prop :=
  True

def algebraic_GatesIdeal_GatesRefIdeal_pre_gates_finite [hGatesIdeal : Cert.GatesIdeal.Facts] [hGatesRefIdeal : Cert.GatesRefIdeal.Facts] [hPre_gates_finite : Cert.Pre_gates_finite.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_gates_finite m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)) →
    ∃ (v0 : (c : Dev Cert.GatesIdeal.nD) → Buf (Elt Ideal) ((c.tc : Thread Cert.GatesIdeal.nD Cert.GatesIdeal.τ).loc Cert.GatesIdeal.main_v22_0)) (v1 : (c : Dev Cert.GatesIdeal.nD) → Buf (Elt Ideal) ((c.tc : Thread Cert.GatesIdeal.nD Cert.GatesIdeal.τ).loc Cert.GatesIdeal.main_v22_1)) (v2 : (c : Dev Cert.GatesIdeal.nD) → Buf (Elt Ideal) ((c.tc : Thread Cert.GatesIdeal.nD Cert.GatesIdeal.τ).loc Cert.GatesIdeal.main_v22_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v22_0) = v0 c
          ∧ r.2.mem ((c.tc : Thread Cert.GatesIdeal.nD Cert.GatesIdeal.τ).loc Cert.GatesIdeal.main_v22_1) = v1 c
          ∧ r.2.mem ((c.tc : Thread Cert.GatesIdeal.nD Cert.GatesIdeal.τ).loc Cert.GatesIdeal.main_v22_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v37) = v0 c
          ∧ r.2.mem ((c.tc : Thread Cert.GatesRefIdeal.nD Cert.GatesRefIdeal.τ).loc Cert.GatesRefIdeal.main_v39) = v1 c
          ∧ r.2.mem ((c.tc : Thread Cert.GatesRefIdeal.nD Cert.GatesRefIdeal.τ).loc Cert.GatesRefIdeal.main_v40) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v10_0)) (v1 : (c : Dev Cert.InpIdeal.nD) → Buf (Elt Ideal) ((c.tc : Thread Cert.InpIdeal.nD Cert.InpIdeal.τ).loc Cert.InpIdeal.main_v10_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v10_0) = v0 c
          ∧ r.2.mem ((c.tc : Thread Cert.InpIdeal.nD Cert.InpIdeal.τ).loc Cert.InpIdeal.main_v10_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v44) = v0 c
          ∧ r.2.mem ((c.tc : Thread Cert.InpRefIdeal.nD Cert.InpRefIdeal.τ).loc Cert.InpRefIdeal.main_v45) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v10_0)) (v1 : (c : Dev Cert.HeadIdeal.nD) → Buf (Elt Ideal) ((c.tc : Thread Cert.HeadIdeal.nD Cert.HeadIdeal.τ).loc Cert.HeadIdeal.main_v10_1)) (v2 : (c : Dev Cert.HeadIdeal.nD) → Buf (Elt Ideal) ((c.tc : Thread Cert.HeadIdeal.nD Cert.HeadIdeal.τ).loc Cert.HeadIdeal.main_v10_2)) (v3 : (c : Dev Cert.HeadIdeal.nD) → Buf (Elt Ideal) ((c.tc : Thread Cert.HeadIdeal.nD Cert.HeadIdeal.τ).loc Cert.HeadIdeal.main_v10_3)) (v4 : (c : Dev Cert.HeadIdeal.nD) → Buf (Elt Ideal) ((c.tc : Thread Cert.HeadIdeal.nD Cert.HeadIdeal.τ).loc Cert.HeadIdeal.main_v10_4)) (v5 : (c : Dev Cert.HeadIdeal.nD) → Buf (Elt Ideal) ((c.tc : Thread Cert.HeadIdeal.nD Cert.HeadIdeal.τ).loc Cert.HeadIdeal.main_v10_5)) (v6 : (c : Dev Cert.HeadIdeal.nD) → Buf (Elt Ideal) ((c.tc : Thread Cert.HeadIdeal.nD Cert.HeadIdeal.τ).loc Cert.HeadIdeal.main_v10_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v10_0) = v0 c
          ∧ r.2.mem ((c.tc : Thread Cert.HeadIdeal.nD Cert.HeadIdeal.τ).loc Cert.HeadIdeal.main_v10_1) = v1 c
          ∧ r.2.mem ((c.tc : Thread Cert.HeadIdeal.nD Cert.HeadIdeal.τ).loc Cert.HeadIdeal.main_v10_2) = v2 c
          ∧ r.2.mem ((c.tc : Thread Cert.HeadIdeal.nD Cert.HeadIdeal.τ).loc Cert.HeadIdeal.main_v10_3) = v3 c
          ∧ r.2.mem ((c.tc : Thread Cert.HeadIdeal.nD Cert.HeadIdeal.τ).loc Cert.HeadIdeal.main_v10_4) = v4 c
          ∧ r.2.mem ((c.tc : Thread Cert.HeadIdeal.nD Cert.HeadIdeal.τ).loc Cert.HeadIdeal.main_v10_5) = v5 c
          ∧ r.2.mem ((c.tc : Thread Cert.HeadIdeal.nD Cert.HeadIdeal.τ).loc Cert.HeadIdeal.main_v10_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v76) = v0 c
          ∧ r.2.mem ((c.tc : Thread Cert.HeadRefIdeal.nD Cert.HeadRefIdeal.τ).loc Cert.HeadRefIdeal.main_v77) = v1 c
          ∧ r.2.mem ((c.tc : Thread Cert.HeadRefIdeal.nD Cert.HeadRefIdeal.τ).loc Cert.HeadRefIdeal.main_v78) = v2 c
          ∧ r.2.mem ((c.tc : Thread Cert.HeadRefIdeal.nD Cert.HeadRefIdeal.τ).loc Cert.HeadRefIdeal.main_v79) = v3 c
          ∧ r.2.mem ((c.tc : Thread Cert.HeadRefIdeal.nD Cert.HeadRefIdeal.τ).loc Cert.HeadRefIdeal.main_v81) = v4 c
          ∧ r.2.mem ((c.tc : Thread Cert.HeadRefIdeal.nD Cert.HeadRefIdeal.τ).loc Cert.HeadRefIdeal.main_v82) = v5 c
          ∧ r.2.mem ((c.tc : Thread Cert.HeadRefIdeal.nD Cert.HeadRefIdeal.τ).loc Cert.HeadRefIdeal.main_v83) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_Gate1_Gate1Ideal : Prop :=
  True

def algebraic_Gate1Ideal_Gate1RefIdeal [hGate1Ideal : Cert.Gate1Ideal.Facts] [hGate1RefIdeal : Cert.Gate1RefIdeal.Facts] : Prop :=
  ∀ (m : (ℓ : Loc Cert.Gate1Ideal.nD Cert.Gate1Ideal.τ Cert.Gate1Ideal.sig) → Buf (Elt Ideal) ℓ) (g : Dev Cert.Gate1Ideal.nD → PrngReg)
    (m' : (ℓ : Loc Cert.Gate1RefIdeal.nD Cert.Gate1RefIdeal.τ Cert.Gate1RefIdeal.sig) → Buf (Elt Ideal) ℓ) (g' : Dev Cert.Gate1RefIdeal.nD → PrngReg), Pre_Gate1Ideal m →
    (∀ c : Dev Cert.Gate1Ideal.nD,
      m' ((c.tc : Thread Cert.Gate1RefIdeal.nD Cert.Gate1RefIdeal.τ).loc Cert.Gate1RefIdeal.main_arg0) = m ((c.tc : Thread Cert.Gate1Ideal.nD Cert.Gate1Ideal.τ).loc Cert.Gate1Ideal.main_arg0)
      ∧ m' ((c.tc : Thread Cert.Gate1RefIdeal.nD Cert.Gate1RefIdeal.τ).loc Cert.Gate1RefIdeal.main_arg1) = m ((c.tc : Thread Cert.Gate1Ideal.nD Cert.Gate1Ideal.τ).loc Cert.Gate1Ideal.main_arg1)
      ∧ m' ((c.tc : Thread Cert.Gate1RefIdeal.nD Cert.Gate1RefIdeal.τ).loc Cert.Gate1RefIdeal.main_arg2) = m ((c.tc : Thread Cert.Gate1Ideal.nD Cert.Gate1Ideal.τ).loc Cert.Gate1Ideal.main_arg2)) →
    ∃ (v0 : (c : Dev Cert.Gate1Ideal.nD) → Buf (Elt Ideal) ((c.tc : Thread Cert.Gate1Ideal.nD Cert.Gate1Ideal.τ).loc Cert.Gate1Ideal.main_v3_0)) (v1 : (c : Dev Cert.Gate1Ideal.nD) → Buf (Elt Ideal) ((c.tc : Thread Cert.Gate1Ideal.nD Cert.Gate1Ideal.τ).loc Cert.Gate1Ideal.main_v3_1)),
      θ_run (Cert.Gate1Ideal.defs (F := Ideal)) (onTc (τ := Cert.Gate1Ideal.τ) (Cert.Gate1Ideal.main (F := Ideal))) ⟨m, fun _ => 0, g⟩ (fun r => ∀ c : Dev Cert.Gate1Ideal.nD,
          r.2.mem ((c.tc : Thread Cert.Gate1Ideal.nD Cert.Gate1Ideal.τ).loc Cert.Gate1Ideal.main_v3_0) = v0 c
          ∧ r.2.mem ((c.tc : Thread Cert.Gate1Ideal.nD Cert.Gate1Ideal.τ).loc Cert.Gate1Ideal.main_v3_1) = v1 c
          ∧ r.2.mem ((c.tc : Thread Cert.Gate1Ideal.nD Cert.Gate1Ideal.τ).loc Cert.Gate1Ideal.main_arg0) = m ((c.tc : Thread Cert.Gate1Ideal.nD Cert.Gate1Ideal.τ).loc Cert.Gate1Ideal.main_arg0)
          ∧ r.2.mem ((c.tc : Thread Cert.Gate1Ideal.nD Cert.Gate1Ideal.τ).loc Cert.Gate1Ideal.main_arg1) = m ((c.tc : Thread Cert.Gate1Ideal.nD Cert.Gate1Ideal.τ).loc Cert.Gate1Ideal.main_arg1)
          ∧ r.2.mem ((c.tc : Thread Cert.Gate1Ideal.nD Cert.Gate1Ideal.τ).loc Cert.Gate1Ideal.main_arg2) = m ((c.tc : Thread Cert.Gate1Ideal.nD Cert.Gate1Ideal.τ).loc Cert.Gate1Ideal.main_arg2))
      ∧ θ_run (Cert.Gate1RefIdeal.defs (F := Ideal)) (onTc (τ := Cert.Gate1RefIdeal.τ) (Cert.Gate1RefIdeal.main (F := Ideal))) ⟨m', fun _ => 0, g'⟩ (fun r => ∀ c : Dev Cert.Gate1RefIdeal.nD,
          r.2.mem ((c.tc : Thread Cert.Gate1RefIdeal.nD Cert.Gate1RefIdeal.τ).loc Cert.Gate1RefIdeal.main_v14) = v0 c
          ∧ r.2.mem ((c.tc : Thread Cert.Gate1RefIdeal.nD Cert.Gate1RefIdeal.τ).loc Cert.Gate1RefIdeal.main_v17) = v1 c
          ∧ r.2.mem ((c.tc : Thread Cert.Gate1RefIdeal.nD Cert.Gate1RefIdeal.τ).loc Cert.Gate1RefIdeal.main_arg0) = m' ((c.tc : Thread Cert.Gate1RefIdeal.nD Cert.Gate1RefIdeal.τ).loc Cert.Gate1RefIdeal.main_arg0)
          ∧ r.2.mem ((c.tc : Thread Cert.Gate1RefIdeal.nD Cert.Gate1RefIdeal.τ).loc Cert.Gate1RefIdeal.main_arg1) = m' ((c.tc : Thread Cert.Gate1RefIdeal.nD Cert.Gate1RefIdeal.τ).loc Cert.Gate1RefIdeal.main_arg1)
          ∧ r.2.mem ((c.tc : Thread Cert.Gate1RefIdeal.nD Cert.Gate1RefIdeal.τ).loc Cert.Gate1RefIdeal.main_arg2) = m' ((c.tc : Thread Cert.Gate1RefIdeal.nD Cert.Gate1RefIdeal.τ).loc Cert.Gate1RefIdeal.main_arg2))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)
      ∧ m' ((c.tc : Thread Cert.Up1RefIdeal.nD Cert.Up1RefIdeal.τ).loc Cert.Up1RefIdeal.main_arg2) = m ((c.tc : Thread Cert.Up1Ideal.nD Cert.Up1Ideal.τ).loc Cert.Up1Ideal.main_arg2)
      ∧ m' ((c.tc : Thread Cert.Up1RefIdeal.nD Cert.Up1RefIdeal.τ).loc Cert.Up1RefIdeal.main_arg3) = m ((c.tc : Thread Cert.Up1Ideal.nD Cert.Up1Ideal.τ).loc Cert.Up1Ideal.main_arg3)) →
    ∃ (v0 : (c : Dev Cert.Up1Ideal.nD) → Buf (Elt Ideal) ((c.tc : Thread Cert.Up1Ideal.nD Cert.Up1Ideal.τ).loc Cert.Up1Ideal.main_v21_0)) (v1 : (c : Dev Cert.Up1Ideal.nD) → Buf (Elt Ideal) ((c.tc : Thread Cert.Up1Ideal.nD Cert.Up1Ideal.τ).loc Cert.Up1Ideal.main_v21_1)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v21_0) = v0 c
          ∧ r.2.mem ((c.tc : Thread Cert.Up1Ideal.nD Cert.Up1Ideal.τ).loc Cert.Up1Ideal.main_v21_1) = v1 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1)
          ∧ r.2.mem ((c.tc : Thread Cert.Up1Ideal.nD Cert.Up1Ideal.τ).loc Cert.Up1Ideal.main_arg2) = m ((c.tc : Thread Cert.Up1Ideal.nD Cert.Up1Ideal.τ).loc Cert.Up1Ideal.main_arg2)
          ∧ r.2.mem ((c.tc : Thread Cert.Up1Ideal.nD Cert.Up1Ideal.τ).loc Cert.Up1Ideal.main_arg3) = m ((c.tc : Thread Cert.Up1Ideal.nD Cert.Up1Ideal.τ).loc Cert.Up1Ideal.main_arg3))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v20) = v0 c
          ∧ r.2.mem ((c.tc : Thread Cert.Up1RefIdeal.nD Cert.Up1RefIdeal.τ).loc Cert.Up1RefIdeal.main_v22) = v1 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1)
          ∧ r.2.mem ((c.tc : Thread Cert.Up1RefIdeal.nD Cert.Up1RefIdeal.τ).loc Cert.Up1RefIdeal.main_arg2) = m' ((c.tc : Thread Cert.Up1RefIdeal.nD Cert.Up1RefIdeal.τ).loc Cert.Up1RefIdeal.main_arg2)
          ∧ r.2.mem ((c.tc : Thread Cert.Up1RefIdeal.nD Cert.Up1RefIdeal.τ).loc Cert.Up1RefIdeal.main_arg3) = m' ((c.tc : Thread Cert.Up1RefIdeal.nD Cert.Up1RefIdeal.τ).loc Cert.Up1RefIdeal.main_arg3))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hGates : Cert.Gates.Facts) (hGatesIdeal : Cert.GatesIdeal.Facts) (hGatesRefIdeal : Cert.GatesRefIdeal.Facts) (hInp : Cert.Inp.Facts) (hInpIdeal : Cert.InpIdeal.Facts) (hInpRefIdeal : Cert.InpRefIdeal.Facts) (hHead : Cert.Head.Facts) (hHeadIdeal : Cert.HeadIdeal.Facts) (hHeadRefIdeal : Cert.HeadRefIdeal.Facts) (hGate1 : Cert.Gate1.Facts) (hGate1Ideal : Cert.Gate1Ideal.Facts) (hGate1RefIdeal : Cert.Gate1RefIdeal.Facts) (hUp1 : Cert.Up1.Facts) (hUp1Ideal : Cert.Up1Ideal.Facts) (hUp1RefIdeal : Cert.Up1RefIdeal.Facts) (hPre_finite : Cert.Pre_finite.Facts) (hPre_attn_finite : Cert.Pre_attn_finite.Facts) (hPre_gates_finite : Cert.Pre_gates_finite.Facts),
    quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gates (hGates := hGates)
    ∧ quiescent_GatesIdeal (hGatesIdeal := hGatesIdeal)
    ∧ quiescent_GatesIdeal_pre_gates_finite (hGatesIdeal := hGatesIdeal) (hPre_gates_finite := hPre_gates_finite)
    ∧ quiescent_GatesRefIdeal (hGatesRefIdeal := hGatesRefIdeal)
    ∧ quiescent_GatesRefIdeal_pre_gates_finite (hGatesRefIdeal := hGatesRefIdeal) (hPre_gates_finite := hPre_gates_finite)
    ∧ quiescent_Inp (hInp := hInp)
    ∧ quiescent_InpIdeal (hInpIdeal := hInpIdeal)
    ∧ quiescent_InpRefIdeal (hInpRefIdeal := hInpRefIdeal)
    ∧ quiescent_Head (hHead := hHead)
    ∧ quiescent_HeadIdeal (hHeadIdeal := hHeadIdeal)
    ∧ quiescent_HeadRefIdeal (hHeadRefIdeal := hHeadRefIdeal)
    ∧ quiescent_Gate1 (hGate1 := hGate1)
    ∧ quiescent_Gate1Ideal (hGate1Ideal := hGate1Ideal)
    ∧ quiescent_Gate1RefIdeal (hGate1RefIdeal := hGate1RefIdeal)
    ∧ quiescent_Up1 (hUp1 := hUp1)
    ∧ quiescent_Up1Ideal (hUp1Ideal := hUp1Ideal)
    ∧ quiescent_Up1RefIdeal (hUp1RefIdeal := hUp1RefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gates_GatesIdeal
    ∧ algebraic_GatesIdeal_GatesRefIdeal_pre_gates_finite (hGatesIdeal := hGatesIdeal) (hGatesRefIdeal := hGatesRefIdeal) (hPre_gates_finite := hPre_gates_finite)
    ∧ preserves_Inp_InpIdeal
    ∧ algebraic_InpIdeal_InpRefIdeal (hInpIdeal := hInpIdeal) (hInpRefIdeal := hInpRefIdeal)
    ∧ preserves_Head_HeadIdeal
    ∧ algebraic_HeadIdeal_HeadRefIdeal (hHeadIdeal := hHeadIdeal) (hHeadRefIdeal := hHeadRefIdeal)
    ∧ preserves_Gate1_Gate1Ideal
    ∧ algebraic_Gate1Ideal_Gate1RefIdeal (hGate1Ideal := hGate1Ideal) (hGate1RefIdeal := hGate1RefIdeal)
    ∧ preserves_Up1_Up1Ideal
    ∧ algebraic_Up1Ideal_Up1RefIdeal (hUp1Ideal := hUp1Ideal) (hUp1RefIdeal := hUp1RefIdeal)
-- ==== Pre_attn_finite.lean ====
abbrev S4096x512 : Shape := ⟨2, ![4096, 512]⟩
abbrev S4096x128 : Shape := ⟨2, ![4096, 128]⟩
abbrev S4096x1024 : Shape := ⟨2, ![4096, 1024]⟩
abbrev S1x8 : Shape := ⟨2, ![1, 8]⟩
abbrev S1x4x128x128 : Shape := ⟨4, ![1, 4, 128, 128]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg5 : FVec F S1x8 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x8 .f32 := Host.absf main_arg5
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  main_v23

def fn {F : FTy → Type} [FloatOps F] (main_arg0 : FVec F S4096x512 .f32) (main_arg1 : FVec F S4096x128 .f32) (main_arg2 : FVec F S4096x128 .f32) (main_arg3 : FVec F S4096x512 .f32) (main_arg4 : FVec F S4096x1024 .f32) (main_arg5 : FVec F S1x8 .f32) (main_arg6 : FVec F S1x4x128x128 .f32) (main_arg7 : FVec F S1x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_v13 main_v16
-- ==== Pre_finite.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1x1024 .f32) (main_arg3 : FVec F S1x1024x2816 .f32) (main_arg4 : FVec F S1x1024x2816 .f32) (main_arg5 : FVec F S1x2816x1024 .f32) (main_arg6 : FVec F S1x1024x1024 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg4
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x2816x1024 .f32 := Host.absf main_arg5
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_v13 main_v16
-- ==== Pre_gates_finite.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1x1024 .f32) (main_arg3 : FVec F S1x1024x2816 .f32) (main_arg4 : FVec F S1x1024x2816 .f32) (main_arg5 : FVec F S1x2816x1024 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg4
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x2816x1024 .f32 := Host.absf main_arg5
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_v13 main_v16
-- ==== Ffn.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S1024x1024 : Shape := ⟨2, ![1024, 1024]⟩
abbrev S2816x4096 : Shape := ⟨2, ![2816, 4096]⟩
abbrev S256x1024 : Shape := ⟨2, ![256, 1024]⟩
abbrev S256x2816 : Shape := ⟨2, ![256, 2816]⟩
abbrev S2816x256 : Shape := ⟨2, ![2816, 256]⟩
abbrev S256x256 : Shape := ⟨2, ![256, 256]⟩
abbrev S256 : Shape := ⟨1, ![256]⟩
abbrev S256x1 : Shape := ⟨2, ![256, 1]⟩

abbrev nBuf : Space → Nat
  | .hbm => 47
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S4096x2816, .f32⟩
  | .hbm, ⟨26, _⟩ => ⟨S4096x2816, .bf16⟩
  | .hbm, ⟨27, _⟩ => ⟨S1024x2816, .f32⟩
  | .hbm, ⟨28, _⟩ => ⟨S4096x2816, .f32⟩
  | .hbm, ⟨29, _⟩ => ⟨S4096x2816, .bf16⟩
  | .hbm, ⟨30, _⟩ => ⟨S1024x2816, .f32⟩
  | .hbm, ⟨31, _⟩ => ⟨S2816x1024, .f32⟩
  | .hbm, ⟨32, _⟩ => ⟨S2816x1024, .bf16⟩
  | .hbm, ⟨33, _⟩ => ⟨S1024x2816, .f32⟩
  | .hbm, ⟨34, _⟩ => ⟨S2816x1024, .f32⟩
  | .hbm, ⟨35, _⟩ => ⟨S2816x1024, .bf16⟩
  | .hbm, ⟨36, _⟩ => ⟨S2816x1024, .f32⟩
  | .hbm, ⟨37, _⟩ => ⟨S2816x1024, .bf16⟩
  | .hbm, ⟨38, _⟩ => ⟨S1024x1024, .f32⟩
  | .hbm, ⟨39, _⟩ => ⟨S1024x1024, .bf16⟩
  | .hbm, ⟨40, _⟩ => ⟨S4096x1024, .f32⟩
  | .hbm, ⟨41, _⟩ => ⟨S1x1024, .f32⟩
  | .hbm, ⟨42, _⟩ => ⟨S2816x4096, .bf16⟩
  | .hbm, ⟨43, _⟩ => ⟨S2816x4096, .bf16⟩
  | .hbm, ⟨44, _⟩ => ⟨S4096x1024, .bf16⟩
  | .hbm, ⟨45, _⟩ => ⟨S4096x1024, .f32⟩
  | .hbm, ⟨46, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S2816x256, .bf16⟩
  | .local _ .vmem, ⟨17, _⟩ => ⟨S2816x256, .bf16⟩
  | .local _ .vmem, ⟨18, _⟩ => ⟨S2816x256, .bf16⟩
  | .local _ .vmem, ⟨19, _⟩ => ⟨S2816x256, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev main_v30_5 : Ref sig .tc := ⟨.hbm, 45, rfl⟩
abbrev main_v30_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2816x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2816x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S1024x1024 : Shape := ⟨2, ![1024, 1024]⟩
abbrev S2816x4096 : Shape := ⟨2, ![2816, 4096]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024x1024, .f32⟩
  | .hbm, ⟨7, _⟩ => ⟨S_, .f32⟩
  | .hbm, ⟨8, _⟩ => ⟨S4096x2816, .f32⟩
  | .hbm, ⟨9, _⟩ => ⟨S_, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1024x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S1024x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S2816x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x1024, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S1024x1024, .f32⟩
  | .hbm, ⟨101, _⟩ => ⟨S4096x1024, .f32⟩
  | .hbm, ⟨102, _⟩ => ⟨S4096x1024, .f32⟩
  | .hbm, ⟨103, _⟩ => ⟨S2816x4096, .f32⟩
  | .hbm, ⟨104, _⟩ => ⟨S2816x4096, .bf16⟩
  | .hbm, ⟨105, _⟩ => ⟨S2816x4096, .f32⟩
  | .hbm, ⟨106, _⟩ => ⟨S2816x4096, .bf16⟩
  | .hbm, ⟨107, _⟩ => ⟨S4096x1024, .bf16⟩
  | .hbm, ⟨108, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_cst_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Attn.lean ====
abbrev S4096x512 : Shape := ⟨2, ![4096, 512]⟩
abbrev S4096x128 : Shape := ⟨2, ![4096, 128]⟩
abbrev S4096x1024 : Shape := ⟨2, ![4096, 1024]⟩
abbrev S1x8 : Shape := ⟨2, ![1, 8]⟩
abbrev S1x4x128x128 : Shape := ⟨4, ![1, 4, 128, 128]⟩
abbrev S1x512 : Shape := ⟨2, ![1, 512]⟩
abbrev S3 : Shape := ⟨1, ![3]⟩
abbrev S4 : Shape := ⟨1, ![4]⟩
abbrev S3x1x1x1 : Shape := ⟨4, ![3, 1, 1, 1]⟩
abbrev S_ : Shape := ⟨0, ![]⟩
abbrev S3x4x128x384 : Shape := ⟨4, ![3, 4, 128, 384]⟩
abbrev S1x4x1x1 : Shape := ⟨4, ![1, 4, 1, 1]⟩
abbrev S4x128x128 : Shape := ⟨3, ![4, 128, 128]⟩
abbrev S32x3x128x128 : Shape := ⟨4, ![32, 3, 128, 128]⟩
abbrev S8x128 : Shape := ⟨2, ![8, 128]⟩
abbrev S512x512 : Shape := ⟨2, ![512, 512]⟩
abbrev S128x128 : Shape := ⟨2, ![128, 128]⟩
abbrev S512x128 : Shape := ⟨2, ![512, 128]⟩
abbrev S128x512 : Shape := ⟨2, ![128, 512]⟩
abbrev S4x3x128x128 : Shape := ⟨4, ![4, 3, 128, 128]⟩
abbrev S768x128 : Shape := ⟨2, ![768, 128]⟩
abbrev S768x512 : Shape := ⟨2, ![768, 512]⟩
abbrev S384x128 : Shape := ⟨2, ![384, 128]⟩
abbrev S384x256 : Shape := ⟨2, ![384, 256]⟩
abbrev S256x128 : Shape := ⟨2, ![256, 128]⟩
abbrev S768x256 : Shape := ⟨2, ![768, 256]⟩
abbrev S1x256 : Shape := ⟨2, ![1, 256]⟩
abbrev S1x1 : Shape := ⟨2, ![1, 1]⟩
abbrev S256 : Shape := ⟨1, ![256]⟩
abbrev S1x128 : Shape := ⟨2, ![1, 128]⟩
abbrev S1 : Shape := ⟨1, ![1]⟩
abbrev S1x1x128x128 : Shape := ⟨4, ![1, 1, 128, 128]⟩
abbrev S384x512 : Shape := ⟨2, ![384, 512]⟩
abbrev S1x128x128 : Shape := ⟨3, ![1, 128, 128]⟩
abbrev S1x1x128x384 : Shape := ⟨4, ![1, 1, 128, 384]⟩
abbrev S128x384 : Shape := ⟨2, ![128, 384]⟩
abbrev S128 : Shape := ⟨1, ![128]⟩

abbrev nBuf : Space → Nat
  | .hbm => 246
  | .vmem => 43
  | .smem => 1
  | _ => 0

abbrev hbmTy0_0 (i : Nat) : BufTy := match i % 128 with
  | 0 => ⟨S4096x512, .f32⟩
  | 1 => ⟨S4096x128, .f32⟩
  | 2 => ⟨S4096x128, .f32⟩
  | 3 => ⟨S4096x512, .f32⟩
  | 4 => ⟨S4096x1024, .f32⟩
  | 5 => ⟨S1x8, .f32⟩
  | 6 => ⟨S1x4x128x128, .f32⟩
  | 7 => ⟨S1x512, .f32⟩
  | 8 => ⟨S3, .f32⟩
  | 9 => ⟨S4, .f32⟩
  | 10 => ⟨S3x1x1x1, .f32⟩
  | 11 => ⟨S_, .f32⟩
  | 12 => ⟨S3x4x128x384, .f32⟩
  | 13 => ⟨S3x4x128x384, .f32⟩
  | 14 => ⟨S3x4x128x384, .f32⟩
  | 15 => ⟨S1x4x1x1, .f32⟩
  | 16 => ⟨S_, .f32⟩
  | 17 => ⟨S3x4x128x384, .f32⟩
  | 18 => ⟨S3x4x128x384, .f32⟩
  | 19 => ⟨S3x4x128x384, .f32⟩
  | 20 => ⟨S_, .f32⟩
  | 21 => ⟨S3x4x128x384, .f32⟩
  | 22 => ⟨S3x4x128x384, .f32⟩
  | 23 => ⟨S3x4x128x384, .i32⟩
  | 24 => ⟨S3x4x128x384, .f32⟩
  | 25 => ⟨S3x4x128x384, .f32⟩
  | 26 => ⟨S_, .f32⟩
  | 27 => ⟨S3x4x128x384, .f32⟩
  | 28 => ⟨S3x4x128x384, .f32⟩
  | 29 => ⟨S_, .f32⟩
  | 30 => ⟨S3x4x128x384, .f32⟩
  | 31 => ⟨S3x4x128x384, .f32⟩
  | 32 => ⟨S3x4x128x384, .i32⟩
  | 33 => ⟨S3x4x128x384, .f32⟩
  | 34 => ⟨S3x4x128x384, .f32⟩
  | 35 => ⟨S3x4x128x384, .f32⟩
  | 36 => ⟨S3x4x128x384, .f32⟩
  | 37 => ⟨S_, .f32⟩
  | 38 => ⟨S3x4x128x384, .f32⟩
  | 39 => ⟨S3x4x128x384, .f32⟩
  | 40 => ⟨S_, .f32⟩
  | 41 => ⟨S3x4x128x384, .f32⟩
  | 42 => ⟨S3x4x128x384, .f32⟩
  | 43 => ⟨S_, .f32⟩
  | 44 => ⟨S3x4x128x384, .f32⟩
  | 45 => ⟨S3x4x128x384, .f32⟩
  | 46 => ⟨S_, .f32⟩
  | 47 => ⟨S3x4x128x384, .f32⟩
  | 48 => ⟨S3x4x128x384, .f32⟩
  | 49 => ⟨S_, .f32⟩
  | 50 => ⟨S3x4x128x384, .f32⟩
  | 51 => ⟨S3x4x128x384, .f32⟩
  | 52 => ⟨S_, .f32⟩
  | 53 => ⟨S3x4x128x384, .f32⟩
  | 54 => ⟨S3x4x128x384, .f32⟩
  | 55 => ⟨S3x4x128x384, .i1⟩
  | 56 => ⟨S3x4x128x384, .i1⟩
  | 57 => ⟨S3x4x128x384, .i1⟩
  | 58 => ⟨S_, .f32⟩
  | 59 => ⟨S_, .f32⟩
  | 60 => ⟨S3x4x128x384, .f32⟩
  | 61 => ⟨S3x4x128x384, .f32⟩
  | 62 => ⟨S3x4x128x384, .f32⟩
  | 63 => ⟨S3x4x128x384, .f32⟩
  | 64 => ⟨S_, .f32⟩
  | 65 => ⟨S3x4x128x384, .f32⟩
  | 66 => ⟨S3x4x128x384, .f32⟩
  | 67 => ⟨S3x4x128x384, .f32⟩
  | 68 => ⟨S3x4x128x384, .f32⟩
  | 69 => ⟨S3x4x128x384, .f32⟩
  | 70 => ⟨S_, .f32⟩
  | 71 => ⟨S3x4x128x384, .f32⟩
  | 72 => ⟨S3x4x128x384, .f32⟩
  | 73 => ⟨S3x4x128x384, .f32⟩
  | 74 => ⟨S_, .f32⟩
  | 75 => ⟨S3x4x128x384, .f32⟩
  | 76 => ⟨S3x4x128x384, .f32⟩
  | 77 => ⟨S_, .f32⟩
  | 78 => ⟨S3x4x128x384, .f32⟩
  | 79 => ⟨S3x4x128x384, .f32⟩
  | 80 => ⟨S_, .f32⟩
  | 81 => ⟨S3x4x128x384, .f32⟩
  | 82 => ⟨S3x4x128x384, .f32⟩
  | 83 => ⟨S_, .f32⟩
  | 84 => ⟨S3x4x128x384, .f32⟩
  | 85 => ⟨S3x4x128x384, .f32⟩
  | 86 => ⟨S_, .f32⟩
  | 87 => ⟨S3x4x128x384, .f32⟩
  | 88 => ⟨S3x4x128x384, .f32⟩
  | 89 => ⟨S3x4x128x384, .i1⟩
  | 90 => ⟨S3x4x128x384, .i1⟩
  | 91 => ⟨S3x4x128x384, .i1⟩
  | 92 => ⟨S_, .f32⟩
  | 93 => ⟨S_, .f32⟩
  | 94 => ⟨S3x4x128x384, .f32⟩
  | 95 => ⟨S3x4x128x384, .f32⟩
  | 96 => ⟨S3x4x128x384, .f32⟩
  | 97 => ⟨S3x4x128x384, .f32⟩
  | 98 => ⟨S_, .f32⟩
  | 99 => ⟨S3x4x128x384, .f32⟩
  | 100 => ⟨S3x4x128x384, .f32⟩
  | 101 => ⟨S3x4x128x384, .f32⟩
  | 102 => ⟨S3x4x128x384, .f32⟩
  | 103 => ⟨S3x4x128x384, .f32⟩
  | 104 => ⟨S_, .f32⟩
  | 105 => ⟨S3x4x128x384, .f32⟩
  | 106 => ⟨S3x4x128x384, .f32⟩
  | 107 => ⟨S3x4x128x384, .i1⟩
  | 108 => ⟨S_, .f32⟩
  | 109 => ⟨S_, .f32⟩
  | 110 => ⟨S3x4x128x384, .f32⟩
  | 111 => ⟨S3x4x128x384, .f32⟩
  | 112 => ⟨S3x4x128x384, .f32⟩
  | 113 => ⟨S3x4x128x384, .f32⟩
  | 114 => ⟨S3x4x128x384, .f32⟩
  | 115 => ⟨S_, .f32⟩
  | 116 => ⟨S3x4x128x384, .f32⟩
  | 117 => ⟨S3x4x128x384, .i1⟩
  | 118 => ⟨S_, .f32⟩
  | 119 => ⟨S3x4x128x384, .f32⟩
  | 120 => ⟨S3x4x128x384, .i1⟩
  | 121 => ⟨S3x4x128x384, .i1⟩
  | 122 => ⟨S_, .f32⟩
  | 123 => ⟨S3x4x128x384, .f32⟩
  | 124 => ⟨S3x4x128x384, .i1⟩
  | 125 => ⟨S3x4x128x384, .i1⟩
  | 126 => ⟨S_, .f32⟩
  | 127 => ⟨S3x4x128x384, .f32⟩
  | _ => ⟨S4096x512, .f32⟩

abbrev hbmTy0_1 (i : Nat) : BufTy := match i % 128 with
  | 0 => ⟨S3x4x128x384, .i1⟩
  | 1 => ⟨S3x4x128x384, .i1⟩
  | 2 => ⟨S_, .f32⟩
  | 3 => ⟨S_, .f32⟩
  | 4 => ⟨S3x4x128x384, .f32⟩
  | 5 => ⟨S3x4x128x384, .f32⟩
  | 6 => ⟨S3x4x128x384, .bf16⟩
  | 7 => ⟨S3x4x128x384, .f32⟩
  | 8 => ⟨S3x4x128x384, .f32⟩
  | 9 => ⟨S_, .f32⟩
  | 10 => ⟨S3x4x128x384, .f32⟩
  | 11 => ⟨S3x4x128x384, .f32⟩
  | 12 => ⟨S_, .f32⟩
  | 13 => ⟨S3x4x128x384, .f32⟩
  | 14 => ⟨S3x4x128x384, .f32⟩
  | 15 => ⟨S_, .f32⟩
  | 16 => ⟨S3x4x128x384, .f32⟩
  | 17 => ⟨S3x4x128x384, .f32⟩
  | 18 => ⟨S_, .f32⟩
  | 19 => ⟨S3x4x128x384, .f32⟩
  | 20 => ⟨S3x4x128x384, .f32⟩
  | 21 => ⟨S_, .f32⟩
  | 22 => ⟨S3x4x128x384, .f32⟩
  | 23 => ⟨S3x4x128x384, .f32⟩
  | 24 => ⟨S_, .f32⟩
  | 25 => ⟨S3x4x128x384, .f32⟩
  | 26 => ⟨S3x4x128x384, .f32⟩
  | 27 => ⟨S3x4x128x384, .i1⟩
  | 28 => ⟨S3x4x128x384, .i1⟩
  | 29 => ⟨S3x4x128x384, .i1⟩
  | 30 => ⟨S_, .f32⟩
  | 31 => ⟨S_, .f32⟩
  | 32 => ⟨S3x4x128x384, .f32⟩
  | 33 => ⟨S3x4x128x384, .f32⟩
  | 34 => ⟨S3x4x128x384, .f32⟩
  | 35 => ⟨S3x4x128x384, .f32⟩
  | 36 => ⟨S_, .f32⟩
  | 37 => ⟨S3x4x128x384, .f32⟩
  | 38 => ⟨S3x4x128x384, .f32⟩
  | 39 => ⟨S3x4x128x384, .f32⟩
  | 40 => ⟨S3x4x128x384, .f32⟩
  | 41 => ⟨S3x4x128x384, .f32⟩
  | 42 => ⟨S_, .f32⟩
  | 43 => ⟨S3x4x128x384, .f32⟩
  | 44 => ⟨S3x4x128x384, .f32⟩
  | 45 => ⟨S3x4x128x384, .f32⟩
  | 46 => ⟨S_, .f32⟩
  | 47 => ⟨S3x4x128x384, .f32⟩
  | 48 => ⟨S3x4x128x384, .f32⟩
  | 49 => ⟨S_, .f32⟩
  | 50 => ⟨S3x4x128x384, .f32⟩
  | 51 => ⟨S3x4x128x384, .f32⟩
  | 52 => ⟨S_, .f32⟩
  | 53 => ⟨S3x4x128x384, .f32⟩
  | 54 => ⟨S3x4x128x384, .f32⟩
  | 55 => ⟨S_, .f32⟩
  | 56 => ⟨S3x4x128x384, .f32⟩
  | 57 => ⟨S3x4x128x384, .f32⟩
  | 58 => ⟨S_, .f32⟩
  | 59 => ⟨S3x4x128x384, .f32⟩
  | 60 => ⟨S3x4x128x384, .f32⟩
  | 61 => ⟨S3x4x128x384, .i1⟩
  | 62 => ⟨S3x4x128x384, .i1⟩
  | 63 => ⟨S3x4x128x384, .i1⟩
  | 64 => ⟨S_, .f32⟩
  | 65 => ⟨S_, .f32⟩
  | 66 => ⟨S3x4x128x384, .f32⟩
  | 67 => ⟨S3x4x128x384, .f32⟩
  | 68 => ⟨S3x4x128x384, .f32⟩
  | 69 => ⟨S3x4x128x384, .f32⟩
  | 70 => ⟨S_, .f32⟩
  | 71 => ⟨S3x4x128x384, .f32⟩
  | 72 => ⟨S3x4x128x384, .f32⟩
  | 73 => ⟨S3x4x128x384, .f32⟩
  | 74 => ⟨S3x4x128x384, .f32⟩
  | 75 => ⟨S3x4x128x384, .f32⟩
  | 76 => ⟨S_, .f32⟩
  | 77 => ⟨S3x4x128x384, .f32⟩
  | 78 => ⟨S3x4x128x384, .f32⟩
  | 79 => ⟨S3x4x128x384, .i1⟩
  | 80 => ⟨S_, .f32⟩
  | 81 => ⟨S_, .f32⟩
  | 82 => ⟨S3x4x128x384, .f32⟩
  | 83 => ⟨S3x4x128x384, .f32⟩
  | 84 => ⟨S3x4x128x384, .f32⟩
  | 85 => ⟨S3x4x128x384, .f32⟩
  | 86 => ⟨S3x4x128x384, .f32⟩
  | 87 => ⟨S_, .f32⟩
  | 88 => ⟨S3x4x128x384, .f32⟩
  | 89 => ⟨S3x4x128x384, .i1⟩
  | 90 => ⟨S_, .f32⟩
  | 91 => ⟨S3x4x128x384, .f32⟩
  | 92 => ⟨S3x4x128x384, .i1⟩
  | 93 => ⟨S3x4x128x384, .i1⟩
  | 94 => ⟨S_, .f32⟩
  | 95 => ⟨S3x4x128x384, .f32⟩
  | 96 => ⟨S3x4x128x384, .i1⟩
  | 97 => ⟨S3x4x128x384, .i1⟩
  | 98 => ⟨S_, .f32⟩
  | 99 => ⟨S3x4x128x384, .f32⟩
  | 100 => ⟨S3x4x128x384, .i1⟩
  | 101 => ⟨S3x4x128x384, .i1⟩
  | 102 => ⟨S_, .f32⟩
  | 103 => ⟨S_, .f32⟩
  | 104 => ⟨S3x4x128x384, .f32⟩
  | 105 => ⟨S3x4x128x384, .f32⟩
  | 106 => ⟨S3x4x128x384, .bf16⟩
  | 107 => ⟨S4096x512, .bf16⟩
  | 108 => ⟨S4096x128, .bf16⟩
  | 109 => ⟨S4096x128, .bf16⟩
  | 110 => ⟨S4x128x128, .f32⟩
  | 111 => ⟨S4096x512, .f32⟩
  | 112 => ⟨S32x3x128x128, .f32⟩
  | 113 => ⟨S32x3x128x128, .f32⟩
  | 114 => ⟨S4096x512, .f32⟩
  | 115 => ⟨S8x128, .f32⟩
  | 116 => ⟨S4x128x128, .f32⟩
  | 117 => ⟨S1x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S512x128, .bf16⟩
  | .local _ .vmem, ⟨11, _⟩ => ⟨S512x128, .bf16⟩
  | .local _ .vmem, ⟨12, _⟩ => ⟨S128x128, .bf16⟩
  | .local _ .vmem, ⟨13, _⟩ => ⟨S128x128, .bf16⟩
  | .local _ .vmem, ⟨14, _⟩ => ⟨S128x512, .f32⟩
  | .local _ .vmem, ⟨15, _⟩ => ⟨S128x512, .f32⟩
  | .local _ .vmem, ⟨16, _⟩ => ⟨S512x512, .f32⟩
  | .local _ .vmem, ⟨17, _⟩ => ⟨S512x512, .f32⟩
  | .local _ .vmem, ⟨18, _⟩ => ⟨S128x512, .f32⟩
  | .local _ .vmem, ⟨19, _⟩ => ⟨S128x512, .f32⟩
  | .local _ .vmem, ⟨20, _⟩ => ⟨S512x512, .f32⟩
  | .local _ .vmem, ⟨21, _⟩ => ⟨S512x512, .f32⟩
  | .local _ .vmem, ⟨22, _⟩ => ⟨S128x512, .f32⟩
  | .local _ .vmem, ⟨23, _⟩ => ⟨S128x512, .f32⟩
  | .local _ .vmem, ⟨24, _⟩ => ⟨S512x512, .f32⟩
  | .local _ .vmem, ⟨25, _⟩ => ⟨S512x512, .f32⟩
  | .local _ .vmem, ⟨26, _⟩ => ⟨S128x512, .f32⟩
  | .local _ .vmem, ⟨27, _⟩ => ⟨S128x512, .f32⟩
  | .local _ .vmem, ⟨28, _⟩ => ⟨S4x128x128, .f32⟩
  | .local _ .vmem, ⟨29, _⟩ => ⟨S1x512, .f32⟩
  | .local _ .vmem, ⟨30, _⟩ => ⟨S3x4x128x384, .bf16⟩
  | .local _ .vmem, ⟨31, _⟩ => ⟨S3x4x128x384, .bf16⟩
  | .local _ .vmem, ⟨32, _⟩ => ⟨S512x512, .f32⟩
  | .local _ .vmem, ⟨33, _⟩ => ⟨S512x512, .f32⟩
  | .local _ .vmem, ⟨34, _⟩ => ⟨S4x3x128x128, .f32⟩
  | .local _ .vmem, ⟨35, _⟩ => ⟨S4x3x128x128, .f32⟩
  | .local _ .vmem, ⟨36, _⟩ => ⟨S4x3x128x128, .f32⟩
  | .local _ .vmem, ⟨37, _⟩ => ⟨S4x3x128x128, .f32⟩
  | .local _ .vmem, ⟨38, _⟩ => ⟨S512x512, .f32⟩
  | .local _ .vmem, ⟨39, _⟩ => ⟨S512x512, .f32⟩
  | .local _ .vmem, ⟨40, _⟩ => ⟨S8x128, .f32⟩
  | .local _ .vmem, ⟨41, _⟩ => ⟨S4x128x128, .f32⟩
  | .local _ .vmem, ⟨42, _⟩ => ⟨S1x512, .f32⟩
  | .local _ .smem, ⟨0, _⟩ => ⟨S1x8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_cst_13 : Ref sig .tc := ⟨.hbm, 59, rfl⟩
abbrev main_call0_v0 : Ref sig .tc := ⟨.hbm, 60, rfl⟩
abbrev main_call0_v1 : Ref sig .tc := ⟨.hbm, 61, rfl⟩
abbrev main_v37 : Ref sig .tc := ⟨.hbm, 62, rfl⟩
abbrev main_v38 : Ref sig .tc := ⟨.hbm, 63, rfl⟩
abbrev main_cst_14 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_cst_17 : Ref sig .tc := ⟨.hbm, 77, rfl⟩
abbrev main_v49 : Ref sig .tc := ⟨.hbm, 78, rfl⟩
abbrev main_v50 : Ref sig .tc := ⟨.hbm, 79, rfl⟩
abbrev main_cst_18 : Ref sig .tc := ⟨.hbm, 80, rfl⟩
abbrev main_v51 : Ref sig .tc := ⟨.hbm, 81, rfl⟩
abbrev main_v52 : Ref sig .tc := ⟨.hbm, 82, rfl⟩
abbrev main_cst_19 : Ref sig .tc := ⟨.hbm, 83, rfl⟩
abbrev main_v53 : Ref sig .tc := ⟨.hbm, 84, rfl⟩
abbrev main_v54 : Ref sig .tc := ⟨.hbm, 85, rfl⟩
abbrev main_cst_20 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_21 : Ref sig .tc := ⟨.hbm, 92, rfl⟩
abbrev main_cst_22 : Ref sig .tc := ⟨.hbm, 93, rfl⟩
abbrev main_call1_v0 : Ref sig .tc := ⟨.hbm, 94, rfl⟩
abbrev main_call1_v1 : Ref sig .tc := ⟨.hbm, 95, rfl⟩
abbrev main_v60 : Ref sig .tc := ⟨.hbm, 96, rfl⟩
abbrev main_v61 : Ref sig .tc := ⟨.hbm, 97, rfl⟩
abbrev main_cst_23 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_cst_26 : Ref sig .tc := ⟨.hbm, 109, rfl⟩
abbrev main_call2_v0 : Ref sig .tc := ⟨.hbm, 110, rfl⟩
abbrev main_call2_v1 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_27 : Ref sig .tc := ⟨.hbm, 115, rfl⟩
abbrev main_v73 : Ref sig .tc := ⟨.hbm, 116, rfl⟩
abbrev main_v74 : Ref sig .tc := ⟨.hbm, 117, rfl⟩
abbrev main_cst_28 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_29 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_30 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_31 : Ref sig .tc := ⟨.hbm, 130, rfl⟩
abbrev main_call3_v0 : Ref sig .tc := ⟨.hbm, 131, rfl⟩
abbrev main_call3_v1 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_cst_33 : Ref sig .tc := ⟨.hbm, 140, rfl⟩
abbrev main_v90 : Ref sig .tc := ⟨.hbm, 141, rfl⟩
abbrev main_v91 : Ref sig .tc := ⟨.hbm, 142, rfl⟩
abbrev main_cst_34 : Ref sig .tc := ⟨.hbm, 143, rfl⟩
abbrev main_v92 : Ref sig .tc := ⟨.hbm, 144, rfl⟩
abbrev main_v93 : Ref sig .tc := ⟨.hbm, 145, rfl⟩
abbrev main_cst_35 : Ref sig .tc := ⟨.hbm, 146, rfl⟩
abbrev main_v94 : Ref sig .tc := ⟨.hbm, 147, rfl⟩
abbrev main_v95 : Ref sig .tc := ⟨.hbm, 148, rfl⟩
abbrev main_cst_36 : Ref sig .tc := ⟨.hbm, 149, rfl⟩
abbrev main_v96 : Ref sig .tc := ⟨.hbm, 150, rfl⟩
abbrev main_v97 : Ref sig .tc := ⟨.hbm, 151, rfl⟩
abbrev main_cst_37 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_38 : Ref sig .tc := ⟨.hbm, 158, rfl⟩
abbrev main_cst_39 : Ref sig .tc := ⟨.hbm, 159, rfl⟩
abbrev main_call4_v0 : Ref sig .tc := ⟨.hbm, 160, rfl⟩
abbrev main_call4_v1 : Ref sig .tc := ⟨.hbm, 161, rfl⟩
abbrev main_v103 : Ref sig .tc := ⟨.hbm, 162, rfl⟩
abbrev main_v104 : Ref sig .tc := ⟨.hbm, 163, rfl⟩
abbrev main_cst_40 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_41 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_42 : Ref sig .tc := ⟨.hbm, 174, rfl⟩
abbrev main_v113 : Ref sig .tc := ⟨.hbm, 175, rfl⟩
abbrev main_v114 : Ref sig .tc := ⟨.hbm, 176, rfl⟩
abbrev main_cst_43 : Ref sig .tc := ⟨.hbm, 177, rfl⟩
abbrev main_v115 : Ref sig .tc := ⟨.hbm, 178, rfl⟩
abbrev main_v116 : Ref sig .tc := ⟨.hbm, 179, rfl⟩
abbrev main_cst_44 : Ref sig .tc := ⟨.hbm, 180, rfl⟩
abbrev main_v117 : Ref sig .tc := ⟨.hbm, 181, rfl⟩
abbrev main_v118 : Ref sig .tc := ⟨.hbm, 182, rfl⟩
abbrev main_cst_45 : Ref sig .tc := ⟨.hbm, 183, rfl⟩
abbrev main_v119 : Ref sig .tc := ⟨.hbm, 184, rfl⟩
abbrev main_v120 : Ref sig .tc := ⟨.hbm, 185, rfl⟩
abbrev main_cst_46 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_47 : Ref sig .tc := ⟨.hbm, 192, rfl⟩
abbrev main_cst_48 : Ref sig .tc := ⟨.hbm, 193, rfl⟩
abbrev main_call5_v0 : Ref sig .tc := ⟨.hbm, 194, rfl⟩
abbrev main_call5_v1 : Ref sig .tc := ⟨.hbm, 195, rfl⟩
abbrev main_v126 : Ref sig .tc := ⟨.hbm, 196, rfl⟩
abbrev main_v127 : Ref sig .tc := ⟨.hbm, 197, rfl⟩
abbrev main_cst_49 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_cst_50 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_cst_51 : Ref sig .tc := ⟨.hbm, 208, rfl⟩
abbrev main_cst_52 : Ref sig .tc := ⟨.hbm, 209, rfl⟩
abbrev main_call6_v0 : Ref sig .tc := ⟨.hbm, 210, rfl⟩
abbrev main_call6_v1 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_53 : Ref sig .tc := ⟨.hbm, 215, rfl⟩
abbrev main_v139 : Ref sig .tc := ⟨.hbm, 216, rfl⟩
abbrev main_v140 : Ref sig .tc := ⟨.hbm, 217, rfl⟩
abbrev main_cst_54 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_cst_55 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_cst_56 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_57 : Ref sig .tc := ⟨.hbm, 230, rfl⟩
abbrev main_call7_v0 : Ref sig .tc := ⟨.hbm, 231, rfl⟩
abbrev main_call7_v1 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156_0 : Ref sig .tc := ⟨.hbm, 239, rfl⟩
abbrev main_v156_1 : Ref sig .tc := ⟨.hbm, 240, rfl⟩
abbrev main_v156_2 : Ref sig .tc := ⟨.hbm, 241, rfl⟩
abbrev main_v156_3 : Ref sig .tc := ⟨.hbm, 242, rfl⟩
abbrev main_v156_4 : Ref sig .tc := ⟨.hbm, 243, rfl⟩
abbrev main_v156_5 : Ref sig .tc := ⟨.hbm, 244, rfl⟩
abbrev main_v156_6 : Ref sig .tc := ⟨.hbm, 245, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg25_0 : Ref sig .tc := ⟨.vmem, 42, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem24_0 : DmaSem sig := 42
abbrev cc0_sem25_0 : DmaSem sig := 43

abbrev nD : Nat := 1
abbrev τ : Topo := Topo.v7x

variable {F : FTy → Type} [FloatOps F]

abbrev grid0 : Pipeline.Grid := ⟨1, ![8], ![false]⟩

def k0_off1 (i : grid0.Coords) (c0_i32_24 : BitVec 32) : Fin 4 → Nat :=
  let arg0 : BitVec 32 := BitVec.ofNat 32 (i 0).val
  let c4_i32 : BitVec 32 := 4#32
  let v29 : BitVec 32 := Scalar.muli arg0 c4_i32
  let v30 : BitVec 32 := Scalar.addi v29 c0_i32_24
  let c0_i32_180 : BitVec 32 := 0#32
  let v457 : BitVec 1 := Scalar.cmpi .eq v30 c0_i32_180
  let c0_i32_182 : BitVec 32 := 0#32
  let c31_i32 : BitVec 32 := 31#32
  let v458 : BitVec 1 := Scalar.cmpi .eq v30 c31_i32
  let c2_i32 : BitVec 32 := 2#32
  let c1_i32_181 : BitVec 32 := 1#32
  let v459 : BitVec 32 := Scalar.select v458 c2_i32 c1_i32_181
  let v460 : BitVec 32 := Scalar.select v457 c0_i32_182 v459
  let v465 : Index := Scalar.indexCast v460
  let c0_188 : Index := 0#32
  let c0_189 : Index := 0#32
  let c0_190 : Index := 0#32
  ![v465.toNat, 0, 0, 0]
def k0_off2 (i : grid0.Coords) (c0_i32_24 : BitVec 32) : Fin 4 → Nat :=
  let arg0 : BitVec 32 := BitVec.ofNat 32 (i 0).val
  let c4_i32 : BitVec 32 := 4#32
  let v29 : BitVec 32 := Scalar.muli arg0 c4_i32
  let v30 : BitVec 32 := Scalar.addi v29 c0_i32_24
  let c0_i32_180 : BitVec 32 := 0#32
  let v457 : BitVec 1 := Scalar.cmpi .eq v30 c0_i32_180
  let c0_i32_182 : BitVec 32 := 0#32
  let c31_i32 : BitVec 32 := 31#32
  let v458 : BitVec 1 := Scalar.cmpi .eq v30 c31_i32
  let c2_i32 : BitVec 32 := 2#32
  let c1_i32_181 : BitVec 32 := 1#32
  let v459 : BitVec 32 := Scalar.select v458 c2_i32 c1_i32_181
  let v460 : BitVec 32 := Scalar.select v457 c0_i32_182 v459
  let v506 : Index := Scalar.indexCast v460
  let c1_217 : Index := 1#32
  let c0_218 : Index := 0#32
  let c0_219 : Index := 0#32
  ![v506.toNat, 1, 0, 0]
def k0_off3 (i : grid0.Coords) (c0_i32_24 : BitVec 32) : Fin 4 → Nat :=
  let arg0 : BitVec 32 := BitVec.ofNat 32 (i 0).val
  let c4_i32 : BitVec 32 := 4#32
  let v29 : BitVec 32 := Scalar.muli arg0 c4_i32
  let v30 : BitVec 32 := Scalar.addi v29 c0_i32_24
  let c0_i32_180 : BitVec 32 := 0#32
  let v457 : BitVec 1 := Scalar.cmpi .eq v30 c0_i32_180
  let c0_i32_182 : BitVec 32 := 0#32
  let c31_i32 : BitVec 32 := 31#32
  let v458 : BitVec 1 := Scalar.cmpi .eq v30 c31_i32
  let c2_i32 : BitVec 32 := 2#32
  let c1_i32_181 : BitVec 32 := 1#32
  let v459 : BitVec 32 := Scalar.select v458 c2_i32 c1_i32_181
  let v460 : BitVec 32 := Scalar.select v457 c0_i32_182 v459
  let v547 : Index := Scalar.indexCast v460
  let c2_246 : Index := 2#32
  let c0_247 : Index := 0#32
  let c0_248 : Index := 0#32
  ![v547.toNat, 2, 0, 0]
def k0_off4 (i : grid0.Coords) (c0_i32_24 : BitVec 32) : Fin 4 → Nat :=
  let arg0 : BitVec 32 := BitVec.ofNat 32 (i 0).val
  let c4_i32 : BitVec 32 := 4#32
  let v29 : BitVec 32 := Scalar.muli arg0 c4_i32
  let v30 : BitVec 32 := Scalar.addi v29 c0_i32_24
  let c0_i32_180 : BitVec 32 := 0#32
  let v457 : BitVec 1 := Scalar.cmpi .eq v30 c0_i32_180
  let c0_i32_182 : BitVec 32 := 0#32
  let c31_i32 : BitVec 32 := 31#32
  let v458 : BitVec 1 := Scalar.cmpi .eq v30 c31_i32
  let c2_i32 : BitVec 32 := 2#32
  let c1_i32_181 : BitVec 32 := 1#32
  let v459 : BitVec 32 := Scalar.select v458 c2_i32 c1_i32_181
  let v460 : BitVec 32 := Scalar.select v457 c0_i32_182 v459
  let v588 : Index := Scalar.indexCast v460
  let c3_275 : Index := 3#32
  let c0_276 : Index := 0#32
  let c0_277 : Index := 0#32
  ![v588.toNat, 3, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_8 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_13 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_14 (i : grid0.Coords) : Fin 2 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c31_i32 : BitVec 32 := 31#32
  let v2 : BitVec 32 := Scalar.minsi v1 c31_i32
  let c1_i32 : BitVec 32 := 1#32
  let c0_i32 : BitVec 32 := 0#32
  ![v2.toNat, c1_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x4x128x384 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x4x128x384 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x3x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x3x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S4096x512 : Shape := ⟨2, ![4096, 512]⟩
abbrev S4096x128 : Shape := ⟨2, ![4096, 128]⟩
abbrev S4096x1024 : Shape := ⟨2, ![4096, 1024]⟩
abbrev S1x8 : Shape := ⟨2, ![1, 8]⟩
abbrev S1x4x128x128 : Shape := ⟨4, ![1, 4, 128, 128]⟩
abbrev S1x512 : Shape := ⟨2, ![1, 512]⟩
abbrev S4096x2x64 : Shape := ⟨3, ![4096, 2, 64]⟩
abbrev S_ : Shape := ⟨0, ![]⟩
abbrev S4352x2x64 : Shape := ⟨3, ![4352, 2, 64]⟩
abbrev S34x128x2x64 : Shape := ⟨4, ![34, 128, 2, 64]⟩
abbrev S32x128x2x64 : Shape := ⟨4, ![32, 128, 2, 64]⟩
abbrev S32x384x2x64 : Shape := ⟨4, ![32, 384, 2, 64]⟩
abbrev S4096x8x64 : Shape := ⟨3, ![4096, 8, 64]⟩
abbrev S8 : Shape := ⟨1, ![8]⟩
abbrev S32x128x2x4x64 : Shape := ⟨5, ![32, 128, 2, 4, 64]⟩
abbrev S32x2x384x128x4 : Shape := ⟨5, ![32, 2, 384, 128, 4]⟩
abbrev S32x2x4x128x384 : Shape := ⟨5, ![32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S32x1x1x128x384 : Shape := ⟨5, ![32, 1, 1, 128, 384]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x64x384 : Shape := ⟨4, ![32, 2, 64, 384]⟩
abbrev S2x4x1 : Shape := ⟨3, ![2, 4, 1]⟩
abbrev S32x2x128x4x64 : Shape := ⟨5, ![32, 2, 128, 4, 64]⟩
abbrev S32x2x384x64 : Shape := ⟨4, ![32, 2, 384, 64]⟩
abbrev S32x3x128x128 : Shape := ⟨4, ![32, 3, 128, 128]⟩
abbrev S8x1 : Shape := ⟨2, ![8, 1]⟩
abbrev S8x128 : Shape := ⟨2, ![8, 128]⟩

abbrev nBuf : Space → Nat
  | .hbm => 205
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S4096x512, .f32⟩
  | 4 => ⟨S4096x1024, .f32⟩
  | 5 => ⟨S1x8, .f32⟩
  | 6 => ⟨S1x4x128x128, .f32⟩
  | 7 => ⟨S1x512, .f32⟩
  | 8 => ⟨S4096x2x64, .f32⟩
  | 9 => ⟨S_, .i32⟩
  | 10 => ⟨S_, .f32⟩
  | 11 => ⟨S4352x2x64, .f32⟩
  | 12 => ⟨S34x128x2x64, .f32⟩
  | 13 => ⟨S32x128x2x64, .f32⟩
  | 14 => ⟨S32x128x2x64, .f32⟩
  | 15 => ⟨S32x128x2x64, .f32⟩
  | 16 => ⟨S32x384x2x64, .f32⟩
  | 17 => ⟨S4096x2x64, .f32⟩
  | 18 => ⟨S_, .i32⟩
  | 19 => ⟨S_, .f32⟩
  | 20 => ⟨S4352x2x64, .f32⟩
  | 21 => ⟨S34x128x2x64, .f32⟩
  | 22 => ⟨S32x128x2x64, .f32⟩
  | 23 => ⟨S32x128x2x64, .f32⟩
  | 24 => ⟨S32x128x2x64, .f32⟩
  | 25 => ⟨S32x384x2x64, .f32⟩
  | 26 => ⟨S4096x8x64, .f32⟩
  | 27 => ⟨S8, .f32⟩
  | 28 => ⟨S32x128x2x4x64, .f32⟩
  | 29 => ⟨S32x2x384x128x4, .f32⟩
  | 30 => ⟨S32x2x4x128x384, .f32⟩
  | 31 => ⟨S_, .f32⟩
  | 32 => ⟨S32x2x4x128x384, .f32⟩
  | 33 => ⟨S32x2x4x128x384, .f32⟩
  | 34 => ⟨S32, .i32⟩
  | 35 => ⟨S32x1, .i32⟩
  | 36 => ⟨S_, .i32⟩
  | 37 => ⟨S32x1, .i32⟩
  | 38 => ⟨S32x1, .i32⟩
  | 39 => ⟨S128, .i32⟩
  | 40 => ⟨S1x128, .i32⟩
  | 41 => ⟨S32x128, .i32⟩
  | 42 => ⟨S32x128, .i32⟩
  | 43 => ⟨S32x128, .i32⟩
  | 44 => ⟨S32, .i32⟩
  | 45 => ⟨S32x1, .i32⟩
  | 46 => ⟨S_, .i32⟩
  | 47 => ⟨S32x1, .i32⟩
  | 48 => ⟨S32x1, .i32⟩
  | 49 => ⟨S384, .i32⟩
  | 50 => ⟨S1x384, .i32⟩
  | 51 => ⟨S32x384, .i32⟩
  | 52 => ⟨S32x384, .i32⟩
  | 53 => ⟨S32x384, .i32⟩
  | 54 => ⟨S_, .i32⟩
  | 55 => ⟨S32x384, .i32⟩
  | 56 => ⟨S32x384, .i32⟩
  | 57 => ⟨S32x128x1, .i32⟩
  | 58 => ⟨S32x1x384, .i32⟩
  | 59 => ⟨S32x128x384, .i32⟩
  | 60 => ⟨S32x128x384, .i32⟩
  | 61 => ⟨S32x128x384, .i32⟩
  | 62 => ⟨S32x128x384, .i32⟩
  | 63 => ⟨S_, .i32⟩
  | 64 => ⟨S32x128x384, .i32⟩
  | 65 => ⟨S32x128x384, .i1⟩
  | 66 => ⟨S32x1x384, .i32⟩
  | 67 => ⟨S_, .i32⟩
  | 68 => ⟨S32x1x384, .i32⟩
  | 69 => ⟨S32x1x384, .i1⟩
  | 70 => ⟨S32x128x384, .i1⟩
  | 71 => ⟨S32x128x384, .i1⟩
  | 72 => ⟨S32x1x384, .i32⟩
  | 73 => ⟨S_, .i32⟩
  | 74 => ⟨S32x1x384, .i32⟩
  | 75 => ⟨S32x1x384, .i1⟩
  | 76 => ⟨S32x128x384, .i1⟩
  | 77 => ⟨S32x128x384, .i1⟩
  | 78 => ⟨S32x1x1x128x384, .i1⟩
  | 79 => ⟨S_, .f32⟩
  | 80 => ⟨S_, .f32⟩
  | 81 => ⟨S32x2x4x128x384, .i1⟩
  | 82 => ⟨S32x2x4x128x384, .f32⟩
  | 83 => ⟨S32x2x4x128x384, .f32⟩
  | 84 => ⟨S_, .f32⟩
  | 85 => ⟨S32x2x4x128x384, .f32⟩
  | 86 => ⟨S2x4, .f32⟩
  | 87 => ⟨S1x2x4x1x1, .f32⟩
  | 88 => ⟨S_, .f32⟩
  | 89 => ⟨S32x2x4x128, .f32⟩
  | 90 => ⟨S32x2x4x128x1, .f32⟩
  | 91 => ⟨S32x2x4x128x384, .f32⟩
  | 92 => ⟨S32x2x4x128x384, .i1⟩
  | 93 => ⟨S32x2x4x128x384, .f32⟩
  | 94 => ⟨S_, .f32⟩
  | 95 => ⟨S32x2x4x128, .f32⟩
  | 96 => ⟨S32x2x4x128x1, .f32⟩
  | 97 => ⟨S32x2x4x128x1, .f32⟩
  | 98 => ⟨S32x2x4x128x1, .f32⟩
  | 99 => ⟨S32x2x4x128x1, .f32⟩
  | 100 => ⟨S32x2x4x128x1, .i1⟩
  | 101 => ⟨S32x2x4x128x1, .f32⟩
  | 102 => ⟨S32x2x4x128x1, .i1⟩
  | 103 => ⟨S_, .f32⟩
  | 104 => ⟨S32x2x4x128x1, .f32⟩
  | 105 => ⟨S_, .f32⟩
  | 106 => ⟨S32x2x4x128x1, .f32⟩
  | 107 => ⟨S_, .f32⟩
  | 108 => ⟨S32x2x4x128x1, .f32⟩
  | 109 => ⟨S32x2x4x128x1, .f32⟩
  | 110 => ⟨S32x2x4x128x1, .f32⟩
  | 111 => ⟨S32x2x4x128x1, .f32⟩
  | 112 => ⟨S32x2x4x128x1, .i1⟩
  | 113 => ⟨S32x2x4x128x1, .f32⟩
  | 114 => ⟨S32x2x4x128x1, .i1⟩
  | 115 => ⟨S_, .f32⟩
  | 116 => ⟨S32x2x4x128x1, .f32⟩
  | 117 => ⟨S_, .f32⟩
  | 118 => ⟨S32x2x4x128x1, .f32⟩
  | 119 => ⟨S_, .f32⟩
  | 120 => ⟨S32x2x4x128x1, .f32⟩
  | 121 => ⟨S32x2x4x128x1, .f32⟩
  | 122 => ⟨S32x2x4x128x1, .f32⟩
  | 123 => ⟨S32x2x4x128x384, .f32⟩
  | 124 => ⟨S32x2x4x128x384, .f32⟩
  | 125 => ⟨S32x2x4x128x384, .f32⟩
  | 126 => ⟨S_, .f32⟩
  | 127 => ⟨S32x2x4x128, .f32⟩
  | _ => ⟨S4096x512, .f32⟩

abbrev hbmTy0_1 (i : Nat) : BufTy := match i % 128 with
  | 0 => ⟨S32x2x4x128x1, .f32⟩
  | 1 => ⟨S32x2x4x128x1, .f32⟩
  | 2 => ⟨S32x2x4x128x1, .f32⟩
  | 3 => ⟨S32x2x4x128x1, .f32⟩
  | 4 => ⟨S32x2x4x128x1, .f32⟩
  | 5 => ⟨S32x2x4x128x384, .f32⟩
  | 6 => ⟨S32x2x4x128x384, .f32⟩
  | 7 => ⟨S32x2x4x128x1, .f32⟩
  | 8 => ⟨S_, .f32⟩
  | 9 => ⟨S32x2x4x128x1, .f32⟩
  | 10 => ⟨S32x2x4x128x1, .f32⟩
  | 11 => ⟨S32x2x64x4x128, .f32⟩
  | 12 => ⟨S32x128x2x4x64, .f32⟩
  | 13 => ⟨S4096x512, .f32⟩
  | 14 => ⟨S4096x512, .f32⟩
  | 15 => ⟨S32x128x2x4x64, .f32⟩
  | 16 => ⟨S32x2x64x4x128, .f32⟩
  | 17 => ⟨S32x2x4x128x384, .f32⟩
  | 18 => ⟨S32x2x64x384, .f32⟩
  | 19 => ⟨S32x384x2x64, .f32⟩
  | 20 => ⟨S32x2x4x128x384, .f32⟩
  | 21 => ⟨S32x2x4x128x384, .f32⟩
  | 22 => ⟨S32x2x4x128x384, .f32⟩
  | 23 => ⟨S_, .f32⟩
  | 24 => ⟨S32x2x4x128, .f32⟩
  | 25 => ⟨S32x2x4x128x1, .f32⟩
  | 26 => ⟨S32x2x4x128x1, .f32⟩
  | 27 => ⟨S32x2x4x128x384, .f32⟩
  | 28 => ⟨S32x2x4x128x384, .f32⟩
  | 29 => ⟨S32x2x4x128x1, .f32⟩
  | 30 => ⟨S_, .f32⟩
  | 31 => ⟨S2x4x1, .f32⟩
  | 32 => ⟨S1x2x4x1x1, .f32⟩
  | 33 => ⟨S32x2x4x128x1, .f32⟩
  | 34 => ⟨S_, .f32⟩
  | 35 => ⟨S32x2x4x128, .f32⟩
  | 36 => ⟨S32x2x4x128x384, .f32⟩
  | 37 => ⟨S32x2x4x128x384, .f32⟩
  | 38 => ⟨S32x2x4x128x384, .f32⟩
  | 39 => ⟨S32x2x4x128x384, .f32⟩
  | 40 => ⟨S_, .f32⟩
  | 41 => ⟨S32x2x4x128, .f32⟩
  | 42 => ⟨S32x2x4x128x1, .f32⟩
  | 43 => ⟨S32x2x4x128x1, .f32⟩
  | 44 => ⟨S32x2x4x128x1, .f32⟩
  | 45 => ⟨S_, .f32⟩
  | 46 => ⟨S2x4x1, .f32⟩
  | 47 => ⟨S1x2x4x1x1, .f32⟩
  | 48 => ⟨S1x2x4x1x1, .f32⟩
  | 49 => ⟨S32x2x4x128x1, .f32⟩
  | 50 => ⟨S_, .f32⟩
  | 51 => ⟨S32x2x4x128, .f32⟩
  | 52 => ⟨S32x2x4x128, .f32⟩
  | 53 => ⟨S32x2x4x128x384, .f32⟩
  | 54 => ⟨S32x2x4x128x384, .f32⟩
  | 55 => ⟨S32x2x4x128x384, .f32⟩
  | 56 => ⟨S_, .f32⟩
  | 57 => ⟨S2x4, .f32⟩
  | 58 => ⟨S8, .f32⟩
  | 59 => ⟨S_, .f32⟩
  | 60 => ⟨S32x2x4x128x384, .f32⟩
  | 61 => ⟨S32x2x4x128x384, .f32⟩
  | 62 => ⟨S_, .f32⟩
  | 63 => ⟨S32x2x4x128x384, .f32⟩
  | 64 => ⟨S32x2x4x128x384, .f32⟩
  | 65 => ⟨S32x2x384x128x4, .f32⟩
  | 66 => ⟨S32x2x128x4x64, .f32⟩
  | 67 => ⟨S32x128x2x4x64, .f32⟩
  | 68 => ⟨S32x2x384x64, .f32⟩
  | 69 => ⟨S32x384x2x64, .f32⟩
  | 70 => ⟨S4096x8x64, .f32⟩
  | 71 => ⟨S1x8, .f32⟩
  | 72 => ⟨S4096x512, .f32⟩
  | 73 => ⟨S32x3x128x128, .f32⟩
  | 74 => ⟨S32x3x128x128, .f32⟩
  | 75 => ⟨S8x1, .f32⟩
  | 76 => ⟨S8x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_call2_v0 : Ref sig .tc := ⟨.hbm, 80, rfl⟩
abbrev main_v60_1 : Ref sig .tc := ⟨.hbm, 81, rfl⟩
abbrev main_call2_v2 : Ref sig .tc := ⟨.hbm, 82, rfl⟩
abbrev main_v60_0 : Ref sig .tc := ⟨.hbm, 83, rfl⟩
abbrev main_call2_cst : Ref sig .tc := ⟨.hbm, 84, rfl⟩
abbrev main_v60_2 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_10 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_13 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_17 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_18 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_19 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_20 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_21 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_22 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_23 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_24 : Ref sig .tc := ⟨.hbm, 184, rfl⟩
abbrev main_v143 : Ref sig .tc := ⟨.hbm, 185, rfl⟩
abbrev main_v144 : Ref sig .tc := ⟨.hbm, 186, rfl⟩
abbrev main_call3_cst : Ref sig .tc := ⟨.hbm, 187, rfl⟩
abbrev main_call3_v0 : Ref sig .tc := ⟨.hbm, 188, rfl⟩
abbrev main_v145 : Ref sig .tc := ⟨.hbm, 189, rfl⟩
abbrev main_cst_25 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩

abbrev nD : Nat := 1
abbrev τ : Topo := Topo.v7x

variable {F : FTy → Type} [FloatOps F]
-- ==== Gates.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S2816x4096 : Shape := ⟨2, ![2816, 4096]⟩
abbrev S512x1024 : Shape := ⟨2, ![512, 1024]⟩
abbrev S512x2816 : Shape := ⟨2, ![512, 2816]⟩
abbrev S2816x512 : Shape := ⟨2, ![2816, 512]⟩
abbrev S512x256 : Shape := ⟨2, ![512, 256]⟩
abbrev S256x1024 : Shape := ⟨2, ![256, 1024]⟩
abbrev S256x512 : Shape := ⟨2, ![256, 512]⟩

abbrev nBuf : Space → Nat
  | .hbm => 34
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S4096x2816, .f32⟩
  | .hbm, ⟨25, _⟩ => ⟨S4096x2816, .bf16⟩
  | .hbm, ⟨26, _⟩ => ⟨S1024x2816, .f32⟩
  | .hbm, ⟨27, _⟩ => ⟨S4096x2816, .f32⟩
  | .hbm, ⟨28, _⟩ => ⟨S4096x2816, .bf16⟩
  | .hbm, ⟨29, _⟩ => ⟨S2816x1024, .f32⟩
  | .hbm, ⟨30, _⟩ => ⟨S2816x1024, .bf16⟩
  | .hbm, ⟨31, _⟩ => ⟨S2816x4096, .bf16⟩
  | .hbm, ⟨32, _⟩ => ⟨S2816x4096, .bf16⟩
  | .hbm, ⟨33, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S2816x512, .bf16⟩
  | .local _ .vmem, ⟨8, _⟩ => ⟨S2816x512, .bf16⟩
  | .local _ .vmem, ⟨9, _⟩ => ⟨S2816x512, .bf16⟩
  | .local _ .vmem, ⟨10, _⟩ => ⟨S2816x512, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2816x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2816x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatesRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S2816x4096 : Shape := ⟨2, ![2816, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S_, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S1024x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S2816x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S2816x4096, .f32⟩
  | .hbm, ⟨65, _⟩ => ⟨S2816x4096, .bf16⟩
  | .hbm, ⟨66, _⟩ => ⟨S2816x4096, .f32⟩
  | .hbm, ⟨67, _⟩ => ⟨S2816x4096, .bf16⟩
  | .hbm, ⟨68, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== Inp.lean ====
abbrev S4096x1024 : Shape := ⟨2, ![4096, 1024]⟩
abbrev S4096x2816 : Shape := ⟨2, ![4096, 2816]⟩
abbrev S1x1024 : Shape := ⟨2, ![1, 1024]⟩
abbrev S1x1024x2816 : Shape := ⟨3, ![1, 1024, 2816]⟩
abbrev S2816x4096 : Shape := ⟨2, ![2816, 4096]⟩
abbrev S1024x2816 : Shape := ⟨2, ![1024, 2816]⟩
abbrev S2816x1024 : Shape := ⟨2, ![2816, 1024]⟩
abbrev S512x1024 : Shape := ⟨2, ![512, 1024]⟩
abbrev S2816x512 : Shape := ⟨2, ![2816, 512]⟩
abbrev S512 : Shape := ⟨1, ![512]⟩
abbrev S512x1 : Shape := ⟨2, ![512, 1]⟩
abbrev S1024 : Shape := ⟨1, ![1024]⟩

abbrev nBuf : Space → Nat
  | .hbm => 19
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .f32⟩
  | .hbm, ⟨3, _⟩ => ⟨S4096x2816, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S2816x4096, .f32⟩
  | .hbm, ⟨8, _⟩ => ⟨S2816x4096, .bf16⟩
  | .hbm, ⟨9, _⟩ => ⟨S2816x4096, .f32⟩
  | .hbm, ⟨10, _⟩ => ⟨S2816x4096, .bf16⟩
  | .hbm, ⟨11, _⟩ => ⟨S1024x2816, .f32⟩
  | .hbm, ⟨12, _⟩ => ⟨S2816x1024, .f32⟩
  | .hbm, ⟨13, _⟩ => ⟨S2816x1024, .bf16⟩
  | .hbm, ⟨14, _⟩ => ⟨S1024x2816, .f32⟩
  | .hbm, ⟨15, _⟩ => ⟨S2816x1024, .f32⟩
  | .hbm, ⟨16, _⟩ => ⟨S2816x1024, .bf16⟩
  | .hbm, ⟨17, _⟩ => ⟨S4096x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InpRefIdeal.lean ====
abbrev S4096x1024 : Shape := ⟨2, ![4096, 1024]⟩
abbrev S4096x2816 : Shape := ⟨2, ![4096, 2816]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .f32⟩
  | .hbm, ⟨3, _⟩ => ⟨S4096x2816, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1x4096x1024 : Shape := ⟨3, ![1, 4096, 1024]⟩
abbrev S1024x2816 : Shape := ⟨2, ![1024, 2816]⟩
abbrev S2816x1024 : Shape := ⟨2, ![2816, 1024]⟩
abbrev S4096x2816 : Shape := ⟨2, ![4096, 2816]⟩
abbrev S2816x4096 : Shape := ⟨2, ![2816, 4096]⟩
abbrev S1x1 : Shape := ⟨2, ![1, 1]⟩
abbrev S512x1024 : Shape := ⟨2, ![512, 1024]⟩
abbrev S512x2816 : Shape := ⟨2, ![512, 2816]⟩
abbrev S2816x512 : Shape := ⟨2, ![2816, 512]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S256x512 : Shape := ⟨2, ![256, 512]⟩
abbrev S1 : Shape := ⟨1, ![1]⟩

abbrev nBuf : Space → Nat
  | .hbm => 24
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x2816, .bf16⟩
  | .hbm, ⟨20, _⟩ => ⟨S4096x2816, .bf16⟩
  | .hbm, ⟨21, _⟩ => ⟨S2816x4096, .bf16⟩
  | .hbm, ⟨22, _⟩ => ⟨S1x1, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S2816x512, .bf16⟩
  | .local _ .vmem, ⟨18, _⟩ => ⟨S2816x512, .bf16⟩
  | .local _ .vmem, ⟨19, _⟩ => ⟨S1x1, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2816x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== HeadRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S2816x4096 : Shape := ⟨2, ![2816, 4096]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S4096x2816, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S2816x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .bf16⟩
  | .hbm, ⟨114, _⟩ => ⟨S4096x2816, .bf16⟩
  | .hbm, ⟨115, _⟩ => ⟨S4096x2816, .bf16⟩
  | .hbm, ⟨116, _⟩ => ⟨S2816x4096, .f32⟩
  | .hbm, ⟨117, _⟩ => ⟨S2816x4096, .bf16⟩
  | .hbm, ⟨118, _⟩ => ⟨S1x1, .f32⟩
  | .hbm, ⟨119, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_cst_12 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_16 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_18 : Ref sig .tc := ⟨.hbm, 103, rfl⟩
abbrev main_v69 : Ref sig .tc := ⟨.hbm, 104, rfl⟩
abbrev main_v70 : Ref sig .tc := ⟨.hbm, 105, rfl⟩
abbrev main_cst_19 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]
-- ==== Gate1.lean ====
abbrev S4096x1024 : Shape := ⟨2, ![4096, 1024]⟩
abbrev S1x1024 : Shape := ⟨2, ![1, 1024]⟩
abbrev S1x1024x2816 : Shape := ⟨3, ![1, 1024, 2816]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S4096x1024, .bf16⟩
  | .hbm, ⟨7, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .bf16⟩
  | .local _ .vmem, ⟨7, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Gate1RefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x2816, .f32⟩
  | .hbm, ⟨22, _⟩ => ⟨S4096x2816, .f32⟩
  | .hbm, ⟨23, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Up1.lean ====
abbrev S4096x1024 : Shape := ⟨2, ![4096, 1024]⟩
abbrev S1x1024 : Shape := ⟨2, ![1, 1024]⟩
abbrev S1x1024x2816 : Shape := ⟨3, ![1, 1024, 2816]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S2816x4096 : Shape := ⟨2, ![2816, 4096]⟩
abbrev S512x1024 : Shape := ⟨2, ![512, 1024]⟩
abbrev S512x2816 : Shape := ⟨2, ![512, 2816]⟩
abbrev S2816x512 : Shape := ⟨2, ![2816, 512]⟩
abbrev S256x1024 : Shape := ⟨2, ![256, 1024]⟩
abbrev S512x256 : Shape := ⟨2, ![512, 256]⟩
abbrev S256x512 : Shape := ⟨2, ![256, 512]⟩

abbrev nBuf : Space → Nat
  | .hbm => 30
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S4096x2816, .f32⟩
  | .hbm, ⟨23, _⟩ => ⟨S4096x2816, .bf16⟩
  | .hbm, ⟨24, _⟩ => ⟨S4096x1024, .bf16⟩
  | .hbm, ⟨25, _⟩ => ⟨S1024x2816, .f32⟩
  | .hbm, ⟨26, _⟩ => ⟨S2816x1024, .f32⟩
  | .hbm, ⟨27, _⟩ => ⟨S2816x1024, .bf16⟩
  | .hbm, ⟨28, _⟩ => ⟨S4096x2816, .bf16⟩
  | .hbm, ⟨29, _⟩ => ⟨S2816x4096, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x2816, .bf16⟩
  | .local _ .vmem, ⟨6, _⟩ => ⟨S512x2816, .bf16⟩
  | .local _ .vmem, ⟨7, _⟩ => ⟨S2816x512, .bf16⟩
  | .local _ .vmem, ⟨8, _⟩ => ⟨S2816x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2816x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Up1RefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x4096 : Shape := ⟨2, ![2816, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S4096x2816, .f32⟩
  | .hbm, ⟨23, _⟩ => ⟨S1024x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S2816x4096, .f32⟩
  | .hbm, ⟨37, _⟩ => ⟨S2816x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Proof.Real.lean ====
/- Extended reals that are real numbers: sums, products, quotients and the elementwise functions of the two
   programs, taken at real arguments, are the real ones; and the float constants the programs write. -/
module

public import Idealize.ShloMosaic.Lib.Pointwise
public import Idealize.ShloMosaic.Lib.IdealHost
public import Idealize.ShloMosaic.PureOps

@[expose] public section

noncomputable section

namespace Cert.Proof

open Idealize.ShloMosaic
open scoped BigOperators

/-- A matrix of real numbers, as an array of extended reals. -/
def mat {a b : ℕ} (f : Fin a → Fin b → ℝ) : (⟨2, ![a, b]⟩ : Shape).Idx → EReal := fun i => (f (i 0) (i 1) : EReal)

/-- A matrix of real numbers, as an array with a leading axis of extent one. -/
def mat1 {a b : ℕ} (f : Fin a → Fin b → ℝ) : (⟨3, ![1, a, b]⟩ : Shape).Idx → EReal := fun i => (f (i 1) (i 2) : EReal)

theorem mat_ix2 {a b : ℕ} (f : Fin a → Fin b → ℝ) (i : Fin a) (j : Fin b) : mat f (ix2 i j) = (f i j : EReal) := rfl

theorem mat1_ix3 {a b : ℕ} (f : Fin a → Fin b → ℝ) (i : Fin 1) (j : Fin a) (k : Fin b) : mat1 f (ix3 i j k) = (f j k : EReal) := rfl

/-- An array whose every entry is finite is a matrix of real numbers. -/
theorem exists_mat {a b : ℕ} (X : (⟨2, ![a, b]⟩ : Shape).Idx → EReal) (h : ∀ i, max (X i) (-X i) < ⊤) :
    ∃ f : Fin a → Fin b → ℝ, X = mat f := by
  refine ⟨fun i j => (X (ix2 i j)).toReal, funext fun i => ?_⟩
  have hi := h i
  have h1 : X i ≠ ⊤ := fun e => by simp [e] at hi
  have h2 : X i ≠ ⊥ := fun e => by simp [e] at hi
  have e : ix2 (i 0) (i 1) = i := (eq_ix2 i).symm
  exact (EReal.coe_toReal h1 h2).symm.trans (congrArg (fun j => ((X j).toReal : EReal)) e.symm)

theorem exists_mat1 {a b : ℕ} (X : (⟨3, ![1, a, b]⟩ : Shape).Idx → EReal) (h : ∀ i, max (X i) (-X i) < ⊤) :
    ∃ f : Fin a → Fin b → ℝ, X = mat1 f := by
  refine ⟨fun i j => (X (ix3 0 i j)).toReal, funext fun i => ?_⟩
  have hi := h i
  have h1 : X i ≠ ⊤ := fun e => by simp [e] at hi
  have h2 : X i ≠ ⊥ := fun e => by simp [e] at hi
  have e0 : i 0 = (0 : Fin 1) := Subsingleton.elim (α := Fin 1) _ _
  have e : ix3 (0 : Fin 1) (i 1) (i 2) = i := by rw [← e0]; exact (eq_ix3 i).symm
  exact (EReal.coe_toReal h1 h2).symm.trans (congrArg (fun j => ((X j).toReal : EReal)) e.symm)

theorem sum_coe {ι : Type} [Fintype ι] (f : ι → ℝ) : ∑ i, (f i : EReal) = ((∑ i, f i : ℝ) : EReal) := by
  classical
  induction (Finset.univ : Finset ι) using Finset.induction_on with
  | empty => simp
  | insert i s hi ih => rw [Finset.sum_insert hi, Finset.sum_insert hi, ih, EReal.coe_add]

theorem div_coe' (x y : ℝ) (hy : y ≠ 0) : Ideal.div (x : EReal) (y : EReal) = ((x / y : ℝ) : EReal) := by
  rw [Ideal.div_coe hy, ← EReal.coe_mul]; congr 1; ring

theorem exp_coe (x : ℝ) : Ideal.exp (x : EReal) = ((Real.exp x : ℝ) : EReal) := rfl

theorem rsqrt_coe (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr hx.le), if_neg hx.ne']

/-- The small constant under the root of the norm. -/
def eps : ℝ := 8796093 / 2 ^ 43

theorem ofBits_eps : Ideal.ofBits .f32 0x358637BD#32 = (eps : EReal) := by
  simp [Ideal.ofBits, Ideal.ieee, eps, -EReal.coe_mul, ← EReal.coe_mul, div_eq_mul_inv]

theorem eps_pos : 0 < eps := by
  unfold eps; positivity

theorem ofBits_1024 : Ideal.ofBits .f32 0x44800000#32 = ((1024 : ℝ) : EReal) := by
  simp [Ideal.ofBits, Ideal.ieee, -EReal.coe_mul, ← EReal.coe_mul]; norm_num

theorem ofBits_half : Ideal.ofBits .f32 0x3F000000#32 = ((1 / 2 : ℝ) : EReal) := by
  simp [Ideal.ofBits, Ideal.ieee, -EReal.coe_mul, ← EReal.coe_mul]; norm_num

theorem ofBits_neg_half : Ideal.ofBits .f32 0xBF000000#32 = ((-(1 / 2) : ℝ) : EReal) := by
  simp [Ideal.ofBits, Ideal.ieee, -EReal.coe_mul, ← EReal.coe_mul]; norm_num

theorem ofBits_top : Ideal.ofBits .f32 0x7F800000#32 = ⊤ := by simp [Ideal.ofBits, Ideal.ieee]

theorem one_coe : (1 : EReal) = ((1 : ℝ) : EReal) := EReal.coe_one.symm

/-- The logistic function. -/
def logistic (x : ℝ) : ℝ := 1 / (1 + Real.exp (-x))

theorem one_add_exp_ne (x : ℝ) : 1 + Real.exp x ≠ 0 := by positivity

end Cert.Proof

end
-- ==== Proof.Grad.lean ====
/- The mean square of a row of real numbers and its reciprocal root. -/
module

public import proofs.«01_k».proof.Proof.Real

@[expose] public section

noncomputable section

namespace Cert.Proof

open scoped BigOperators

variable {ρ : Type}

/-- The mean square of a row plus the small constant. -/
def var (x : ρ → Fin 1024 → ℝ) (r : ρ) : ℝ := (∑ k, x r k * x r k) / 1024 + eps
/-- The reciprocal root of `var`. -/
def inv (x : ρ → Fin 1024 → ℝ) (r : ρ) : ℝ := (Real.sqrt (var x r))⁻¹

theorem var_pos (x : ρ → Fin 1024 → ℝ) (r : ρ) : 0 < var x r := by
  have h : 0 ≤ (∑ k, x r k * x r k) / 1024 := div_nonneg (Finset.sum_nonneg fun k _ => mul_self_nonneg _) (by norm_num)
  exact add_pos_of_nonneg_of_pos h eps_pos

theorem inv_mul_self (x : ρ → Fin 1024 → ℝ) (r : ρ) : inv x r * inv x r = 1 / var x r := by
  unfold inv
  rw [← mul_inv, Real.mul_self_sqrt (var_pos x r).le, one_div]

end Cert.Proof

end
-- ==== Proof.Ext.lean ====
/- The norm, the products and the norm's gradient over the extended reals: the values that a kernel and its reference both compute,
   whatever their arguments are. The two ways of writing the norm's gradient agree at infinite arguments too. -/
module

public import proofs.«01_k».proof.Proof.Grad

@[expose] public section

noncomputable section

namespace Cert.Proof

open Idealize.ShloMosaic
open scoped BigOperators

/-- A matrix of extended reals as an array. -/
def emat {a b : ℕ} (f : Fin a → Fin b → EReal) : (⟨2, ![a, b]⟩ : Shape).Idx → EReal := fun i => f (i 0) (i 1)
/-- The same with a leading axis of extent one. -/
def emat1 {a b : ℕ} (f : Fin a → Fin b → EReal) : (⟨3, ![1, a, b]⟩ : Shape).Idx → EReal := fun i => f (i 1) (i 2)
/-- A row of extended reals as an array. -/
def evec {a : ℕ} (f : Fin a → EReal) : (⟨1, ![a]⟩ : Shape).Idx → EReal := fun i => f (i 0)

theorem emat_ix2 {a b : ℕ} (f : Fin a → Fin b → EReal) (i : Fin a) (j : Fin b) : emat f (ix2 i j) = f i j := rfl
theorem emat1_ix3 {a b : ℕ} (f : Fin a → Fin b → EReal) (i : Fin 1) (j : Fin a) (k : Fin b) : emat1 f (ix3 i j k) = f j k := rfl
theorem evec_ix1 {a : ℕ} (f : Fin a → EReal) (i : Fin a) : evec f (ix1 i) = f i := rfl

theorem exists_emat {a b : ℕ} (X : (⟨2, ![a, b]⟩ : Shape).Idx → EReal) : ∃ f : Fin a → Fin b → EReal, X = emat f :=
  ⟨fun i j => X (ix2 i j), funext fun i => congrArg X (eq_ix2 i)⟩

theorem exists_emat1 {a b : ℕ} (X : (⟨3, ![1, a, b]⟩ : Shape).Idx → EReal) : ∃ f : Fin a → Fin b → EReal, X = emat1 f := by
  refine ⟨fun i j => X (ix3 0 i j), funext fun i => ?_⟩
  have e0 : i 0 = (0 : Fin 1) := Subsingleton.elim (α := Fin 1) _ _
  have e : ix3 (0 : Fin 1) (i 1) (i 2) = i := by rw [← e0]; exact (eq_ix3 i).symm
  exact congrArg X e.symm

theorem exists_evec {a : ℕ} (X : (⟨1, ![a]⟩ : Shape).Idx → EReal) : ∃ f : Fin a → EReal, X = evec f :=
  ⟨fun i => X (ix1 i), funext fun i => congrArg X (eq_ix1 i)⟩

theorem emat_at {a b : ℕ} (f : Fin a → Fin b → EReal) (j : (⟨2, ![a, b]⟩ : Shape).Idx) (r : Fin a) (k : Fin b) (h0 : (j 0 : ℕ) = r) (h1 : (j 1 : ℕ) = k) :
    emat f j = f r k := by
  obtain rfl : j = ix2 r k := (eq_ix2 j).trans (by rw [show j 0 = r from Fin.ext h0, show j 1 = k from Fin.ext h1])
  rfl

section values
variable {ρ : Type}

/-- The mean of a row of 1024 numbers, from its sum. -/
def avg (s : EReal) : EReal := Ideal.div s ((1024 : ℝ) : EReal)
/-- The mean square of a row plus the small constant. -/
def eVar (x : ρ → Fin 1024 → EReal) (r : ρ) : EReal := avg (∑ k, x r k * x r k) + (eps : EReal)
/-- The reciprocal root of `eVar`. -/
def eInv (x : ρ → Fin 1024 → EReal) (r : ρ) : EReal := Ideal.rsqrt (eVar x r)
/-- The row scaled to mean square one. -/
def eHat (x : ρ → Fin 1024 → EReal) (r : ρ) (k : Fin 1024) : EReal := x r k * eInv x r
/-- The normed row. -/
def eNrm (x : ρ → Fin 1024 → EReal) (g : Fin 1024 → EReal) (r : ρ) (k : Fin 1024) : EReal := eHat x r k * g k
/-- A product with a weight. -/
def eLin {a b : ℕ} (n : ρ → Fin a → EReal) (w : Fin a → Fin b → EReal) (r : ρ) (f : Fin b) : EReal := ∑ k, n r k * w k f
/-- The gradient of the normed row from those of the two projections. -/
def eDn {b : ℕ} (dg du : ρ → Fin b → EReal) (wg wu : Fin 1024 → Fin b → EReal) (r : ρ) (k : Fin 1024) : EReal :=
  (∑ f, dg r f * wg k f) + ∑ f, du r f * wu k f
/-- The gradient of the norm's input. -/
def eIn (x : ρ → Fin 1024 → EReal) (g : Fin 1024 → EReal) (dn : ρ → Fin 1024 → EReal) (r : ρ) (k : Fin 1024) : EReal :=
  eInv x r * (dn r k * g k - eHat x r k * avg (∑ j, dn r j * g j * eHat x r j))
/-- The gradient of the norm's scale. -/
def eScale [Fintype ρ] (x dn : ρ → Fin 1024 → EReal) (k : Fin 1024) : EReal := ∑ r, dn r k * eHat x r k
/-- The term through the mean square that differentiating the norm gives. -/
def eBack (x : ρ → Fin 1024 → EReal) (X : ρ → Fin 1024 → EReal) (r : ρ) : EReal :=
  avg ((∑ j, x r j * X r j) * (((-(1 / 2) : ℝ) : EReal) * Ideal.div (eInv x r) (eVar x r)))

theorem avg_eq (s : EReal) : avg s = s * ((1 / 1024 : ℝ) : EReal) := by
  unfold avg; rw [Ideal.div_coe (by norm_num), one_div]

theorem mul_sum_of_nonneg {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert i s hi ih =>
    rw [Finset.sum_insert hi, Finset.sum_insert hi, EReal.left_distrib_of_nonneg_of_ne_top (EReal.coe_nonneg.mpr hc) (EReal.coe_ne_top c), ih]

theorem add_self (c : EReal) : c + c = c * ((2 : ℝ) : EReal) := by
  induction c with
  | bot => rw [EReal.bot_mul_coe_of_pos (by norm_num)]; rfl
  | top => rw [EReal.top_mul_coe_of_pos (by norm_num)]; rfl
  | coe c => rw [← EReal.coe_add, ← EReal.coe_mul]; congr 1; ring

theorem mul_self_nonneg' (c : EReal) : 0 ≤ c * c := by
  induction c with
  | bot => simp
  | top => simp
  | coe c => rw [← EReal.coe_mul]; exact EReal.coe_nonneg.mpr (mul_self_nonneg c)

/-- A row whose mean square is not infinite has real entries. -/
theorem eVar_cases (x : ρ → Fin 1024 → EReal) (r : ρ) : eVar x r = ⊤ ∨ ∃ a : ρ → Fin 1024 → ℝ, (∀ k, x r k = a r k) ∧ eVar x r = var a r := by
  by_cases h : ∑ k, x r k * x r k = ⊤
  · left; unfold eVar; rw [avg_eq, h, EReal.top_mul_coe_of_pos (by norm_num)]; rfl
  right
  have hk : ∀ k, x r k * x r k ≠ ⊤ := fun k e => h (top_le_iff.mp (e ▸ Finset.single_le_sum (f := fun k => x r k * x r k) (fun j _ => mul_self_nonneg' (x r j)) (Finset.mem_univ k)))
  have ht : ∀ k, x r k ≠ ⊤ := fun k e => hk k (by rw [e]; rfl)
  have hb : ∀ k, x r k ≠ ⊥ := fun k e => hk k (by rw [e]; rfl)
  have e : ∀ k, x r k = ((x r k).toReal : EReal) := fun k => (EReal.coe_toReal (ht k) (hb k)).symm
  refine ⟨fun _ k => (x r k).toReal, e, ?_⟩
  have s : ∑ k, x r k * x r k = ((∑ k, (x r k).toReal * (x r k).toReal : ℝ) : EReal) := by
    rw [← sum_coe]; exact Finset.sum_congr rfl fun k _ => by rw [EReal.coe_mul, ← e k]
  unfold eVar avg; rw [s, div_coe' _ (1024 : ℝ) (by norm_num), ← EReal.coe_add]; rfl

theorem inv_nonneg' (a : ρ → Fin 1024 → ℝ) (r : ρ) : 0 ≤ inv a r := inv_nonneg.mpr (Real.sqrt_nonneg _)

theorem core (i a v k : ℝ) (hi : 0 ≤ i) (h : i * i = 1 / v) (X c : EReal) :
    X * (i : EReal) + (a : EReal) * (c * ((-(1 / 2) * (i / v) : ℝ) : EReal) * (k : EReal)) + c * ((-(1 / 2) * (i / v) : ℝ) : EReal) * (k : EReal) * (a : EReal)
      = (i : EReal) * (X - ((a * i : ℝ) : EReal) * ((i : EReal) * c * (k : EReal))) := by
  have e1 : (a : EReal) * (c * ((-(1 / 2) * (i / v) : ℝ) : EReal) * (k : EReal)) = c * ((-(1 / 2) * (i / v) * k * a : ℝ) : EReal) := by
    rw [EReal.coe_mul _ a, EReal.coe_mul _ k]; ac_rfl
  have e2 : c * ((-(1 / 2) * (i / v) : ℝ) : EReal) * (k : EReal) * (a : EReal) = c * ((-(1 / 2) * (i / v) * k * a : ℝ) : EReal) := by
    rw [EReal.coe_mul _ a, EReal.coe_mul _ k]; ac_rfl
  have e3 : (i : EReal) * (((a * i : ℝ) : EReal) * ((i : EReal) * c * (k : EReal))) = c * ((i * (a * i) * i * k : ℝ) : EReal) := by
    simp only [EReal.coe_mul]; ac_rfl
  rw [e1, e2, add_assoc, add_self, sub_eq_add_neg, EReal.left_distrib_of_nonneg_of_ne_top (EReal.coe_nonneg.mpr hi) (EReal.coe_ne_top i), mul_neg, e3, ← mul_neg,
    mul_comm X, mul_assoc, ← EReal.coe_mul, ← EReal.coe_neg]
  have e : i / v = i * (i * i) := by rw [h]; ring
  rw [e, show -(1 / 2) * (i * (i * i)) * k * a * 2 = -(i * (a * i) * i * k) by ring]

/-- The gradient of the norm's input in the form that differentiating through the mean square gives, at any arguments. -/
theorem eIn_eq (x : ρ → Fin 1024 → EReal) (g : Fin 1024 → EReal) (dn : ρ → Fin 1024 → EReal) (r : ρ) (k : Fin 1024) :
    dn r k * g k * eInv x r + x r k * eBack x (fun r k => dn r k * g k) r + eBack x (fun r k => dn r k * g k) r * x r k = eIn x g dn r k := by
  rcases eVar_cases x r with h | ⟨a, ha, hv⟩
  · have hi : eInv x r = 0 := by unfold eInv; rw [h]; rfl
    have hb : eBack x (fun r k => dn r k * g k) r = 0 := by
      unfold eBack; rw [hi, h, show Ideal.div 0 ⊤ = 0 by simp [Ideal.div], mul_zero, mul_zero, avg_eq, zero_mul]
    unfold eIn; rw [hb, hi]; simp
  · have hi : eInv x r = (inv a r : EReal) := by unfold eInv; rw [hv, rsqrt_coe _ (var_pos a r)]; rfl
    have hs : ∑ j, dn r j * g j * eHat x r j = (inv a r : EReal) * ∑ j, x r j * (dn r j * g j) := by
      rw [mul_sum_of_nonneg _ _ (inv_nonneg' a r)]
      exact Finset.sum_congr rfl fun j _ => by unfold eHat; rw [hi]; ac_rfl
    unfold eIn eBack
    rw [hs]
    unfold eHat
    rw [hi, hv, div_coe' _ _ (var_pos a r).ne', ← EReal.coe_mul, avg_eq, avg_eq, ha k, ← EReal.coe_mul]
    exact core (inv a r) (a r k) (var a r) (1 / 1024) (inv_nonneg' a r) (inv_mul_self a r) _ _
end values

end Cert.Proof

end
-- ==== Proof.GateExt.lean ====
/- The gates' gradients over the extended reals, and the identity between the two ways of multiplying out the logistic function's
   derivative: it holds at any argument of the gate, an infinite one too, where the factor in front is a real number. -/
module

public import proofs.«01_k».proof.Proof.Ext

@[expose] public section

noncomputable section

namespace Cert.Proof

open Idealize.ShloMosaic
open scoped BigOperators

section values
variable {ρ : Type}

/-- A product with a transposed weight. -/
def eLinT {a b : ℕ} (n : ρ → Fin a → EReal) (w : Fin b → Fin a → EReal) (r : ρ) (f : Fin b) : EReal := ∑ k, n r k * w f k
/-- Half of the cotangent. -/
def eHalf {a : ℕ} (d : ρ → Fin a → EReal) (r : ρ) (k : Fin a) : EReal := ((1 / 2 : ℝ) : EReal) * d r k
/-- The logistic function. -/
def eSig (z : EReal) : EReal := Ideal.div 1 (1 + Ideal.exp (0 - z))
/-- The gradient of the up branch. -/
def eUp {b : ℕ} (z da : ρ → Fin b → EReal) (r : ρ) (f : Fin b) : EReal := da r f * (z r f * eSig (z r f))
/-- The gradient of the gate's argument. -/
def eGate {b : ℕ} (z u da : ρ → Fin b → EReal) (r : ρ) (f : Fin b) : EReal := da r f * u r f * (eSig (z r f) * (1 + z r f * (1 - eSig (z r f))))
/-- The gradient of the norm's input, added to the cotangent of the branch around it. -/
def eOut (x d : ρ → Fin 1024 → EReal) (g : Fin 1024 → EReal) (dn : ρ → Fin 1024 → EReal) (r : ρ) (k : Fin 1024) : EReal := d r k + eIn x g dn r k

theorem eSig_coe (x : ℝ) : eSig (x : EReal) = (logistic x : EReal) := by
  unfold eSig
  rw [zero_sub, ← EReal.coe_neg, exp_coe, one_coe, ← EReal.coe_add, div_coe' _ _ (one_add_exp_ne _)]; rfl

theorem eSig_top : eSig ⊤ = 1 := by
  unfold eSig
  rw [show (0 : EReal) - ⊤ = ⊥ by simp, show Ideal.exp ⊥ = 0 by rfl, add_zero, one_coe, div_coe' _ _ one_ne_zero, div_one]

theorem eSig_bot : eSig ⊥ = 0 := by
  unfold eSig
  rw [show (0 : EReal) - ⊥ = ⊤ by simp, show Ideal.exp ⊤ = ⊤ by rfl, show (1 : EReal) + ⊤ = ⊤ by rfl]
  simp [Ideal.div]

/-- The gate's gradient in the form that differentiating the product of the argument with its logistic gives. -/
theorem eGate_eq (c : ℝ) (z : EReal) : (c : EReal) * eSig z + z * c * (eSig z * (1 - eSig z)) = c * (eSig z * (1 + z * (1 - eSig z))) := by
  have h : (1 : EReal) - 1 = 0 := by rw [one_coe, ← EReal.coe_sub, sub_self]; rfl
  induction z with
  | bot => simp [eSig_bot]
  | top => simp [eSig_top, h]
  | coe z =>
    rw [eSig_coe]
    simp only [one_coe, ← EReal.coe_sub, ← EReal.coe_mul, ← EReal.coe_add]
    exact congrArg _ (by ring)

/-- The row scaled to mean square one is one of real numbers: an infinite row is scaled to zero. -/
theorem eHat_coe (x : ρ → Fin 1024 → EReal) (r : ρ) (k : Fin 1024) : ∃ h : ℝ, eHat x r k = h := by
  rcases eVar_cases x r with h | ⟨a, ha, hv⟩
  · exact ⟨0, by unfold eHat eInv; rw [h, show Ideal.rsqrt ⊤ = 0 by rfl, mul_zero]; rfl⟩
  · exact ⟨a r k * inv a r, by unfold eHat eInv; rw [hv, rsqrt_coe _ (var_pos a r), ha, EReal.coe_mul]; rfl⟩

/-- A projection of the normed row is real where the scale and the weight are. -/
theorem eLin_coe {b : ℕ} (x : ρ → Fin 1024 → EReal) (g : Fin 1024 → ℝ) (w : Fin 1024 → Fin b → ℝ) (r : ρ) (f : Fin b) :
    ∃ u : ℝ, eLin (eNrm x fun k => (g k : EReal)) (fun k f => (w k f : EReal)) r f = u := by
  choose h hh using eHat_coe x
  refine ⟨∑ k, h r k * g k * w k f, (Finset.sum_congr rfl fun k _ => ?_).trans (sum_coe _)⟩
  unfold eNrm; rw [hh, EReal.coe_mul, EReal.coe_mul]

/-- The product's gradient is real where the cotangent and the down weight are. -/
theorem eLinT_coe {b : ℕ} (d : ρ → Fin 1024 → ℝ) (w : Fin b → Fin 1024 → ℝ) (r : ρ) (f : Fin b) :
    ∃ a : ℝ, eLinT (eHalf fun r k => (d r k : EReal)) (fun f k => (w f k : EReal)) r f = a := by
  refine ⟨∑ k, 1 / 2 * d r k * w f k, (Finset.sum_congr rfl fun k _ => ?_).trans (sum_coe _)⟩
  unfold eHalf; rw [EReal.coe_mul, EReal.coe_mul]

/-- The factor in front of the logistic function's derivative is real where the cotangent, the scale and the two weights are. -/
theorem factor_coe {b : ℕ} (x : ρ → Fin 1024 → EReal) (d : ρ → Fin 1024 → ℝ) (g : Fin 1024 → ℝ) (w : Fin 1024 → Fin b → ℝ) (w' : Fin b → Fin 1024 → ℝ)
    (r : ρ) (f : Fin b) : ∃ c : ℝ, eLinT (eHalf fun r k => (d r k : EReal)) (fun f k => (w' f k : EReal)) r f
      * eLin (eNrm x fun k => (g k : EReal)) (fun k f => (w k f : EReal)) r f = c := by
  obtain ⟨a, ha⟩ := eLinT_coe d w' r f
  obtain ⟨u, hu⟩ := eLin_coe x g w r f
  exact ⟨a * u, by rw [ha, hu, EReal.coe_mul]⟩
end values

/-- An array of finite numbers as a matrix of real ones. -/
theorem exists_coe {a b : ℕ} (X : (⟨2, ![a, b]⟩ : Shape).Idx → EReal) (h : ∀ i, max (X i) (-X i) < ⊤) :
    ∃ f : Fin a → Fin b → ℝ, X = emat fun i j => (f i j : EReal) := exists_mat X h

/-- The same with a leading axis of extent one. -/
theorem exists_coe1 {a b : ℕ} (X : (⟨3, ![1, a, b]⟩ : Shape).Idx → EReal) (h : ∀ i, max (X i) (-X i) < ⊤) :
    ∃ f : Fin a → Fin b → ℝ, X = emat1 fun i j => (f i j : EReal) := exists_mat1 X h

end Cert.Proof

end
-- ==== Proof.Block.lean ====
module

public import proofs.«01_k».proof.Proof.GateExt
public import proofs.«01_k».proof.Proof.Gen.FfnIdeal.Value
public import Idealize.ShloMosaic.Lib.Pipeline.ValueKit
public import Idealize.ShloMosaic.Lib.VecWindow

@[expose] public section

set_option maxRecDepth 16384

noncomputable section

namespace Cert.Proof.Blk

open Cert.FfnIdeal Cert.FfnIdeal.Gen Idealize.ShloMosaic
open scoped BigOperators

variable (m : (ℓ : Loc nD τ sig) → Buf (Elt Ideal) ℓ)

/-- The array rows of grid point `t`. -/
def rows (t : Fin cfg0.N) (r : Fin 256) : Fin 4096 := ⟨t.val * 256 + r.val, by have := lt_of_lt_of_eq t.isLt N_0; omega⟩

section cells
variable {n : ℕ} (z u : Fin n → Fin 2816 → EReal) (d : Fin n → Fin 1024 → EReal) (wd : Fin 2816 → Fin 1024 → EReal)

/-- One entry of the gate's gradient. -/
theorem gate_cell (y : (⟨2, ![2816, n]⟩ : Shape).Idx) (f : Fin 2816) (r : Fin n) (hf : (y 0 : ℕ) = f) (hr : (y 1 : ℕ) = r) :
    (∑ x, Ideal.ofBits FTy.f32 1056964608#32 * emat d (ix2 r x) * emat wd (ix2 f x)) * emat u (ix2 r f)
      * (Ideal.div 1 (1 + Ideal.exp (0 - emat z (ix2 r f))) * (1 + emat z (ix2 r f) * (1 - Ideal.div 1 (1 + Ideal.exp (0 - emat z (ix2 r f))))))
      = emat (fun f r => eGate z u (eLinT (eHalf d) wd) r f) y := by
  obtain rfl : y = ix2 f r := (eq_ix2 y).trans (by rw [show y 0 = f from Fin.ext hf, show y 1 = r from Fin.ext hr])
  simp only [emat_ix2, ofBits_half]; rfl

/-- One entry of the up branch's gradient. -/
theorem up_cell (y : (⟨2, ![2816, n]⟩ : Shape).Idx) (f : Fin 2816) (r : Fin n) (hf : (y 0 : ℕ) = f) (hr : (y 1 : ℕ) = r) :
    (∑ x, Ideal.ofBits FTy.f32 1056964608#32 * emat d (ix2 r x) * emat wd (ix2 f x)) * (emat z (ix2 r f)
      * Ideal.div 1 (1 + Ideal.exp (0 - emat z (ix2 r f))))
      = emat (fun f r => eUp z (eLinT (eHalf d) wd) r f) y := by
  obtain rfl : y = ix2 f r := (eq_ix2 y).trans (by rw [show y 0 = f from Fin.ext hf, show y 1 = r from Fin.ext hr])
  simp only [emat_ix2, ofBits_half]; rfl
end cells

theorem gate_blk (c : Dev nD) (t : Fin cfg0.N) (z u : Fin 256 → Fin 2816 → EReal) (d : Fin 256 → Fin 1024 → EReal) (wd : Fin 2816 → Fin 1024 → EReal)
    (hz : iblk m c 2 t = emat z) (hu : iblk m c 3 t = emat u) (hd : iblk m c 1 t = emat d) (hw : iblk m c 7 t = emat wd) :
    (outsAt0 m c t.val t.isLt).2.2.1 = emat fun f r => eGate z u (eLinT (eHalf d) wd) r f := by
  funext y
  by_cases hc : t.val % 16 = 0
  · rw [outsAt0_A m c t hc]; frame_out; rw [hz, hu, hd, hw]; clear hc
    canon_tiles y h
    all_goals (unfold_payloads; pointwise; exact gate_cell z u d wd _ _ _ h0 h1)
  · rw [outsAt0_B m c t hc]; frame_out; rw [hz, hu, hd, hw]; clear hc
    canon_tiles y h
    all_goals (unfold_payloads; pointwise; exact gate_cell z u d wd _ _ _ h0 h1)

theorem up_blk (c : Dev nD) (t : Fin cfg0.N) (z : Fin 256 → Fin 2816 → EReal) (d : Fin 256 → Fin 1024 → EReal) (wd : Fin 2816 → Fin 1024 → EReal)
    (hz : iblk m c 2 t = emat z) (hd : iblk m c 1 t = emat d) (hw : iblk m c 7 t = emat wd) :
    (outsAt0 m c t.val t.isLt).2.2.2.1 = emat fun f r => eUp z (eLinT (eHalf d) wd) r f := by
  funext y
  by_cases hc : t.val % 16 = 0
  · rw [outsAt0_A m c t hc]; frame_out; rw [hz, hd, hw]; clear hc
    canon_tiles y h
    all_goals (unfold_payloads; pointwise; exact up_cell z d wd _ _ _ h0 h1)
  · rw [outsAt0_B m c t hc]; frame_out; rw [hz, hd, hw]; clear hc
    canon_tiles y h
    all_goals (unfold_payloads; pointwise; exact up_cell z d wd _ _ _ h0 h1)

section payloads
variable (x d : Fin 256 → Fin 1024 → EReal) (g : Fin 1 → Fin 1024 → EReal) (q e : Fin 256 → Fin 2816 → EReal) (wg wu : Fin 1024 → Fin 2816 → EReal)

theorem pay67_eq : k0_pay67 (F := Ideal) (emat x) = emat fun r (_ : Fin 1) => eInv x r := by
  funext i; idx_vars i
  pointwise [k0_pay67]
  simp only [emat_ix2, ofBits_1024, ofBits_eps]
  rfl

theorem pay68_eq : k0_pay68 (F := Ideal) (emat x) = emat (eHat x) := by
  funext i; idx_vars i
  pointwise [k0_pay68]
  rw [pay67_eq]; rfl

theorem pay69_eq : k0_pay69 (F := Ideal) (emat fun f r => q r f) (emat fun f k => wg k f) (emat fun f r => e r f) (emat fun f k => wu k f)
    = emat (eDn q e wg wu) := by
  funext i; idx_vars i
  pointwise [k0_pay69]
  simp only [emat_ix2]; rfl

theorem pay70_eq (dn : Fin 256 → Fin 1024 → EReal) :
    k0_pay70 (F := Ideal) (emat fun r (_ : Fin 1) => eInv x r) (emat (eHat x)) (emat dn) (emat g) (emat d) = emat (eOut x d (g 0) dn) := by
  funext i; idx_vars i
  pointwise [k0_pay70]
  simp only [emat_ix2, ofBits_1024]
  rfl

theorem pay1_eq : k0_pay1 (F := Ideal) (emat d) = emat (eHalf d) := by
  funext i; idx_vars i
  pointwise [k0_pay1]
  simp only [emat_ix2, ofBits_half]; rfl

theorem pay72_eq (dn : Fin 256 → Fin 1024 → EReal) (A : S1x1024.Idx → EReal) (j : S1x1024.Idx) :
    k0_pay72 (F := Ideal) (emat (eHat x)) (emat dn) A j = A j + emat (fun (_ : Fin 1) k => eScale x dn k) j := by
  idx_vars j
  pointwise [k0_pay72]
  simp only [emat_ix2]; rfl
end payloads

theorem readCov_whole {κ} {sp} (v : View sig κ sp S2816x256 .bf16) (L : List (View.Piece (Elt Ideal) S2816x256 .bf16)) (inb) :
    v.readCov L (Rect.unit (s := S2816x256) ![0, 0] ![2816, 256] inb).toLoadRect = View.canon L := by
  rw [View.readCov_eq_canon']
  funext j
  exact congrArg (View.canon L) (funext fun a => Fin.ext (by rw [Rect.idx_unit_val]; fin_cases a <;> exact Nat.zero_add _))

/-- The arrays whose rows grid point `t` has in its blocks. -/
structure Blocks (c : Dev nD) (t : Fin cfg0.N) (x d : Fin 256 → Fin 1024 → EReal) (z u : Fin 256 → Fin 2816 → EReal) (g : Fin 1 → Fin 1024 → EReal)
    (wg wu : Fin 1024 → Fin 2816 → EReal) (wd : Fin 2816 → Fin 1024 → EReal) : Prop where
  b0 : iblk m c 0 t = emat x
  b1 : iblk m c 1 t = emat d
  b2 : iblk m c 2 t = emat z
  b3 : iblk m c 3 t = emat u
  b4 : iblk m c 4 t = emat g
  b5 : iblk m c 5 t = emat fun f k => wg k f
  b6 : iblk m c 6 t = emat fun f k => wu k f
  b7 : iblk m c 7 t = emat wd

section outs
variable {m} {c : Dev nD} {t : Fin cfg0.N} {x d : Fin 256 → Fin 1024 → EReal} {z u : Fin 256 → Fin 2816 → EReal} {g : Fin 1 → Fin 1024 → EReal}
  {wg wu : Fin 1024 → Fin 2816 → EReal} {wd : Fin 2816 → Fin 1024 → EReal} (B : Blocks m c t x d z u g wg wu wd)

/-- The normed row's gradient from the block's rows. -/
def dn (d : Fin 256 → Fin 1024 → EReal) (z u : Fin 256 → Fin 2816 → EReal) (wg wu : Fin 1024 → Fin 2816 → EReal) (wd : Fin 2816 → Fin 1024 → EReal) :=
  eDn (eGate z u (eLinT (eHalf d) wd)) (eUp z (eLinT (eHalf d) wd)) wg wu

include B in
theorem dh_blk : (outsAt0 m c t.val t.isLt).1 = emat (eOut x d (g 0) (dn d z u wg wu wd)) := by
  have hg := gate_blk m c t z u d wd B.b2 B.b3 B.b1 B.b7
  have hu := up_blk m c t z d wd B.b2 B.b1 B.b7
  funext y
  by_cases hc : t.val % 16 = 0
  · rw [outsAt0_A m c t hc] at hg hu ⊢
    frame_out
    simp only [readCov_whole]
    frame_out at hg; frame_out at hu
    generalize hQ : View.canon (Val := Elt Ideal) _ = Q
    rw [hQ] at hg
    generalize hE : View.canon (Val := Elt Ideal) _ = E
    rw [hE] at hu
    subst hg hu
    rw [B.b0, B.b1, B.b4, B.b5, B.b6, pay67_eq, pay68_eq, pay69_eq, pay70_eq]; rfl
  · rw [outsAt0_B m c t hc] at hg hu ⊢
    frame_out
    simp only [readCov_whole]
    frame_out at hg; frame_out at hu
    generalize hQ : View.canon (Val := Elt Ideal) _ = Q
    rw [hQ] at hg
    generalize hE : View.canon (Val := Elt Ideal) _ = E
    rw [hE] at hu
    subst hg hu
    rw [B.b0, B.b1, B.b4, B.b5, B.b6, pay67_eq, pay68_eq, pay69_eq, pay70_eq]; rfl

include B in
theorem dg_blk_A (hc : t.val % 16 = 0) (y) : (outsAt0 m c t.val t.isLt).2.1 y = emat (fun (_ : Fin 1) k => eScale x (dn d z u wg wu wd) k) y := by
  have hg := gate_blk m c t z u d wd B.b2 B.b3 B.b1 B.b7
  have hu := up_blk m c t z d wd B.b2 B.b1 B.b7
  rw [outsAt0_A m c t hc] at hg hu ⊢
  frame_out
  simp only [readCov_whole]
  frame_out at hg; frame_out at hu
  generalize hQ : View.canon (Val := Elt Ideal) _ = Q
  rw [hQ] at hg
  generalize hE : View.canon (Val := Elt Ideal) _ = E
  rw [hE] at hu
  subst hg hu
  rw [B.b0, B.b5, B.b6, pay68_eq, pay69_eq, pay72_eq]
  rw [show k0_pay71 (F := Ideal) y = 0 by idx_vars y; pointwise [k0_pay71], zero_add]; rfl

include B in
theorem dg_blk_B (hc : ¬ t.val % 16 = 0) (y) : (outsAt0 m c t.val t.isLt).2.1 y
    = (outsAt0 m c (t.val - 1) (Nat.lt_of_le_of_lt (Nat.sub_le _ _) t.isLt)).2.1 y + emat (fun (_ : Fin 1) k => eScale x (dn d z u wg wu wd) k) y := by
  have hg := gate_blk m c t z u d wd B.b2 B.b3 B.b1 B.b7
  have hu := up_blk m c t z d wd B.b2 B.b1 B.b7
  rw [outsAt0_B m c t hc] at hg hu
  rw [outsAt0_B m c t hc]
  frame_out
  simp only [readCov_whole]
  frame_out at hg; frame_out at hu
  generalize hQ : View.canon (Val := Elt Ideal) _ = Q
  rw [hQ] at hg
  generalize hE : View.canon (Val := Elt Ideal) _ = E
  rw [hE] at hu
  subst hg hu
  rw [B.b0, B.b5, B.b6, pay68_eq, pay69_eq, pay72_eq]
  rfl

include B in
theorem half_blk : (outsAt0 m c t.val t.isLt).2.2.2.2.1 = emat (eHalf d) := by
  funext y
  by_cases hc : t.val % 16 = 0
  · rw [outsAt0_A m c t hc]; frame_out; rw [B.b1, pay1_eq]
  · rw [outsAt0_B m c t hc]; frame_out; rw [B.b1, pay1_eq]

include B in
theorem mix_blk : (outsAt0 m c t.val t.isLt).2.2.2.2.2.1 = k0_pay74 (F := Ideal) (emat (eOut x d (g 0) (dn d z u wg wu wd))) (iblk m c 8 t) := by
  have hg := dh_blk B
  funext y
  by_cases hc : t.val % 16 = 0
  · rw [outsAt0_A m c t hc] at hg ⊢; frame_out at hg; frame_out
    exact congrFun (congrArg (fun A => k0_pay74 (F := Ideal) A (iblk m c 8 t)) hg) y
  · rw [outsAt0_B m c t hc] at hg ⊢; frame_out at hg; frame_out
    exact congrFun (congrArg (fun A => k0_pay74 (F := Ideal) A (iblk m c 8 t)) hg) y

include B in
theorem cast_blk : (outsAt0 m c t.val t.isLt).2.2.2.2.2.2 = emat (eOut x d (g 0) (dn d z u wg wu wd)) := by
  have hg := dh_blk B
  funext y
  by_cases hc : t.val % 16 = 0
  · rw [outsAt0_A m c t hc] at hg ⊢; frame_out at hg; frame_out
    exact (congrFun (congrArg (k0_pay73 (F := Ideal)) hg) y).trans (by idx_vars y; pointwise [k0_pay73])
  · rw [outsAt0_B m c t hc] at hg ⊢; frame_out at hg; frame_out
    exact (congrFun (congrArg (k0_pay73 (F := Ideal)) hg) y).trans (by idx_vars y; pointwise [k0_pay73])
end outs

end Cert.Proof.Blk
end
-- ==== Proof.Ref.lean ====
/- What the reference computes: its term is cut into named stages. The values of the stages at an index are in Proof/RefExt.lean and
   Proof/GateRef.lean. -/
module

public import proofs.«01_k».proof.Proof.Grad
public import proofs.«01_k».proof.Proof.Gen.FfnRefIdeal

@[expose] public section

set_option maxRecDepth 16384

noncomputable section

namespace Cert.Proof.Ref

open Cert.FfnRefIdeal Cert.FfnRefIdeal.Gen Idealize.ShloMosaic
open scoped BigOperators

abbrev A (s : Shape) := FVec Ideal s .f32

/-- The number zero, one, … as an array of every shape the reference fills with it. -/
def rVar (H : A S4096x1024) : A S4096x1 :=
  addf (Host.divf (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def rInv (H : A S4096x1024) : A S4096x1 := Host.rsqrt (rVar H)
def rSlope (H : A S4096x1024) : A S4096x1 :=
  mulf (broadcastInDim S4096x1 ![] bcast_S_S4096x1 (constant S_ .f32 0xBF000000#32)) (Host.divf (rInv H) (rVar H))
def rHat (H : A S4096x1024) : A S4096x1024 := mulf H (broadcastInDim S4096x1024 ![0, 1] bcast_S4096x1_S4096x1024_0_1 (rInv H))
def rScale (G : A S1x1024) : A S1x1024 := broadcastInDim S1x1024 ![1] bcast_S1024_S1x1024_1 (shapeCast S1024 G shapeCasts_S1x1024_S1024)
def rNrm (H : A S4096x1024) (G : A S1x1024) : A S4096x1024 :=
  mulf (rHat H) (broadcastInDim S4096x1024 ![0, 1] bcast_S1x1024_S4096x1024_0_1 (rScale G))
def rLin (N : A S4096x1024) (W : A S1x1024x2816) : A S4096x2816 :=
  addf (Host.dotGeneral dot_S4096x1024_S1024x2816_S4096x2816_1_0_0_1_n_n none N (shapeCast S1024x2816 W shapeCasts_S1x1024x2816_S1024x2816))
    (broadcastInDim S4096x2816 ![] bcast_S_S4096x2816 (constant S_ .f32 0x00000000#32))
def rSig (Z : A S4096x2816) : A S4096x2816 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf Z)))
def rHalf (D : A S4096x1024) : A S4096x1024 :=
  mulf (broadcastInDim S4096x1024 ![] bcast_S_S4096x1024 (constant S_ .f32 0x3F000000#32)) (shapeCast S4096x1024 D shapeCasts_S4096x1024_S4096x1024)
def rAct (D : A S4096x1024) (W : A S1x2816x1024) : A S4096x2816 :=
  Host.dotGeneral dot_S4096x1024_S2816x1024_S4096x2816_1_1_0_0_n_n none (rHalf D) (shapeCast S2816x1024 W shapeCasts_S1x2816x1024_S2816x1024)
def rUp (Z P : A S4096x2816) : A S4096x2816 := mulf (mulf Z (rSig Z)) P
def rGate (Z U P : A S4096x2816) : A S4096x2816 :=
  addf (mulf (mulf P U) (rSig Z)) (mulf (mulf Z (mulf P U))
    (mulf (rSig Z) (subf (broadcastInDim S4096x2816 ![] bcast_S_S4096x2816 (constant S_ .f32 0x3F800000#32)) (rSig Z))))
def rDn (Q E : A S4096x2816) (WG WU : A S1x1024x2816) : A S4096x1024 :=
  addf (Host.dotGeneral dot_S4096x2816_S1024x2816_S4096x1024_1_1_0_0_n_n none E (shapeCast S1024x2816 WU shapeCasts_S1x1024x2816_S1024x2816))
    (Host.dotGeneral dot_S4096x2816_S1024x2816_S4096x1024_1_1_0_0_n_n none Q (shapeCast S1024x2816 WG shapeCasts_S1x1024x2816_S1024x2816))
def rDg (H N : A S4096x1024) : A S1x1024 :=
  broadcastInDim S1x1024 ![1] bcast_S1024_S1x1024_1 (Host.reduceAdd (shapeCast S1x1024 (Host.reduceAdd (mulf (rHat H) N) (constant S_ .f32 0x00000000#32)
    reducesTo_S4096x1024_S1024_d0 h_S_) shapeCasts_S1024_S1x1024) (constant S_ .f32 0x00000000#32) reducesTo_S1x1024_S1024_d0 h_S_)
def rDx (N : A S4096x1024) (G : A S1x1024) : A S4096x1024 := mulf N (broadcastInDim S4096x1024 ![0, 1] bcast_S1x1024_S4096x1024_0_1 (rScale G))
def rBack (H X : A S4096x1024) : A S4096x1024 :=
  broadcastInDim S4096x1024 ![0] bcast_S4096_S4096x1024_0 (Host.reduceAdd (Host.divf (mulf (shapeCast S4096x1 (Host.reduceAdd (mulf H X) (constant S_ .f32 0x00000000#32)
    reducesTo_S4096x1024_S4096_d1 h_S_) shapeCasts_S4096_S4096x1) (rSlope H)) (broadcastInDim S4096x1 ![] bcast_S_S4096x1 (constant S_ .f32 0x44800000#32)))
    (constant S_ .f32 0x00000000#32) reducesTo_S4096x1_S4096_d1 h_S_)
def rDh (H D X : A S4096x1024) : A S4096x1024 :=
  addf (addf (addf D (mulf X (broadcastInDim S4096x1024 ![0, 1] bcast_S4096x1_S4096x1024_0_1 (rInv H)))) (mulf H (rBack H X))) (mulf (rBack H X) H)

end Cert.Proof.Ref

end
-- ==== Proof.Final.lean ====
/- The kernel's arrays after its run: each result is the array of the gradients of
   Proof/GateExt.lean. The blocks of Proof/Block.lean are put together over the grid points; the norm scale's gradient
   is summed over them. -/
module

public import proofs.«01_k».proof.Proof.Block
public import proofs.«01_k».proof.Proof.Ref

@[expose] public section

set_option maxRecDepth 16384

noncomputable section

namespace Cert.Proof.Blk

open Cert.FfnIdeal Cert.FfnIdeal.Gen Idealize.ShloMosaic
open scoped BigOperators

variable (m : (ℓ : Loc nD τ sig) → Buf (Elt Ideal) ℓ) (c : Dev nD)

/-- The arguments as matrices. -/
structure Args (x d : Fin 4096 → Fin 1024 → EReal) (g : Fin 1 → Fin 1024 → EReal) (wg wu : Fin 1024 → Fin 2816 → EReal)
    (wd : Fin 2816 → Fin 1024 → EReal) : Prop where
  a0 : m ((c.tc : Thread nD τ).loc main_arg0) = emat x
  a1 : m ((c.tc : Thread nD τ).loc main_arg1) = emat d
  a2 : m ((c.tc : Thread nD τ).loc main_arg2) = emat g
  a3 : m ((c.tc : Thread nD τ).loc main_arg3) = emat1 wg
  a4 : m ((c.tc : Thread nD τ).loc main_arg4) = emat1 wu
  a5 : m ((c.tc : Thread nD τ).loc main_arg5) = emat1 wd

theorem idx_row : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_9.index t 0 = t.val ∧ win0_9.index t 1 = 0)
    ∧ (win0_13.index t 0 = t.val ∧ win0_13.index t 1 = 0) ∧ (win0_14.index t 0 = t.val ∧ win0_14.index t 1 = 0) ∧ (win0_15.index t 0 = t.val ∧ win0_15.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_9.index t 0 = t.val ∧ win0_9.index t 1 = 0)
    ∧ (win0_13.index t 0 = t.val ∧ win0_13.index t 1 = 0) ∧ (win0_14.index t 0 = t.val ∧ win0_14.index t 1 = 0) ∧ (win0_15.index t 0 = t.val ∧ win0_15.index t 1 = 0))

theorem idx_all : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = 0)
    ∧ (win0_10.index t 0 = 0 ∧ win0_10.index t 1 = 0) ∧ (win0_11.index t 0 = 0 ∧ win0_11.index t 1 = t.val) ∧ (win0_12.index t 0 = 0 ∧ win0_12.index t 1 = t.val) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = 0)
    ∧ (win0_10.index t 0 = 0 ∧ win0_10.index t 1 = 0) ∧ (win0_11.index t 0 = 0 ∧ win0_11.index t 1 = t.val) ∧ (win0_12.index t 0 = 0 ∧ win0_12.index t 1 = t.val))

section
variable {m c} {x d : Fin 4096 → Fin 1024 → EReal} {g : Fin 1 → Fin 1024 → EReal} {wg wu : Fin 1024 → Fin 2816 → EReal} {wd : Fin 2816 → Fin 1024 → EReal}
  (A : Args m c x d g wg wu wd) (t : Fin cfg0.N)

include A in
theorem V_gate : V m c main_v16 = emat (eLin (eNrm x (g 0)) wg) := by
  have h0 : m (c, Proc.tc.devRef main_arg0) = emat x := A.a0
  have h2 : m (c, Proc.tc.devRef main_arg2) = emat g := A.a2
  have h3 : m (c, Proc.tc.devRef main_arg3) = emat1 wg := A.a3
  entry_read
  rw [h0, h2, h3]
  funext i; idx_vars i; pointwise
  simp only [emat_ix2, emat1_ix3, ofBits_1024, ofBits_eps]
  rfl

include A in
theorem V_up : V m c main_v19 = emat (eLin (eNrm x (g 0)) wu) := by
  have h0 : m (c, Proc.tc.devRef main_arg0) = emat x := A.a0
  have h2 : m (c, Proc.tc.devRef main_arg2) = emat g := A.a2
  have h4 : m (c, Proc.tc.devRef main_arg4) = emat1 wu := A.a4
  entry_read
  rw [h0, h2, h4]
  funext i; idx_vars i; pointwise
  simp only [emat_ix2, emat1_ix3, ofBits_1024, ofBits_eps]
  rfl

include A in
theorem V_wg : V m c main_v22 = emat fun f k => wg k f := by
  have h3 : m (c, Proc.tc.devRef main_arg3) = emat1 wg := A.a3
  entry_read; rw [h3]
  funext i; idx_vars i; pointwise; rfl

include A in
theorem V_wu : V m c main_v25 = emat fun f k => wu k f := by
  have h3 : m (c, Proc.tc.devRef main_arg4) = emat1 wu := A.a4
  entry_read; rw [h3]
  funext i; idx_vars i; pointwise; rfl

include A in
theorem V_wd : V m c main_v27 = emat wd := by
  have h3 : m (c, Proc.tc.devRef main_arg5) = emat1 wd := A.a5
  entry_read; rw [h3]
  funext i; idx_vars i; pointwise; rfl

include A in
theorem blocks : Blocks m c t (fun r => x (rows t r)) (fun r => d (rows t r)) (fun r => eLin (eNrm x (g 0)) wg (rows t r))
    (fun r => eLin (eNrm x (g 0)) wu (rows t r)) g wg wu wd := by
  obtain ⟨i0, i1, i2, i3, -⟩ := idx_row t
  obtain ⟨i4, i5, i6, i7, -⟩ := idx_all t
  have V0 : V m c main_arg0 = emat x := (V_main_arg0 m c).trans A.a0
  have V1 : V m c main_arg1 = emat d := (V_main_arg1 m c).trans A.a1
  have V4 : V m c main_arg2 = emat g := (V_main_arg2 m c).trans A.a2
  constructor
  · funext i; blk_simp [iblk]; rw [V0]; exact emat_at _ _ (rows t (i 0)) (i 1) (by blk_simp [i0]; rfl) (by blk_simp [i0])
  · funext i; blk_simp [iblk]; rw [V1]; exact emat_at _ _ (rows t (i 0)) (i 1) (by blk_simp [i1]; rfl) (by blk_simp [i1])
  · funext i; blk_simp [iblk]; rw [V_gate A]; exact emat_at _ _ (rows t (i 0)) (i 1) (by blk_simp [i2]; rfl) (by blk_simp [i2])
  · funext i; blk_simp [iblk]; rw [V_up A]; exact emat_at _ _ (rows t (i 0)) (i 1) (by blk_simp [i3]; rfl) (by blk_simp [i3])
  · funext i; blk_simp [iblk]; rw [V4]; exact emat_at _ _ (i 0) (i 1) (by blk_simp [i4]) (by blk_simp [i4])
  · funext i; blk_simp [iblk]; rw [V_wg A]; exact emat_at _ _ (i 0) (i 1) (by blk_simp [i5]) (by blk_simp [i5])
  · funext i; blk_simp [iblk]; rw [V_wu A]; exact emat_at _ _ (i 0) (i 1) (by blk_simp [i6]) (by blk_simp [i6])
  · funext i; blk_simp [iblk]; rw [V_wd A]; exact emat_at _ _ (i 0) (i 1) (by blk_simp [i7]) (by blk_simp [i7])

/-- The normed row's gradient over the whole array. -/
def dnAll (x d : Fin 4096 → Fin 1024 → EReal) (g : Fin 1024 → EReal) (wg wu : Fin 1024 → Fin 2816 → EReal) (wd : Fin 2816 → Fin 1024 → EReal) :
    Fin 4096 → Fin 1024 → EReal :=
  eDn (eGate (eLin (eNrm x g) wg) (eLin (eNrm x g) wu) (eLinT (eHalf d) wd)) (eUp (eLin (eNrm x g) wg) (eLinT (eHalf d) wd)) wg wu

include A in
theorem arr9 : (dats m 0 c).arrAt 9 (cfgs 0).N = emat (eOut x d (g 0) (dnAll x d (g 0) wg wu wd)) := by
  refine (dats m 0 c).arrAt_eq_of_covers 9 _ (by decide +kernel) fun t hf y => ?_
  have ij := (idx_row t).2.2.2.2.1
  blk_simp
  rw [after0_9, dh_blk (blocks A t)]
  refine Eq.trans ?_ (emat_at (eOut x d (g 0) (dnAll x d (g 0) wg wu wd)) ((win0_9.blk t).view.emb y) (rows t (y 0)) (y 1) ?_ ?_).symm
  · rfl
  · blk_simp [ij]; rfl
  · blk_simp [ij]

include A in
theorem arr11 : (dats m 0 c).arrAt 11 (cfgs 0).N
    = emat fun f r => eGate (eLin (eNrm x (g 0)) wg) (eLin (eNrm x (g 0)) wu) (eLinT (eHalf d) wd) r f := by
  refine (dats m 0 c).arrAt_eq_of_covers 11 _ (by decide +kernel) fun t hf y => ?_
  have ij := (idx_all t).2.2.2.2.2.2.1
  have B := blocks A t
  blk_simp
  rw [after0_11, gate_blk m c t _ _ _ _ B.b2 B.b3 B.b1 B.b7]
  refine Eq.trans ?_ (emat_at (fun f r => eGate (eLin (eNrm x (g 0)) wg) (eLin (eNrm x (g 0)) wu) (eLinT (eHalf d) wd) r f) ((win0_11.blk t).view.emb y) (y 0) (rows t (y 1)) ?_ ?_).symm
  · rfl
  · blk_simp [ij]
  · blk_simp [ij]; rfl

include A in
theorem arr12 : (dats m 0 c).arrAt 12 (cfgs 0).N = emat fun f r => eUp (eLin (eNrm x (g 0)) wg) (eLinT (eHalf d) wd) r f := by
  refine (dats m 0 c).arrAt_eq_of_covers 12 _ (by decide +kernel) fun t hf y => ?_
  have ij := (idx_all t).2.2.2.2.2.2.2
  have B := blocks A t
  blk_simp
  rw [after0_12, up_blk m c t _ _ _ B.b2 B.b1 B.b7]
  refine Eq.trans ?_ (emat_at (fun f r => eUp (eLin (eNrm x (g 0)) wg) (eLinT (eHalf d) wd) r f) ((win0_12.blk t).view.emb y) (y 0) (rows t (y 1)) ?_ ?_).symm
  · rfl
  · blk_simp [ij]
  · blk_simp [ij]; rfl

include A in
theorem arr13 : (dats m 0 c).arrAt 13 (cfgs 0).N = emat (eHalf d) := by
  refine (dats m 0 c).arrAt_eq_of_covers 13 _ (by decide +kernel) fun t hf y => ?_
  have ij := (idx_row t).2.2.2.2.2.1
  blk_simp
  rw [after0_13, half_blk (blocks A t)]
  refine Eq.trans ?_ (emat_at (eHalf d) ((win0_13.blk t).view.emb y) (rows t (y 0)) (y 1) ?_ ?_).symm
  · rfl
  · blk_simp [ij]; rfl
  · blk_simp [ij]

include A in
theorem arr15 : (dats m 0 c).arrAt 15 (cfgs 0).N = emat (eOut x d (g 0) (dnAll x d (g 0) wg wu wd)) := by
  refine (dats m 0 c).arrAt_eq_of_covers 15 _ (by decide +kernel) fun t hf y => ?_
  have ij := (idx_row t).2.2.2.2.2.2.2
  blk_simp
  rw [after0_15, cast_blk (blocks A t)]
  refine Eq.trans ?_ (emat_at (eOut x d (g 0) (dnAll x d (g 0) wg wu wd)) ((win0_15.blk t).view.emb y) (rows t (y 0)) (y 1) ?_ ?_).symm
  · rfl
  · blk_simp [ij]; rfl
  · blk_simp [ij]

/-- The product of the input's gradient with the output weight. -/
def mixAll (D : Fin 4096 → Fin 1024 → EReal) (W : S1x1024x1024.Idx → EReal) : S4096x1024.Idx → EReal :=
  fun i => ∑ k, D (i 0) k * W (ix3 0 (i 1) k)

theorem mixAll_at (D : Fin 4096 → Fin 1024 → EReal) (W : S1x1024x1024.Idx → EReal) (j : S4096x1024.Idx) (r : Fin 4096) (k : Fin 1024)
    (h0 : (j 0 : ℕ) = r) (h1 : (j 1 : ℕ) = k) : mixAll D W j = ∑ l, D r l * W (ix3 0 k l) := by
  obtain rfl : j = ix2 r k := (eq_ix2 j).trans (by rw [show j 0 = r from Fin.ext h0, show j 1 = k from Fin.ext h1])
  rfl

theorem V_wo (i : S1024x1024.Idx) : V m c main_v29 i = m ((c.tc : Thread nD τ).loc main_arg6) (ix3 0 (i 0) (i 1)) := by
  entry_read
  idx_vars i; pointwise

theorem blk8 (i : S1024x1024.Idx) : iblk m c 8 t i = m ((c.tc : Thread nD τ).loc main_arg6) (ix3 0 (i 0) (i 1)) := by
  have i8 := (idx_all t).2.2.2.2.1
  blk_simp [iblk]
  rw [V_wo]
  congr 2 <;> exact Fin.ext (by blk_simp [i8])

theorem pay74_at (D : Fin 256 → Fin 1024 → EReal) (W : S1024x1024.Idx → EReal) (y : S256x1024.Idx) :
    k0_pay74 (F := Ideal) (emat D) W y = ∑ l, D (y 0) l * W (ix2 (y 1) l) := by
  idx_vars y
  pointwise [k0_pay74, k0_pay73]; rfl

include A in
theorem arr14 : (dats m 0 c).arrAt 14 (cfgs 0).N = mixAll (eOut x d (g 0) (dnAll x d (g 0) wg wu wd)) (m ((c.tc : Thread nD τ).loc main_arg6)) := by
  refine (dats m 0 c).arrAt_eq_of_covers 14 _ (by decide +kernel) fun t hf y => ?_
  have ij := (idx_row t).2.2.2.2.2.2.1
  blk_simp
  rw [after0_14, mix_blk (blocks A t)]
  refine Eq.trans ?_ (mixAll_at (eOut x d (g 0) (dnAll x d (g 0) wg wu wd)) (m ((c.tc : Thread nD τ).loc main_arg6)) ((win0_14.blk t).view.emb y)
    (rows t (y 0)) (y 1) ?_ ?_).symm
  · exact (pay74_at _ _ _).trans (Finset.sum_congr (M := EReal) rfl fun l _ => congrArg (_ * ·) (blk8 t _))
  · blk_simp [ij]; rfl
  · blk_simp [ij]

include A in
theorem arr10 : (dats m 0 c).arrAt 10 (cfgs 0).N = emat fun (_ : Fin 1) k => eScale x (dnAll x d (g 0) wg wu wd) k := by
  refine (dats m 0 c).arrAt_eq_of_covers 10 _ (by decide +kernel) fun t hf y => ?_
  have ij := (idx_all t).2.2.2.2.2.1
  have ht : t.val < 16 := lt_of_lt_of_eq t.isLt N_0
  blk_simp
  rw [after0_10, Pipeline.eq_sum_fin_of_reset_step_apply_of_flush (fun n h => (outsAt0 m c n h).2.1) 16 (fun _ => 0)
    (fun t j => emat (fun (_ : Fin 1) k => eScale (fun r => x (rows t r)) (fun r => dnAll x d (g 0) wg wu wd (rows t r)) k) j)
    (fun t h j => by rw [dg_blk_A (blocks A t) h, zero_add]; rfl) (fun t h j => by rw [dg_blk_B (blocks A t) h]; rfl) t ((flush0_10 t).mp hf) _, zero_add]
  refine Eq.trans ?_ (emat_at (fun (_ : Fin 1) k => eScale x (dnAll x d (g 0) wg wu wd) k) ((win0_10.blk t).view.emb y) (y 0) (y 1) ?_ ?_).symm
  · refine Fin.sum_mul_add_congr (fun s k hl => ?_)
    have e : rows ⟨16 * (t.val / 16) + s.val, Pipeline.run_point_lt_of_flush t ((flush0_10 t).mp hf) s⟩ k = ⟨s.val * 256 + k.val, hl⟩ :=
      Fin.ext (by show (16 * (t.val / 16) + s.val) * 256 + k.val = s.val * 256 + k.val; rw [Nat.div_eq_of_lt ht]; omega)
    exact congrArg (fun r : Fin 4096 => dnAll x d (g 0) wg wu wd r (y 1) * eHat x r (y 1)) e
  · blk_simp [ij]
  · blk_simp [ij]

end

end Cert.Proof.Blk
end
-- ==== Proof.RefExt.lean ====
/- The reference's stages at any arguments, infinite ones too: each is the array of the extended reals of Proof/Ext.lean. -/
module

public import proofs.«01_k».proof.Proof.Ext
public import proofs.«01_k».proof.Proof.Ref

@[expose] public section

set_option maxRecDepth 16384

noncomputable section

namespace Cert.Proof.Ref

open Cert.FfnRefIdeal Cert.FfnRefIdeal.Gen Idealize.ShloMosaic
open scoped BigOperators

variable (x d : Fin 4096 → Fin 1024 → EReal) (g : Fin 1 → Fin 1024 → EReal) (w w' : Fin 1024 → Fin 2816 → EReal) (z u : Fin 4096 → Fin 2816 → EReal)

theorem rVar_at : rVar (emat x) = emat fun r (_ : Fin 1) => eVar x r := by
  funext i; idx_vars i
  pointwise [rVar]
  simp only [emat_ix2, ofBits_1024, ofBits_eps]; rfl

theorem rInv_at : rInv (emat x) = emat fun r (_ : Fin 1) => eInv x r := by
  funext i; idx_vars i
  pointwise [rInv]
  rw [rVar_at]; rfl

theorem rSlope_at : rSlope (emat x) = emat fun r (_ : Fin 1) => ((-(1 / 2) : ℝ) : EReal) * Ideal.div (eInv x r) (eVar x r) := by
  funext i; idx_vars i
  pointwise [rSlope]
  rw [rVar_at, rInv_at]
  simp only [emat_ix2, ofBits_neg_half]

theorem rHat_at : rHat (emat x) = emat (eHat x) := by
  funext i; idx_vars i
  pointwise [rHat]
  rw [rInv_at]; rfl

theorem rNrm_at : rNrm (emat x) (emat g) = emat (eNrm x (g 0)) := by
  funext i; idx_vars i
  pointwise [rNrm, rScale]
  rw [rHat_at]; rfl

theorem rUp_at : rUp (emat z) (emat u) = emat fun r f => z r f * Ideal.div 1 (1 + Ideal.exp (0 - z r f)) * u r f := by
  funext i; idx_vars i
  pointwise [rUp, rSig]
  simp only [emat_ix2, zero_sub]

theorem rDn_at : rDn (emat z) (emat u) (emat1 w) (emat1 w') = emat (eDn z u w w') := by
  funext i; idx_vars i
  pointwise [rDn]
  simp only [emat_ix2, emat1_ix3]
  rw [add_comm]; rfl

theorem rDg_at : rDg (emat x) (emat d) = emat fun (_ : Fin 1) k => eScale x d k := by
  funext i; idx_vars i
  pointwise [rDg]
  rw [rHat_at]
  simp only [emat_ix2, Finset.univ_unique, Finset.sum_singleton]
  unfold eScale; exact Finset.sum_congr rfl fun r _ => mul_comm _ _

theorem rDx_at : rDx (emat d) (emat g) = emat fun r k => d r k * g 0 k := by
  funext i; idx_vars i
  pointwise [rDx, rScale]
  simp only [emat_ix2]

theorem rBack_at : rBack (emat x) (emat d) = emat fun r (_ : Fin 1024) => eBack x d r := by
  funext i; idx_vars i
  pointwise [rBack]
  rw [rSlope_at]
  simp only [emat_ix2, ofBits_1024, Finset.univ_unique, Finset.sum_singleton]; rfl

theorem rDh_at (D : A S4096x1024) (n : Fin 4096 → Fin 1024 → EReal) (γ : Fin 1024 → EReal) (i : S4096x1024.Idx) :
    rDh (emat x) D (emat fun r k => n r k * γ k) i = D i + emat (eIn x γ n) i := by
  idx_vars i
  pointwise [rDh]
  rw [rInv_at, rBack_at]
  simp only [emat_ix2]
  rw [add_assoc, add_assoc, ← add_assoc _ _ (eBack _ _ _ * _)]
  exact congrArg (_ + ·) (eIn_eq x γ n i0 i1)

/-- The transposed array, its format change being the identity. -/
theorem transpose_at (f : Fin 4096 → Fin 2816 → EReal) :
    (truncf (F := Ideal) .bf16 (transpose S2816x4096 [1, 0] (emat f : A S4096x2816) transposes_S4096x2816_S2816x4096_1_0) bitsLt_bf16_f32 : S2816x4096.Idx → EReal)
      = emat fun k r => f r k := by
  funext i; idx_vars i; pointwise; rfl

end Cert.Proof.Ref

end
-- ==== Proof.GateRef.lean ====
/- The reference's stages of the gates' gradients at any arguments of the gate. -/
module

public import proofs.«01_k».proof.Proof.GateExt
public import proofs.«01_k».proof.Proof.RefExt

@[expose] public section

set_option maxRecDepth 16384

noncomputable section

namespace Cert.Proof.Ref

open Cert.FfnRefIdeal Cert.FfnRefIdeal.Gen Idealize.ShloMosaic
open scoped BigOperators

variable (x d : Fin 4096 → Fin 1024 → EReal) (w : Fin 1024 → Fin 2816 → EReal) (wd : Fin 2816 → Fin 1024 → EReal) (z u p : Fin 4096 → Fin 2816 → EReal)

theorem rLin_at : rLin (emat x) (emat1 w) = emat (eLin x w) := by
  funext i; idx_vars i
  pointwise [rLin]; rfl

theorem rHalf_at : rHalf (emat d) = emat (eHalf d) := by
  funext i; idx_vars i
  pointwise [rHalf]
  simp only [emat_ix2, ofBits_half]; rfl

theorem rAct_at : rAct (emat d) (emat1 wd) = emat (eLinT (eHalf d) wd) := by
  funext i; idx_vars i
  pointwise [rAct]
  rw [rHalf_at]; rfl

theorem rSig_at : rSig (emat z) = emat fun r f => eSig (z r f) := by
  funext i; idx_vars i
  pointwise [rSig]
  simp only [emat_ix2, eSig, zero_sub]

theorem rUpG_at : rUp (emat z) (emat p) = emat (eUp z p) := by
  funext i; idx_vars i
  pointwise [rUp]
  rw [rSig_at]
  exact mul_comm _ _

theorem rGate_at (h : ∀ r f, ∃ c : ℝ, p r f * u r f = c) : rGate (emat z) (emat u) (emat p) = emat (eGate z u p) := by
  funext i; idx_vars i
  pointwise [rGate]
  rw [rSig_at]
  simp only [emat_ix2]
  unfold eGate
  obtain ⟨c, hc⟩ := h i0 i1
  rw [hc]; exact eGate_eq c _

theorem rOut_at (n : Fin 4096 → Fin 1024 → EReal) (γ : Fin 1024 → EReal) : rDh (emat x) (emat d) (emat fun r k => n r k * γ k) = emat (eOut x d γ n) := by
  funext i; exact rDh_at x _ n γ i

end Cert.Proof.Ref

end
-- ==== Proof.Out.lean ====
/- The reference's results after its run, by the stages of Proof/Ref.lean: the same gradients as
   the kernel's arrays, where the factor of the gate's derivative is real. -/
module

public import proofs.«01_k».proof.Proof.GateRef
public import proofs.«01_k».proof.Proof.Gen.FfnRefIdeal.Run

@[expose] public section

set_option maxRecDepth 16384

noncomputable section

namespace Cert.Proof.Ref

open Cert.FfnRefIdeal Cert.FfnRefIdeal.Gen Cert.FfnRefIdeal.Value Idealize.ShloMosaic
open scoped BigOperators

variable (m : (ℓ : Loc nD τ sig) → Buf (Elt Ideal) ℓ) (c : Dev nD)

abbrev arg0 : A S4096x1024 := m ((c.tc : Thread nD τ).loc main_arg0)
abbrev arg1 : A S4096x1024 := m ((c.tc : Thread nD τ).loc main_arg1)
abbrev arg2 : A S1x1024 := m ((c.tc : Thread nD τ).loc main_arg2)
abbrev arg3 : A S1x1024x2816 := m ((c.tc : Thread nD τ).loc main_arg3)
abbrev arg4 : A S1x1024x2816 := m ((c.tc : Thread nD τ).loc main_arg4)
abbrev arg5 : A S1x2816x1024 := m ((c.tc : Thread nD τ).loc main_arg5)
abbrev arg6 : A S1x1024x1024 := m ((c.tc : Thread nD τ).loc main_arg6)

def sZ : A S4096x2816 := rLin (rNrm (arg0 m c) (arg2 m c)) (arg3 m c)
def sU : A S4096x2816 := rLin (rNrm (arg0 m c) (arg2 m c)) (arg4 m c)
def sQ : A S4096x2816 := rGate (sZ m c) (sU m c) (rAct (arg1 m c) (arg5 m c))
def sE : A S4096x2816 := rUp (sZ m c) (rAct (arg1 m c) (arg5 m c))
def sN : A S4096x1024 := rDn (sQ m c) (sE m c) (arg3 m c) (arg4 m c)
def sH : A S4096x1024 := rDh (arg0 m c) (arg1 m c) (rDx (sN m c) (arg2 m c))

theorem out0 : res_out0 m c = sH m c := rfl
theorem out1 : res_out1 m c = rDg (arg0 m c) (sN m c) := rfl
theorem out2 : res_out2 m c = truncf .bf16 (transpose S2816x4096 [1, 0] (sQ m c) transposes_S4096x2816_S2816x4096_1_0) bitsLt_bf16_f32 := rfl
theorem out6 : res_out6 m c = truncf .bf16 (sH m c) bitsLt_bf16_f32 := rfl

section
variable {m c} {x d : Fin 4096 → Fin 1024 → EReal} {g : Fin 1 → Fin 1024 → EReal} {wg wu : Fin 1024 → Fin 2816 → EReal} {wd : Fin 2816 → Fin 1024 → EReal}
  (h0 : arg0 m c = emat x) (h1 : arg1 m c = emat d) (h2 : arg2 m c = emat g) (h3 : arg3 m c = emat1 wg) (h4 : arg4 m c = emat1 wu) (h5 : arg5 m c = emat1 wd)

include h0 h1 h2 h3 h5 in
theorem sE_eq : sE m c = emat (eUp (eLin (eNrm x (g 0)) wg) (eLinT (eHalf d) wd)) := by
  unfold sE sZ; rw [h0, h1, h2, h3, h5, rNrm_at, rLin_at, rAct_at, rUpG_at]

variable (hc : ∀ r f, ∃ q : ℝ, eLinT (eHalf d) wd r f * eLin (eNrm x (g 0)) wu r f = q)

include h0 h1 h2 h3 h4 h5 hc
theorem sQ_eq : sQ m c = emat (eGate (eLin (eNrm x (g 0)) wg) (eLin (eNrm x (g 0)) wu) (eLinT (eHalf d) wd)) := by
  unfold sQ sZ sU; rw [h0, h1, h2, h3, h4, h5, rNrm_at, rLin_at, rLin_at, rAct_at, rGate_at _ _ _ hc]

theorem sN_eq : sN m c = emat (eDn (eGate (eLin (eNrm x (g 0)) wg) (eLin (eNrm x (g 0)) wu) (eLinT (eHalf d) wd)) (eUp (eLin (eNrm x (g 0)) wg) (eLinT (eHalf d) wd)) wg wu) := by
  unfold sN; rw [sQ_eq h0 h1 h2 h3 h4 h5 hc, sE_eq h0 h1 h2 h3 h5, h3, h4, rDn_at]

theorem sH_eq : sH m c = emat (eOut x d (g 0) (eDn (eGate (eLin (eNrm x (g 0)) wg) (eLin (eNrm x (g 0)) wu) (eLinT (eHalf d) wd)) (eUp (eLin (eNrm x (g 0)) wg) (eLinT (eHalf d) wd)) wg wu)) := by
  unfold sH; rw [sN_eq h0 h1 h2 h3 h4 h5 hc, h0, h1, h2, rDx_at, rOut_at]
end

theorem out5 : res_out5 m c = Host.dotGeneral dot_S4096x1024_S1024x1024_S4096x1024_1_1_0_0_n_n none (sH m c)
    (shapeCast S1024x1024 (arg6 m c) shapeCasts_S1x1024x1024_S1024x1024) := rfl

theorem cast_eq' (X : A S4096x1024) : (truncf (F := Ideal) .bf16 X bitsLt_bf16_f32 : S4096x1024.Idx → EReal) = X := rfl

theorem mix_eq (D : Fin 4096 → Fin 1024 → EReal) (W : A S1x1024x1024) :
    Host.dotGeneral (φ₁ := .f32) (φ₂ := .f32) dot_S4096x1024_S1024x1024_S4096x1024_1_1_0_0_n_n none (emat D : A S4096x1024) (shapeCast S1024x1024 W shapeCasts_S1x1024x1024_S1024x1024)
      = fun i => ∑ l, D (i 0) l * W (ix3 0 (i 1) l) := by
  funext i; idx_vars i; pointwise; rfl

end Cert.Proof.Ref
end
-- ==== Proof.Pre.lean ====
/- The precondition: the facts its printed function states, and what it says — every entry of the arrays it names
   is finite. -/
module

public import proofs.«01_k».proof.Proof.Real
public import proofs.«01_k».proof.Pre_finite
public import Idealize.ShloMosaic.Lib.Claim
public import Idealize.ShloMosaic.Lib.ReduceAll

@[expose] public section

set_option maxRecDepth 16384

noncomputable section

namespace Cert.Proof

open Cert.Pre_finite Idealize.ShloMosaic

theorem pre_facts : Cert.Pre_finite.Facts where
  bcast_S_S4096x1024 := by decide
  reducesTo_S4096x1024_S_d0_1 := by decide
  h_S_ := by decide
  bcast_S_S1x1024 := by decide
  reducesTo_S1x1024_S_d0_1 := by decide
  bcast_S_S1x1024x2816 := by decide
  reducesTo_S1x1024x2816_S_d0_1_2 := by decide
  bcast_S_S1x2816x1024 := by decide
  reducesTo_S1x2816x1024_S_d0_1_2 := by decide

theorem andi_one {a b : BitVec 1} (h : IntOp.andi a b = 1#1) : a = 1#1 ∧ b = 1#1 := by revert a b; decide

/-- Where the comparison with +∞ holds, the entry is finite. -/
theorem finite_of_cmp {s : Shape} (X T : FVec Ideal s .f32) (hT : ∀ i, T i = ⊤) (i : s.Idx) (h : cmpf .olt (Host.absf X) T i = 1#1) :
    max (X i) (-X i) < ⊤ := by
  have h' : BitVec.ofBool (decide (max (X i) (-X i) < T i)) = 1#1 := h
  rw [hT] at h'
  by_contra hn
  rw [decide_eq_false hn] at h'
  exact absurd h' (by decide)

/-- The same of a whole array, where all the comparisons hold. -/
theorem all_finite {s : Shape} {axes : List (Fin s.rank)} {X T : FVec Ideal s .f32} (hT : ∀ i, T i = ⊤) {c : S_.Idx → BitVec 1} {hr hS} {j : S_.Idx}
    (h : Host.reduce (t := S_) (axes := axes) IntOp.andi (cmpf .olt (Host.absf X) T) c hr hS j = 1#1) (i : s.Idx) : max (X i) (-X i) < ⊤ :=
  finite_of_cmp X T hT i (Host.reduce_andi_all _ _ hr hS j h i)

attribute [local instance] pre_facts in
theorem pre_finite (a0 a1 : FVec Ideal S4096x1024 .f32) (a2 : FVec Ideal S1x1024 .f32) (a3 a4 : FVec Ideal S1x1024x2816 .f32)
    (a5 : FVec Ideal S1x2816x1024 .f32) (a6 : FVec Ideal S1x1024x1024 .f32) (j : S_.Idx) (h : Cert.Pre_finite.fn (F := Ideal) a0 a1 a2 a3 a4 a5 a6 j = 1#1) :
    (∀ i, max (a1 i) (-a1 i) < ⊤) ∧ (∀ i, max (a2 i) (-a2 i) < ⊤) ∧ (∀ i, max (a4 i) (-a4 i) < ⊤) ∧ (∀ i, max (a5 i) (-a5 i) < ⊤) := by
  obtain ⟨h, h3⟩ := andi_one h
  obtain ⟨h, h2⟩ := andi_one h
  obtain ⟨h0, h1⟩ := andi_one h
  exact ⟨all_finite (fun _ => ofBits_top) h0, all_finite (fun _ => ofBits_top) h1, all_finite (fun _ => ofBits_top) h2, all_finite (fun _ => ofBits_top) h3⟩

end Cert.Proof
end
-- ==== Proof.AttnReal.lean ====
/- The attention's backward pass over real numbers: the softmax with a sink, of one query row over its banded keys, its
   gradient, and the gradients of one block of 128 queries; and the same softmax written with extended reals, where a
   masked score is −∞ and a common real number is subtracted from every exponent. -/
module

public import proofs.«01_k».proof.Proof.Real

@[expose] public section

noncomputable section

namespace Cert.Proof.Attn

open Idealize.ShloMosaic
open scoped BigOperators

section Row

variable {ι : Type} [Fintype ι] (p : ι → Prop) [DecidablePred p] (x y : ι → ℝ) (σ : ℝ)

/-- A key's weight before the division: the exponential of its score, nothing where the mask forbids the key. -/
def ev (s : ι) : ℝ := if p s then Real.exp (x s) else 0
/-- The softmax's denominator, with the sink's share. -/
def den : ℝ := ∑ s, ev p x s + Real.exp σ
/-- The attention weight of a key. -/
def wt (s : ι) : ℝ := ev p x s / den p x σ
/-- The attention weight that the sink takes. -/
def wsink : ℝ := Real.exp σ / den p x σ
/-- The mean of the weights' cotangents `y` under the weights. -/
def del : ℝ := ∑ s, wt p x σ s * y s
/-- The gradient of a score. -/
def dsc (s : ι) : ℝ := wt p x σ s * (y s - del p x y σ)
/-- The gradient of the sink's logit. -/
def dsk : ℝ := -(wsink p x σ * del p x y σ)

theorem ev_nonneg (s : ι) : 0 ≤ ev p x s := by unfold ev; split <;> positivity

theorem den_pos : 0 < den p x σ :=
  add_pos_of_nonneg_of_pos (Finset.sum_nonneg fun s _ => ev_nonneg p x s) (Real.exp_pos σ)

theorem wt_of_not {s : ι} (h : ¬p s) : wt p x σ s = 0 := by simp [wt, ev, h]

theorem dsc_of_not {s : ι} (h : ¬p s) : dsc p x y σ s = 0 := by simp [dsc, wt_of_not p x σ h]

/-- A masked score. -/
def msk (s : ι) : EReal := if p s then (x s : EReal) else ⊥

/-- The exponential of a masked score from which a real number was subtracted. -/
theorem exp_msk (m : ℝ) (s : ι) : Ideal.exp (msk p x s - (m : EReal)) = ((ev p x s * Real.exp (-m) : ℝ) : EReal) := by
  unfold msk ev
  split
  · rw [← EReal.coe_sub, exp_coe, sub_eq_add_neg, Real.exp_add]
  · rw [EReal.bot_sub, zero_mul]; rfl

theorem exp_sink (m : ℝ) : Ideal.exp ((σ : EReal) - (m : EReal)) = ((Real.exp σ * Real.exp (-m) : ℝ) : EReal) := by
  rw [← EReal.coe_sub, exp_coe, sub_eq_add_neg, Real.exp_add]

theorem den_shift (m : ℝ) : ∑ s, ev p x s * Real.exp (-m) + Real.exp σ * Real.exp (-m) = den p x σ * Real.exp (-m) := by
  rw [den, add_mul, Finset.sum_mul]

theorem shift_ne (m : ℝ) : den p x σ * Real.exp (-m) ≠ 0 := (mul_pos (den_pos p x σ) (Real.exp_pos _)).ne'

theorem wt_shift (m : ℝ) (s : ι) : ev p x s * Real.exp (-m) / (den p x σ * Real.exp (-m)) = wt p x σ s := by
  unfold wt; exact mul_div_mul_right _ _ (Real.exp_pos _).ne'

theorem wt_shift' (m : ℝ) (s : ι) : ev p x s * Real.exp (-m) * (1 / (den p x σ * Real.exp (-m))) = wt p x σ s := by
  rw [mul_one_div, wt_shift]

theorem wsink_shift' (m : ℝ) : Real.exp σ * Real.exp (-m) * (1 / (den p x σ * Real.exp (-m))) = wsink p x σ := by
  unfold wsink; rw [mul_one_div]; exact mul_div_mul_right _ _ (Real.exp_pos _).ne'

/-- The gradient of a weight's numerator through the quotient, times the numerator: the score's gradient. -/
theorem dsc_quot (c : ℝ) (hc : c ≠ 0) (s : ι) :
    (y s / (den p x σ * c) + -∑ t, y t * (1 / (den p x σ * c * (den p x σ * c))) * (ev p x t * c)) * (ev p x s * c) = dsc p x y σ s := by
  have hd := (den_pos p x σ).ne'
  have e : ∑ t, y t * (1 / (den p x σ * c * (den p x σ * c))) * (ev p x t * c) = del p x y σ / (den p x σ * c) := by
    unfold del; rw [Finset.sum_div]
    refine Finset.sum_congr rfl fun t _ => ?_
    unfold wt; field_simp
  rw [e]; unfold dsc wt; field_simp; ring

theorem dsk_quot (c : ℝ) (hc : c ≠ 0) :
    -∑ t, y t * (1 / (den p x σ * c * (den p x σ * c))) * (ev p x t * c) * (Real.exp σ * c) = dsk p x y σ := by
  have hd := (den_pos p x σ).ne'
  unfold dsk del wsink
  rw [Finset.mul_sum]; congr 1
  refine Finset.sum_congr rfl fun t _ => ?_
  unfold wt; field_simp

/-- The gradients of the scores and of the sink's logit add up to nothing: a number subtracted from all of them is no matter. -/
theorem sum_dsc : ∑ s, dsc p x y σ s = -dsk p x y σ := by
  have hd := (den_pos p x σ).ne'
  have hw : ∑ s, wt p x σ s + wsink p x σ = 1 := by
    unfold wt wsink; rw [← Finset.sum_div, ← add_div]; exact div_self hd
  have : ∑ s, dsc p x y σ s = del p x y σ - (∑ s, wt p x σ s) * del p x y σ := by
    unfold dsc; simp only [mul_sub, Finset.sum_sub_distrib, ← Finset.sum_mul]; rfl
  rw [this, dsk]; linear_combination (-del p x y σ) * hw

theorem msk_lt_top (s : ι) : msk p x s < ⊤ := by
  unfold msk; split
  · exact EReal.coe_lt_top _
  · exact bot_lt_top

/-- The largest masked score, or the sink's logit where that is larger, is a real number. -/
theorem max_msk : ∃ m : ℝ, max (Finset.univ.fold max ⊥ (msk p x)) (σ : EReal) = (m : EReal) := by
  have h : Finset.univ.fold max ⊥ (msk p x) < ⊤ := (Finset.fold_max_lt _).mpr ⟨bot_lt_top, fun s _ => msk_lt_top p x s⟩
  have h1 : max (Finset.univ.fold max ⊥ (msk p x)) (σ : EReal) ≠ ⊤ := (max_lt h (EReal.coe_lt_top _)).ne
  have h2 : max (Finset.univ.fold max ⊥ (msk p x)) (σ : EReal) ≠ ⊥ := fun e => by
    have := le_max_right (Finset.univ.fold max ⊥ (msk p x)) (σ : EReal)
    rw [e] at this; exact absurd (le_bot_iff.mp this) (EReal.coe_ne_bot σ)
  exact ⟨_, (EReal.coe_toReal h1 h2).symm⟩

/-- Some key attains the largest masked score. -/
theorem max_attained [Nonempty ι] (X : ι → EReal) : ∃ s, X s = Finset.univ.fold max ⊥ X := by
  classical
  have h : ∀ S : Finset ι, S.Nonempty → ∃ s, X s = S.fold max ⊥ X := fun S hS => by
    induction hS using Finset.Nonempty.cons_induction with
    | singleton a => exact ⟨a, by simp⟩
    | cons a S ha hS ih =>
      obtain ⟨s, hs⟩ := ih
      rw [Finset.fold_cons ha, ← hs]
      rcases le_total (X a) (X s) with h | h
      · exact ⟨s, (max_eq_right h).symm⟩
      · exact ⟨a, (max_eq_left h).symm⟩
  exact h _ Finset.univ_nonempty

end Row

section Congr

variable {ι : Type} [Fintype ι] (p : ι → Prop) [DecidablePred p] {x x' y y' : ι → ℝ} (σ : ℝ)

theorem ev_congr (hx : ∀ s, p s → x s = x' s) (s : ι) : ev p x s = ev p x' s := by
  unfold ev; split
  · rw [hx s ‹_›]
  · rfl

theorem wt_congr (hx : ∀ s, p s → x s = x' s) (s : ι) : wt p x σ s = wt p x' σ s := by
  unfold wt den; simp only [ev_congr p hx]

theorem del_congr (hx : ∀ s, p s → x s = x' s) (hy : ∀ s, p s → y s = y' s) : del p x y σ = del p x' y' σ := by
  unfold del
  refine Finset.sum_congr rfl fun s _ => ?_
  by_cases h : p s
  · rw [wt_congr p σ hx, hy s h]
  · rw [wt_of_not p x σ h, wt_of_not p x' σ h, zero_mul, zero_mul]

theorem dsc_congr (hx : ∀ s, p s → x s = x' s) (hy : ∀ s, p s → y s = y' s) (s : ι) : dsc p x y σ s = dsc p x' y' σ s := by
  by_cases h : p s
  · unfold dsc; rw [wt_congr p σ hx, hy s h, del_congr p σ hx hy]
  · rw [dsc_of_not p x y σ h, dsc_of_not p x' y' σ h]

theorem dsk_congr (hx : ∀ s, p s → x s = x' s) (hy : ∀ s, p s → y s = y' s) : dsk p x y σ = dsk p x' y' σ := by
  unfold dsk wsink den; simp only [ev_congr p hx, del_congr p σ hx hy]

end Congr

/-! ## One block of 128 queries and its 384 banded keys -/

/-- The column of a query head's entry: head `g` of the group of key head `kv`. -/
def qcol (kv : Fin 2) (g : Fin 4) (d : Fin 64) : Fin 512 := ⟨256 * kv + 64 * g + d, by omega⟩
/-- The column of a key head's entry. -/
def kcol (kv : Fin 2) (d : Fin 64) : Fin 128 := ⟨64 * kv + d, by omega⟩
/-- The query head. -/
def hd (kv : Fin 2) (g : Fin 4) : Fin 8 := ⟨4 * kv + g, by omega⟩

section Block

variable (K V K' V' : Fin 384 → Fin 128 → ℝ) (Q A : Fin 128 → Fin 512 → ℝ) (P : Fin 128 → Fin 384 → Prop) [∀ i, DecidablePred (P i)] (σ : Fin 8 → ℝ)

/-- The scores. -/
def scr (kv : Fin 2) (g : Fin 4) (i : Fin 128) (s : Fin 384) : ℝ := (∑ d, K s (kcol kv d) * Q i (qcol kv g d)) * (1 / 8)
/-- The cotangents of the weights. -/
def dpr (kv : Fin 2) (g : Fin 4) (i : Fin 128) (s : Fin 384) : ℝ := ∑ d, V s (kcol kv d) * A i (qcol kv g d)
def bW (kv : Fin 2) (g : Fin 4) (i : Fin 128) (s : Fin 384) : ℝ := wt (P i) (scr K Q kv g i) (σ (hd kv g)) s
def bDs (kv : Fin 2) (g : Fin 4) (i : Fin 128) (s : Fin 384) : ℝ := dsc (P i) (scr K Q kv g i) (dpr V A kv g i) (σ (hd kv g)) s
/-- The gradient of the queries. -/
def bDq (kv : Fin 2) (g : Fin 4) (i : Fin 128) (d : Fin 64) : ℝ := (∑ s, bDs K V Q A P σ kv g i s * K s (kcol kv d)) * (1 / 8)
/-- The gradient of the banded keys. -/
def bDk (kv : Fin 2) (s : Fin 384) (d : Fin 64) : ℝ := (∑ g, ∑ i, bDs K V Q A P σ kv g i s * Q i (qcol kv g d)) * (1 / 8)
/-- The gradient of the banded values. -/
def bDv (kv : Fin 2) (s : Fin 384) (d : Fin 64) : ℝ := ∑ g, ∑ i, bW K Q P σ kv g i s * A i (qcol kv g d)
/-- The block's part of the gradient of the sinks. -/
def bDsk (kv : Fin 2) (g : Fin 4) : ℝ := ∑ i, dsk (P i) (scr K Q kv g i) (dpr V A kv g i) (σ (hd kv g))

variable {K V K' V'} (hK : ∀ i s, P i s → K s = K' s) (hV : ∀ i s, P i s → V s = V' s)
include hK

theorem bW_congr (kv : Fin 2) (g : Fin 4) (i : Fin 128) (s : Fin 384) : bW K Q P σ kv g i s = bW K' Q P σ kv g i s :=
  wt_congr (P i) _ (fun s h => by unfold scr; rw [hK i s h]) s

theorem bDv_congr : bDv K Q A P σ = bDv K' Q A P σ := by
  funext kv s d; unfold bDv; simp only [bW_congr Q P σ hK]

include hV

theorem bDs_congr (kv : Fin 2) (g : Fin 4) (i : Fin 128) (s : Fin 384) : bDs K V Q A P σ kv g i s = bDs K' V' Q A P σ kv g i s :=
  dsc_congr (P i) _ (fun s h => by unfold scr; rw [hK i s h]) (fun s h => by unfold dpr; rw [hV i s h]) s

theorem bDk_congr : bDk K V Q A P σ = bDk K' V' Q A P σ := by
  funext kv s d; unfold bDk; simp only [bDs_congr Q A P σ hK hV]

theorem bDq_congr : bDq K V Q A P σ = bDq K' V' Q A P σ := by
  funext kv g i d; unfold bDq; congr 1
  refine Finset.sum_congr rfl fun s _ => ?_
  rw [bDs_congr Q A P σ hK hV]
  by_cases h : P i s
  · rw [hK i s h]
  · unfold bDs; rw [dsc_of_not _ _ _ _ h, zero_mul, zero_mul]

theorem bDsk_congr : bDsk K V Q A P σ = bDsk K' V' Q A P σ := by
  funext kv g; unfold bDsk
  exact Finset.sum_congr rfl fun i _ => dsk_congr (P i) _ (fun s h => by unfold scr; rw [hK i s h]) (fun s h => by unfold dpr; rw [hV i s h])

end Block

/-- Which of its 384 banded keys a query of block `n` sees: those at most 128 places off that lie in the sequence. -/
def See (n : Fin 32) (i : Fin 128) (s : Fin 384) : Prop := i.val ≤ s.val ∧ s.val ≤ i.val + 256 ∧ 128 ≤ 128 * n.val + s.val ∧ 128 * n.val + s.val < 4224

instance (n : Fin 32) (i : Fin 128) : DecidablePred (See n i) := fun s => by unfold See; infer_instance

/-- The banded rows of block `n`: zero outside the sequence. -/
def band (k : Fin 4096 → Fin 128 → ℝ) (n : Fin 32) (s : Fin 384) (c : Fin 128) : ℝ :=
  if h : 128 ≤ 128 * n.val + s.val ∧ 128 * n.val + s.val < 4224 then k ⟨128 * n.val + s.val - 128, by omega⟩ c else 0

/-- A row of block `n`. -/
def row (n : Fin 32) (i : Fin 128) : Fin 4096 := ⟨128 * n.val + i.val, by omega⟩

end Cert.Proof.Attn

end
-- ==== Proof.AttnInt.lean ====
/- Machine integers of 32 bits as integers, and which keys a query sees. -/
module

public import proofs.«01_k».proof.Proof.AttnReal

@[expose] public section

namespace Cert.Proof.Attn

open Idealize.ShloMosaic

/-- An integer as a 32-bit word. -/
abbrev w (z : ℤ) : BitVec 32 := BitVec.ofInt 32 z

theorem w_ofNat (n : ℕ) : BitVec.ofNat 32 n = w n := (BitVec.ofInt_natCast 32 n).symm
theorem w_add (a b : ℤ) : IntOp.addi (w a) (w b) = w (a + b) := (BitVec.ofInt_add ..).symm
theorem w_mul (a b : ℤ) : IntOp.muli (w a) (w b) = w (a * b) := (BitVec.ofInt_mul ..).symm
theorem w_sub (a b : ℤ) : IntOp.subi (w a) (w b) = w (a - b) := by
  show w a - w b = _
  rw [BitVec.sub_eq_add_neg, ← BitVec.ofInt_neg, ← BitVec.ofInt_add]; rfl

theorem w_toInt {a : ℤ} (h1 : -2147483648 ≤ a) (h2 : a < 2147483648) : (w a).toInt = a := by
  rw [BitVec.toInt_ofInt, Int.bmod_def]; omega

theorem w_abs {a : ℤ} (h1 : -2147483648 < a) (h2 : a < 2147483648) : IntOp.absi (w a) = w |a| := by
  unfold IntOp.absi
  rw [BitVec.msb_eq_toInt, w_toInt h1.le h2]
  by_cases h : a < 0
  · rw [if_pos (by simpa using h), abs_of_neg h, ← BitVec.ofInt_neg]
  · rw [if_neg (by simpa using h), abs_of_nonneg (not_lt.mp h)]

/-- A proposition as one bit. -/
abbrev bit (p : Prop) [Decidable p] : BitVec 1 := if p then 1#1 else 0#1

section
variable {a b : ℤ} (a1 : -2147483648 ≤ a) (a2 : a < 2147483648) (b1 : -2147483648 ≤ b) (b2 : b < 2147483648)
include a1 a2 b1 b2

theorem w_sle : IntOp.cmpi .sle (w a) (w b) = bit (a ≤ b) := by
  unfold IntOp.cmpi; simp only [BitVec.sle, w_toInt a1 a2, w_toInt b1 b2]; by_cases h : a ≤ b <;> simp [h]
theorem w_sge : IntOp.cmpi .sge (w a) (w b) = bit (b ≤ a) := by
  unfold IntOp.cmpi; simp only [BitVec.sle, w_toInt a1 a2, w_toInt b1 b2]; by_cases h : b ≤ a <;> simp [h]
theorem w_slt : IntOp.cmpi .slt (w a) (w b) = bit (a < b) := by
  unfold IntOp.cmpi; simp only [BitVec.slt, w_toInt a1 a2, w_toInt b1 b2]; by_cases h : a < b <;> simp [h]
end

theorem bit_and (p q : Prop) [Decidable p] [Decidable q] : IntOp.andi (bit p) (bit q) = bit (p ∧ q) := by
  by_cases hp : p <;> by_cases hq : q <;> simp [bit, hp, hq, IntOp.andi]
theorem bit_congr {p q : Prop} [Decidable p] [Decidable q] (h : p ↔ q) : bit p = bit q := by
  by_cases hp : p
  · simp [bit, hp, h.mp hp]
  · simp [bit, hp, mt h.mpr hp]
theorem select_bit {α : Type} (p : Prop) [Decidable p] (x y : α) : Scalar.select (bit p) x y = if p then x else y := by
  by_cases hp : p <;> simp [Scalar.select, bit, hp]

/-- The reference's mask at a place of a block. -/
theorem see_ref (n : Fin 32) (i : Fin 128) (s : Fin 384) :
    IntOp.andi (IntOp.andi
        (IntOp.cmpi .sle (IntOp.absi (IntOp.subi (IntOp.addi (IntOp.muli (BitVec.ofNat 32 ↑n) 128#32) (BitVec.ofNat 32 ↑i))
              (IntOp.subi (IntOp.addi (IntOp.muli (BitVec.ofNat 32 ↑n) 128#32) (BitVec.ofNat 32 ↑s)) 128#32))) 128#32)
        (IntOp.cmpi .sge (IntOp.subi (IntOp.addi (IntOp.muli (BitVec.ofNat 32 ↑n) 128#32) (BitVec.ofNat 32 ↑s)) 128#32) 0#32))
      (IntOp.cmpi .slt (IntOp.subi (IntOp.addi (IntOp.muli (BitVec.ofNat 32 ↑n) 128#32) (BitVec.ofNat 32 ↑s)) 128#32) 4096#32) = bit (See n i s) := by
  have hn := n.2; have hi := i.2; have hs := s.2
  simp only [w_ofNat, Nat.cast_ofNat, Nat.cast_zero, w_mul, w_add, w_sub]
  rw [w_abs (by omega) (by omega),
    w_sle (by have := abs_nonneg ((n : ℤ) * 128 + i - (n * 128 + s - 128)); omega) (by rw [abs_lt]; omega) (by omega) (by omega), w_sge (by omega) (by omega) (by omega) (by omega),
    w_slt (by omega) (by omega) (by omega) (by omega), bit_and, bit_and]
  refine bit_congr ?_
  unfold See; rw [abs_le]; omega

end Cert.Proof.Attn

end
-- ==== Proof.AttnRow.lean ====
/- The softmax gradient as the reference writes it, read along one row of scores. -/
module

public import proofs.«01_k».proof.Proof.Real
public import proofs.«01_k».proof.Proof.AttnInt
public import proofs.«01_k».proof.Proof.Gen.AttnRefIdeal

@[expose] public section

set_option maxRecDepth 16384

noncomputable section

namespace Cert.Proof.Attn

open Cert.AttnRefIdeal Cert.AttnRefIdeal.Gen Idealize.ShloMosaic
open scoped BigOperators

theorem ofBits_bot : Ideal.ofBits .f32 0xFF800000#32 = ⊥ := by simp [Ideal.ofBits, Ideal.ieee]
theorem ofBits_eighth : Ideal.ofBits .f32 0x3E000000#32 = ((1 / 8 : ℝ) : EReal) := by
  simp [Ideal.ofBits, Ideal.ieee, -EReal.coe_mul, ← EReal.coe_mul]; norm_num

abbrev A (s : Shape) := FVec Ideal s .f32

/-! The stages of the reference, as functions of plain arrays. -/

def f63 (M : A S32x2x4x128x384) : A S32x2x4x128 :=
  Host.reduce FloatOps.maximumf M (constant S_ .f32 0xFF800000#32) reducesTo_S32x2x4x128x384_S32x2x4x128_d4 h_S_
def f67 (M : A S32x2x4x128x384) (Mx : A S32x2x4x128) : A S32x2x4x128x384 :=
  uitofp .f32 (cmpf .oeq M (broadcastInDim S32x2x4x128x384 ![0, 1, 2, 3, 4] bcast_S32x2x4x128x1_S32x2x4x128x384_0_1_2_3_4 (shapeCast _ Mx shapeCasts_S32x2x4x128_S32x2x4x128x1)))
def f69 (Mx : A S32x2x4x128) : A S32x2x4x128x1 :=
  broadcastInDim S32x2x4x128x1 ![0, 1, 2, 3] bcast_S32x2x4x128_S32x2x4x128x1_0_1_2_3 Mx
def f71 (Mb : A S32x2x4x128x1) (C : A S1x2x4x1x1) : A S32x2x4x128x1 :=
  maximumf Mb (broadcastInDim S32x2x4x128x1 ![0, 1, 2, 3, 4] bcast_S1x2x4x1x1_S32x2x4x128x1_0_1_2_3_4 C)
def f92 (M : A S32x2x4x128x384) (Mm : A S32x2x4x128x1) : A S32x2x4x128x384 :=
  Host.exp (subf M (broadcastInDim S32x2x4x128x384 ![0, 1, 2, 3, 4] bcast_S32x2x4x128x1_S32x2x4x128x384_0_1_2_3_4 Mm))
def f97 (C : A S1x2x4x1x1) (Mm : A S32x2x4x128x1) : A S32x2x4x128x1 :=
  Host.exp (subf (broadcastInDim S32x2x4x128x1 ![0, 1, 2, 3, 4] bcast_S1x2x4x1x1_S32x2x4x128x1_0_1_2_3_4 C) Mm)
def f98 (P : A S32x2x4x128x384) (Z : A S32x2x4x128x1) : A S32x2x4x128x1 :=
  addf (broadcastInDim S32x2x4x128x1 ![0, 1, 2, 3] bcast_S32x2x4x128_S32x2x4x128x1_0_1_2_3 (Host.reduceAdd P (constant S_ .f32 0x00000000#32) reducesTo_S32x2x4x128x384_S32x2x4x128_d4 h_S_)) Z
def f118 (Y : A S32x2x4x128x384) (D : A S32x2x4x128x1) (P : A S32x2x4x128x384) : A S32x2x4x128x1 :=
  Host.negf (shapeCast _ (Host.reduceAdd (mulf (mulf Y (broadcastInDim S32x2x4x128x384 ![0, 1, 2, 3, 4] bcast_S32x2x4x128x1_S32x2x4x128x384_0_1_2_3_4 (Host.divf (broadcastInDim S32x2x4x128x1 ![] bcast_S_S32x2x4x128x1 (constant S_ .f32 0x3F800000#32)) (mulf D D)))) P) (constant S_ .f32 0x00000000#32) reducesTo_S32x2x4x128x384_S32x2x4x128_d4 h_S_) shapeCasts_S32x2x4x128_S32x2x4x128x1)
def f121 (G : A S32x2x4x128x1) (Z : A S32x2x4x128x1) : A S32x2x4x128x1 :=
  mulf G Z
def f128 (Y : A S32x2x4x128x384) (D : A S32x2x4x128x1) (G : A S32x2x4x128x1) (P : A S32x2x4x128x384) : A S32x2x4x128x384 :=
  mulf (addf (Host.divf Y (broadcastInDim S32x2x4x128x384 ![0, 1, 2, 3, 4] bcast_S32x2x4x128x1_S32x2x4x128x384_0_1_2_3_4 D)) (broadcastInDim S32x2x4x128x384 ![0, 1, 2, 3] bcast_S32x2x4x128_S32x2x4x128x384_0_1_2_3 (Host.reduceAdd G (constant S_ .f32 0x00000000#32) reducesTo_S32x2x4x128x1_S32x2x4x128_d4 h_S_))) P
def f132 (Gs : A S32x2x4x128x1) (Gp : A S32x2x4x128x384) : A S32x2x4x128x1 :=
  addf (Host.negf Gs) (shapeCast _ (Host.reduceAdd (Host.negf Gp) (constant S_ .f32 0x00000000#32) reducesTo_S32x2x4x128x384_S32x2x4x128_d4 h_S_) shapeCasts_S32x2x4x128_S32x2x4x128x1)
/-- The share of a maximum's cotangent that its first operand takes. -/
def fSel (Mb : A S32x2x4x128x1) (C : A S1x2x4x1x1) : A S32x2x4x128x1 :=
  select (cmpf .ogt Mb (broadcastInDim S32x2x4x128x1 ![0, 1, 2, 3, 4] bcast_S1x2x4x1x1_S32x2x4x128x1_0_1_2_3_4 C)) (broadcastInDim S32x2x4x128x1 ![] bcast_S_S32x2x4x128x1 (constant S_ .f32 0x3F800000#32)) (select (cmpf .oeq Mb (broadcastInDim S32x2x4x128x1 ![0, 1, 2, 3, 4] bcast_S1x2x4x1x1_S32x2x4x128x1_0_1_2_3_4 C)) (broadcastInDim S32x2x4x128x1 ![] bcast_S_S32x2x4x128x1 (constant S_ .f32 0x3F000000#32)) (broadcastInDim S32x2x4x128x1 ![] bcast_S_S32x2x4x128x1 (constant S_ .f32 0x00000000#32)))
/-- How many keys attain the maximum. -/
def fCnt (E : A S32x2x4x128x384) : A S32x2x4x128 := Host.reduceAdd E (constant S_ .f32 0x00000000#32) reducesTo_S32x2x4x128x384_S32x2x4x128_d4 h_S_
def f148 (M1 : IVec S32x2x4x128x384 1) (Gp : A S32x2x4x128x384) (Gm Sel : A S32x2x4x128x1) (Cnt : A S32x2x4x128) (E : A S32x2x4x128x384) : A S32x2x384x128x4 :=
  transpose S32x2x384x128x4 [0, 1, 4, 3, 2] (mulf (select M1 (addf Gp (mulf (broadcastInDim S32x2x4x128x384 ![0, 1, 2, 3] bcast_S32x2x4x128_S32x2x4x128x384_0_1_2_3 (Host.divf (Host.reduceAdd (mulf Gm Sel) (constant S_ .f32 0x00000000#32) reducesTo_S32x2x4x128x1_S32x2x4x128_d4 h_S_) Cnt)) E)) (broadcastInDim S32x2x4x128x384 ![] bcast_S_S32x2x4x128x384 (constant S_ .f32 0x00000000#32))) (broadcastInDim S32x2x4x128x384 ![] bcast_S_S32x2x4x128x384 (constant S_ .f32 0x3E000000#32))) transposes_S32x2x4x128x384_S32x2x384x128x4_0_1_4_3_2

def f100 (P : A S32x2x4x128x384) (D : A S32x2x4x128x1) : A S32x2x4x128x384 :=
  Host.divf P (broadcastInDim S32x2x4x128x384 ![0, 1, 2, 3, 4] bcast_S32x2x4x128x1_S32x2x4x128x384_0_1_2_3_4 D)

section Chain
variable (M : A S32x2x4x128x384) (C : A S1x2x4x1x1) (Y : A S32x2x4x128x384)
def cM : A S32x2x4x128x1 := f71 (f69 (f63 M)) C
def cP : A S32x2x4x128x384 := f92 M (cM M C)
def cZ : A S32x2x4x128x1 := f97 C (cM M C)
def cD : A S32x2x4x128x1 := f98 (cP M C) (cZ M C)
def cW : A S32x2x4x128x384 := f100 (cP M C) (cD M C)
def cG : A S32x2x4x128x1 := f118 Y (cD M C) (cP M C)
def cGs : A S32x2x4x128x1 := f121 (cG M C Y) (cZ M C)
def cGp : A S32x2x4x128x384 := f128 Y (cD M C) (cG M C Y) (cP M C)
def cGm : A S32x2x4x128x1 := f132 (cGs M C Y) (cGp M C Y)
def cE : A S32x2x4x128x384 := f67 M (f63 M)
end Chain

section Row
variable (p : Fin 384 → Prop) [DecidablePred p] (x y : Fin 384 → ℝ) (σ : ℝ) {M : A S32x2x4x128x384} {C : A S1x2x4x1x1} {Y : A S32x2x4x128x384}
  (n : Fin 32) (kv : Fin 2) (g : Fin 4) (i : Fin 128)
  (hM : ∀ s, M (ix5 n kv g i s) = msk p x s) (hC : ∀ z a b, C (ix5 z kv g a b) = (σ : EReal)) (hY : ∀ s, Y (ix5 n kv g i s) = (y s : EReal))

/-- The number subtracted from the scores. -/
def top : ℝ := (max_msk p x σ).choose

include hM in
theorem f63_at : f63 M (ix4 n kv g i) = Finset.univ.fold max ⊥ (msk p x) := by
  pointwise [f63]; rw [ofBits_bot]; simp only [hM]

theorem f69_at (Mx : A S32x2x4x128) (z : Fin 1) : f69 Mx (ix5 n kv g i z) = Mx (ix4 n kv g i) := by pointwise [f69]

theorem f71_at (Mb : A S32x2x4x128x1) (C : A S1x2x4x1x1) (z : Fin 1) : f71 Mb C (ix5 n kv g i z) = (max (Mb (ix5 n kv g i z)) (C (ix5 0 kv g 0 0)) : EReal) := by
  pointwise [f71]

include hM hC in
theorem cM_at (z : Fin 1) : cM M C (ix5 n kv g i z) = (top p x σ : EReal) := by
  unfold cM
  rw [f71_at, f69_at, f63_at p x n kv g i hM, hC]
  exact (max_msk p x σ).choose_spec

include hM hC in
theorem cP_at (s : Fin 384) : cP M C (ix5 n kv g i s) = ((ev p x s * Real.exp (-top p x σ) : ℝ) : EReal) := by
  pointwise [cP, f92]
  rw [cM_at p x σ n kv g i hM hC, hM]
  exact exp_msk _ _ _ s

include hM hC in
theorem cZ_at (z : Fin 1) : cZ M C (ix5 n kv g i z) = ((Real.exp σ * Real.exp (-top p x σ) : ℝ) : EReal) := by
  pointwise [cZ, f97]
  rw [cM_at p x σ n kv g i hM hC, hC]
  exact exp_sink _ _

include hM hC in
theorem cD_at (z : Fin 1) : cD M C (ix5 n kv g i z) = ((den p x σ * Real.exp (-top p x σ) : ℝ) : EReal) := by
  pointwise [cD, f98]
  simp only [cP_at p x σ n kv g i hM hC, cZ_at p x σ n kv g i hM hC, sum_coe, ← EReal.coe_add, zero_add, den_shift]

include hM hC in
theorem cW_at (s : Fin 384) : cW M C (ix5 n kv g i s) = (wt p x σ s : EReal) := by
  pointwise [cW, f100]
  simp only [cP_at p x σ n kv g i hM hC, cD_at p x σ n kv g i hM hC]
  rw [div_coe' _ _ (shift_ne p x σ _), wt_shift]

include hM hC hY in
theorem cG_at (z : Fin 1) : cG M C Y (ix5 n kv g i z) = ((-∑ t, y t * (1 / (den p x σ * Real.exp (-top p x σ) * (den p x σ * Real.exp (-top p x σ)))) * (ev p x t * Real.exp (-top p x σ)) : ℝ) : EReal) := by
  pointwise [cG, f118]
  simp only [cP_at p x σ n kv g i hM hC, cD_at p x σ n kv g i hM hC, hY, one_coe, ← EReal.coe_mul]
  simp only [div_coe' _ _ (mul_ne_zero (shift_ne p x σ _) (shift_ne p x σ _)), ← EReal.coe_mul, sum_coe, zero_add, ← EReal.coe_neg]

include hM hC hY in
theorem cGs_at (z : Fin 1) : cGs M C Y (ix5 n kv g i z) = (dsk p x y σ : EReal) := by
  pointwise [cGs, f121]
  rw [cG_at p x y σ n kv g i hM hC hY, cZ_at p x σ n kv g i hM hC, ← EReal.coe_mul, ← dsk_quot p x y σ _ (Real.exp_pos (-top p x σ)).ne', neg_mul, Finset.sum_mul]

include hM hC hY in
theorem cGp_at (s : Fin 384) : cGp M C Y (ix5 n kv g i s) = (dsc p x y σ s : EReal) := by
  pointwise [cGp, f128]
  simp only [cP_at p x σ n kv g i hM hC, cD_at p x σ n kv g i hM hC, hY, cG_at p x y σ n kv g i hM hC hY]
  simp only [div_coe' _ _ (shift_ne p x σ _), sum_coe, zero_add, ← EReal.coe_mul, ← EReal.coe_add, Finset.univ_unique, Finset.sum_singleton]
  rw [← dsc_quot p x y σ _ (Real.exp_pos (-top p x σ)).ne']

include hM hC hY in
theorem cGm_at (z : Fin 1) : cGm M C Y (ix5 n kv g i z) = (0 : EReal) := by
  pointwise [cGm, f132]
  simp only [cGs_at p x y σ n kv g i hM hC hY, cGp_at p x y σ n kv g i hM hC hY, ← EReal.coe_neg, sum_coe, zero_add, ← EReal.coe_add]
  rw [Finset.sum_neg_distrib, sum_dsc]; simp

include hM in
theorem cE_at (s : Fin 384) : cE M (ix5 n kv g i s) = (if msk p x s = Finset.univ.fold max ⊥ (msk p x) then 1 else 0 : EReal) := by
  pointwise [cE, f67]
  rw [f63_at p x n kv g i hM, hM]
  generalize Finset.univ.fold max ⊥ (msk p x) = u
  show (((BitVec.ofBool (decide (msk p x s = u))).toNat : ℝ) : EReal) = _
  by_cases h : msk p x s = u <;> simp [h]

include hM in
theorem cnt_ne : fCnt (cE M) (ix4 n kv g i) ≠ (0 : EReal) := by
  pointwise [fCnt]
  simp only [cE_at p x n kv g i hM]
  obtain ⟨s, hs⟩ := max_attained (msk p x)
  have h : (1 : EReal) ≤ ∑ s, (if msk p x s = Finset.univ.fold max ⊥ (msk p x) then 1 else 0 : EReal) := by
    have := Finset.single_le_sum (f := fun s => (if msk p x s = Finset.univ.fold max ⊥ (msk p x) then 1 else 0 : EReal)) (fun s _ => by split <;> simp) (Finset.mem_univ s)
    rwa [if_pos hs] at this
  exact fun e => by rw [e] at h; exact absurd h (by simp)

include hM hC hY in
theorem f148_at (M1 : IVec S32x2x4x128x384 1) (h1 : ∀ s, M1 (ix5 n kv g i s) = bit (p s)) (Sel : A S32x2x4x128x1) (s : Fin 384) :
    f148 M1 (cGp M C Y) (cGm M C Y) Sel (fCnt (cE M)) (cE M) (ix5 n kv s i g) = ((dsc p x y σ s * (1 / 8) : ℝ) : EReal) := by
  pointwise [f148]
  simp only [h1, cGp_at p x y σ n kv g i hM hC hY, cGm_at p x y σ n kv g i hM hC hY, select_bit, zero_mul, Finset.sum_const_zero, zero_add, ofBits_eighth]
  have hd : Ideal.div 0 (fCnt (cE M) (ix4 n kv g i)) = 0 := by
    unfold Ideal.div; rw [if_neg (cnt_ne p x n kv g i hM), zero_mul]
  rw [hd, zero_mul, add_zero, ← EReal.coe_mul]
  by_cases h : p s
  · rw [if_pos h]
  · rw [if_neg h, dsc_of_not p x y σ h, zero_mul]; rfl

end Row

end Cert.Proof.Attn

end
-- ==== Proof.AttnBlock.lean ====
/- The kernel's steps of one block of 128 queries, in the vector operations it computes them with, and their reading over
   real numbers. -/
module

public import proofs.«01_k».proof.Proof.AttnInt
public import proofs.«01_k».proof.Proof.AttnRow
public import proofs.«01_k».proof.Proof.Gen.AttnIdeal.Skeleton
public import Idealize.ShloMosaic.Lib.Pointwise.Tactic
public import Idealize.ShloMosaic.Lib.KernelVsHost

@[expose] public section

set_option maxRecDepth 16384

noncomputable section

namespace Cert.Proof.Attn.Ker

open Cert.AttnIdeal Cert.AttnIdeal.Gen Idealize.ShloMosaic
open scoped BigOperators

abbrev A (s : Shape) := FVec Ideal s .f32
abbrev B (s : Shape) := FVec Ideal s .bf16

def kLo : IVec S384x128 1 := cmpi .slt (iota .tc S384x128 32 [1] iota_S384x128_d1_w32) (broadcast S384x128 64#32)
def kZero : A S384x128 := broadcast S384x128 (Scalar.ofBits .f32 0x00000000#32)
def kRot (x : A S384x128) : A S384x128 := dynamicRotate 1 64#32 none x rotates_S384x128_d1
/-- The key head's rows, once in the lower lanes and once in the upper. -/
def kTwo (a b : A S384x128) : B S768x128 :=
  truncf .bf16 (concatenate S768x128 0 [⟨S384x128, select kLo a kZero⟩, ⟨S384x128, select kLo kZero b⟩] concatenates_S384x128_S384x128_S768x128_d0) bitsLt_bf16_f32
def kDiag0 (k : B S384x128) : B S768x128 := kTwo (extf .f32 k bitsLt_bf16_f32) (kRot (extf .f32 k bitsLt_bf16_f32))
def kDiag1 (k : B S384x128) : B S768x128 := kTwo (kRot (extf .f32 k bitsLt_bf16_f32)) (extf .f32 k bitsLt_bf16_f32)
/-- Two pairs of query heads, one below the other. -/
def kPair0 (x : B S128x512) : B S256x128 :=
  concatenate S256x128 0 [⟨S128x128, extractStridedSlice S128x128 ![0, 0] x slices_S128x512_o0_0_S128x128⟩, ⟨S128x128, extractStridedSlice S128x128 ![0, 128] x slices_S128x512_o0_128_S128x128⟩] concatenates_S128x128_S128x128_S256x128_d0
def kPair1 (x : B S128x512) : B S256x128 :=
  concatenate S256x128 0 [⟨S128x128, extractStridedSlice S128x128 ![0, 256] x slices_S128x512_o0_256_S128x128⟩, ⟨S128x128, extractStridedSlice S128x128 ![0, 384] x slices_S128x512_o0_384_S128x128⟩] concatenates_S128x128_S128x128_S256x128_d0
def kScaled (q : B S128x512) : B S128x512 := mulf q (broadcast S128x512 (Scalar.ofBits .bf16 0x3E00#16))
def kDot (k : B S768x128) (x : B S256x128) : A S768x256 := matmul dot_S768x128_S256x128_S768x256_1_1_0_0_n_n none k x (constant S768x256 .f32 0x00000000#32)
def kTop (x : A S768x256) : A S384x256 := extractStridedSlice S384x256 ![0, 0] x slices_S768x256_o0_0_S384x256
def kBot (x : A S768x256) : A S384x256 := extractStridedSlice S384x256 ![384, 0] x slices_S768x256_o384_0_S384x256
def kSink (a b : Elt Ideal .f32) : A S1x256 :=
  select (cmpi .slt (iota .tc S1x256 32 [1] iota_S1x256_d1_w32) (broadcast S1x256 128#32)) (broadcast S1x256 a) (broadcast S1x256 b)
def kMsk (M : IVec S384x256 1) (x : A S384x256) : A S384x256 := select M x (broadcast S384x256 (Named.named κ "mask" 0xF149F2CA#32))
def kMax (c : A S1x256) (x : A S384x256) : A S1x256 :=
  maximumf (shapeCast S1x256 (multiReduction .maximumf [0] S256 x 0xFF800000#32 reduces_S384x256_S256 (.inl rfl) rfl) shapeCasts_S256_S1x256) c
def kSub (x : A S384x256) (r : A S1x256) : A S384x256 := subf x (broadcastTo S384x256 r broadcasts_S1x256_S384x256)
def kMul (x : A S384x256) (r : A S1x256) : A S384x256 := mulf x (broadcastTo S384x256 r broadcasts_S1x256_S384x256)
def kSum (x : A S384x256) : A S1x256 := shapeCast S1x256 (multiReduction .add [0] S256 x 0x00000000#32 reduces_S384x256_S256 (.inl rfl) rfl) shapeCasts_S256_S1x256
def kInv (e : A S384x256) (z : A S1x256) : A S1x256 := divf (broadcast S1x256 (Scalar.ofBits .f32 0x3F800000#32)) (addf (kSum e) z)

section Half
variable (c : A S1x256) (x : A S384x256) (d : A S384x256)
def kExp : A S384x256 := exp (kSub x (kMax c x))
def kExpSink : A S1x256 := exp (subf c (kMax c x))
def kDen : A S1x256 := kInv (kExp c x) (kExpSink c x)
def kW : A S384x256 := kMul (kExp c x) (kDen c x)
def kDel : A S1x256 := kSum (mulf (kW c x) d)
def kW' : B S384x256 := truncf .bf16 (kW c x) bitsLt_bf16_f32
def kDs : B S384x256 := truncf .bf16 (mulf (kW c x) (kSub d (kDel c x d))) bitsLt_bf16_f32
def kDsk : A S1x256 := mulf (subf (broadcast S1x256 (Scalar.ofBits .f32 0x00000000#32)) (mulf (kExpSink c x) (kDen c x))) (kDel c x d)
end Half

def kCat (a b : B S384x256) : B S768x256 := concatenate S768x256 0 [⟨S384x256, a⟩, ⟨S384x256, b⟩] concatenates_S384x256_S384x256_S768x256_d0
def kMix (x : A S768x128) : A S384x128 :=
  select kLo (extractStridedSlice S384x128 ![0, 0] x slices_S768x128_o0_0_S384x128) (extractStridedSlice S384x128 ![384, 0] x slices_S768x128_o384_0_S384x128)
def kFold (x : A S768x128) : A S384x128 := addf (kMix x) (kRot (kMix x))
def kBack (w : B S768x256) (x : B S256x128) : A S384x128 :=
  kFold (matmul dot_S768x256_S256x128_S768x128_1_0_0_1_n_n none w x (constant S768x128 .f32 0x00000000#32))
def kDq2 (w : B S768x256) (k : B S768x128) : A S256x128 :=
  mulf (matmul dot_S768x256_S768x128_S256x128_0_0_1_1_n_n none w k (constant S256x128 .f32 0x00000000#32)) (broadcast S256x128 (Scalar.ofBits .f32 0x3E000000#32))
def kScale (x : A S384x128) : A S384x128 := mulf x (broadcast S384x128 (Scalar.ofBits .f32 0x3E000000#32))

section Head
/- One key head: its doubled rows, the scaled queries', the queries' and the cotangents' pairs, the mask, the four sinks. -/
variable (M : IVec S384x256 1) (kd vd : B S768x128) (qs q a : B S256x128) (s0 s1 s2 s3 : Elt Ideal .f32)
def hWt0 : B S384x256 := kW' (kSink s0 s1) (kMsk M (kTop (kDot kd qs)))
def hWt1 : B S384x256 := kW' (kSink s2 s3) (kMsk M (kBot (kDot kd qs)))
def hDs0 : B S384x256 := kDs (kSink s0 s1) (kMsk M (kTop (kDot kd qs))) (kTop (kDot vd a))
def hDs1 : B S384x256 := kDs (kSink s2 s3) (kMsk M (kBot (kDot kd qs))) (kBot (kDot vd a))
def hDs : B S768x256 := kCat (hDs0 M kd vd qs a s0 s1) (hDs1 M kd vd qs a s2 s3)
def hDk : A S384x128 := kScale (kBack (hDs M kd vd qs a s0 s1 s2 s3) q)
def hDv : A S384x128 := kBack (kCat (hWt0 M kd qs s0 s1) (hWt1 M kd qs s2 s3)) a
def hDq : A S256x128 := kDq2 (hDs M kd vd qs a s0 s1 s2 s3) kd
def hSk0 : A S1x256 := kDsk (kSink s0 s1) (kMsk M (kTop (kDot kd qs))) (kTop (kDot vd a))
def hSk1 : A S1x256 := kDsk (kSink s2 s3) (kMsk M (kBot (kDot kd qs))) (kBot (kDot vd a))
end Head

section Block
/- One block: its banded keys and values, its queries and their outputs' cotangents, the mask and the sinks. -/
variable (M : IVec S384x256 1) (k v : B S384x128) (q a : B S128x512) (s0 s1 s2 s3 s4 s5 s6 s7 : Elt Ideal .f32)
def bkDk : A S384x128 := select kLo (hDk M (kDiag0 k) (kDiag0 v) (kPair0 (kScaled q)) (kPair0 q) (kPair0 a) s0 s2 s1 s3)
  (hDk M (kDiag1 k) (kDiag1 v) (kPair1 (kScaled q)) (kPair1 q) (kPair1 a) s4 s6 s5 s7)
def bkDv : A S384x128 := select kLo (hDv M (kDiag0 k) (kPair0 (kScaled q)) (kPair0 a) s0 s2 s1 s3)
  (hDv M (kDiag1 k) (kPair1 (kScaled q)) (kPair1 a) s4 s6 s5 s7)
def bkDq0 : A S256x128 := hDq M (kDiag0 k) (kDiag0 v) (kPair0 (kScaled q)) (kPair0 a) s0 s2 s1 s3
def bkDq1 : A S256x128 := hDq M (kDiag1 k) (kDiag1 v) (kPair1 (kScaled q)) (kPair1 a) s4 s6 s5 s7
end Block

/-- The kernel's mask of a block. -/
def kMask (n : BitVec 32) : IVec S384x256 1 :=
  have v31 : IVec S384x256 32 := iota .tc S384x256 32 [1] iota_S384x256_d1_w32
  let v33 : BitVec 32 := Scalar.select (Scalar.cmpi .eq 128#32 0#32) 1#32 128#32
  have v35 : IVec S384x256 32 := remsi v31 (broadcast S384x256 v33)
  have v37 : IVec S384x256 1 := cmpi .ne v35 (broadcast S384x256 0#32)
  have v39 : IVec S384x256 1 := cmpi .slt v35 (broadcast S384x256 0#32)
  have v42 : IVec S384x256 1 := broadcastTo S384x256 (broadcast S384x256 (Scalar.cmpi .slt v33 0#32)) broadcasts_S384x256_S384x256
  have v44 : IVec S384x256 1 := andi (xori v39 v42) v37
  have v47 : IVec S384x256 32 := select v44 (addi v35 (broadcast S384x256 v33)) v35
  have v48 : IVec S384x256 32 := iota .tc S384x256 32 [0] iota_S384x256_d0_w32
  have v52 : IVec S384x256 32 := addi (broadcast S384x256 (Scalar.muli (Scalar.subi n 1#32) 128#32)) v48
  have v57 : IVec S384x256 1 := andi (cmpi .sge v48 v47) (cmpi .sle v48 (addi v47 (broadcast S384x256 256#32)))
  andi (andi v57 (cmpi .sge v52 (broadcast S384x256 0#32))) (cmpi .slt v52 (broadcast S384x256 4096#32))

end Cert.Proof.Attn.Ker

end
-- ==== Proof.AttnCol.lean ====
/- The kernel's functions of one block (Proof/AttnBlock.lean) read over real numbers: one column is one query of one head. -/
module

public import proofs.«01_k».proof.Proof.AttnBlock
public import Idealize.ShloMosaic.Lib.Pointwise.Tactic

@[expose] public section

set_option maxRecDepth 16384

noncomputable section

namespace Cert.Proof.Attn.Ker

open Cert.AttnIdeal Cert.AttnIdeal.Gen Idealize.ShloMosaic
open scoped BigOperators

theorem ofBits_eighth' : Ideal.ofBits .bf16 0x3E00#16 = ((1 / 8 : ℝ) : EReal) := by
  simp [Ideal.ofBits, Ideal.ieee, -EReal.coe_mul]; norm_num

theorem kLo_at (r : Fin 384) (l : Fin 128) : kLo (ix2 r l) = bit (l.val < 64) := by
  pointwise [kLo]
  rw [w_ofNat, show (64#32 : BitVec 32) = w 64 from rfl, w_slt (by omega) (by omega) (by omega) (by omega)]
  exact bit_congr (by omega)

theorem kRot_at (a : A S384x128) (r : Fin 384) (l : Fin 128) : kRot a (ix2 r l) = a (ix2 r ⟨(l.val + 128 - 64) % 128, Nat.mod_lt _ (by decide)⟩) := by
  pointwise [kRot]

theorem kTwo_at (a b : A S384x128) (r : Fin 768) (l : Fin 128) :
    kTwo a b (ix2 r l) = (if h : r.val < 384 then (if l.val < 64 then a (ix2 ⟨r.val, h⟩ l) else 0) else (if l.val < 64 then 0 else b (ix2 ⟨r.val - 384, by omega⟩ l)) : EReal) := by
  pointwise [kTwo, kZero]
  simp only [kLo_at, select_bit]

/-! ## One column -/

section Col
variable (p : Fin 384 → Prop) [DecidablePred p] (x y : Fin 384 → ℝ) (σ : ℝ) {C : A S1x256} {X D : A S384x256} (c : Fin 256)
  (hX : ∀ s, X (ix2 s c) = msk p x s) (hC : ∀ z, C (ix2 z c) = (σ : EReal)) (hD : ∀ s, D (ix2 s c) = (y s : EReal))

include hX hC

theorem kMax_at (z : Fin 1) : kMax C X (ix2 z c) = (top p x σ : EReal) := by
  pointwise [kMax]
  rw [ofBits_bot]; simp only [hX, hC]
  exact (max_msk p x σ).choose_spec

theorem kExp_at (s : Fin 384) : kExp C X (ix2 s c) = ((ev p x s * Real.exp (-top p x σ) : ℝ) : EReal) := by
  pointwise [kExp, kSub]
  rw [kMax_at p x σ c hX hC, hX]
  exact exp_msk _ _ _ s

theorem kExpSink_at (z : Fin 1) : kExpSink C X (ix2 z c) = ((Real.exp σ * Real.exp (-top p x σ) : ℝ) : EReal) := by
  pointwise [kExpSink]
  rw [kMax_at p x σ c hX hC, hC]
  exact exp_sink _ _

theorem kDen_at (z : Fin 1) : kDen C X (ix2 z c) = ((1 / (den p x σ * Real.exp (-top p x σ)) : ℝ) : EReal) := by
  pointwise [kDen, kInv, kSum]
  simp only [kExp_at p x σ c hX hC, kExpSink_at p x σ c hX hC, sum_coe, ← EReal.coe_add, den_shift, one_coe]
  exact div_coe' _ _ (shift_ne p x σ _)

theorem kW_at (s : Fin 384) : kW C X (ix2 s c) = (wt p x σ s : EReal) := by
  pointwise [kW, kMul]
  rw [kExp_at p x σ c hX hC, kDen_at p x σ c hX hC, ← EReal.coe_mul, wt_shift']

theorem kW'_at (s : Fin 384) : kW' C X (ix2 s c) = (wt p x σ s : EReal) := by
  pointwise [kW']
  exact kW_at p x σ c hX hC s

include hD

theorem kDel_at (z : Fin 1) : kDel C X D (ix2 z c) = (del p x y σ : EReal) := by
  pointwise [kDel, kSum]
  simp only [kW_at p x σ c hX hC, hD, ← EReal.coe_mul, sum_coe]
  rfl

theorem kDs_at (s : Fin 384) : kDs C X D (ix2 s c) = (dsc p x y σ s : EReal) := by
  pointwise [kDs, kSub]
  rw [kW_at p x σ c hX hC, kDel_at p x y σ c hX hC hD, hD, ← EReal.coe_sub, ← EReal.coe_mul]
  rfl

theorem kDsk_at (z : Fin 1) : kDsk C X D (ix2 z c) = (dsk p x y σ : EReal) := by
  pointwise [kDsk]
  rw [kExpSink_at p x σ c hX hC, kDen_at p x σ c hX hC, kDel_at p x y σ c hX hC hD, ← EReal.coe_mul, wsink_shift', ← EReal.coe_zero, ← EReal.coe_sub, ← EReal.coe_mul]
  congr 1; unfold dsk; ring
end Col

/-! ## Sums split in halves -/

section Sums
variable {α : Type} [AddCommMonoid α]
theorem sum768 (f : Fin 768 → α) : ∑ r, f r = ∑ s : Fin 384, f ⟨s.val, by omega⟩ + ∑ s : Fin 384, f ⟨384 + s.val, by omega⟩ := Fin.sum_univ_add (a := 384) (b := 384) f
theorem sum256 (f : Fin 256 → α) : ∑ r, f r = ∑ s : Fin 128, f ⟨s.val, by omega⟩ + ∑ s : Fin 128, f ⟨128 + s.val, by omega⟩ := Fin.sum_univ_add (a := 128) (b := 128) f
theorem sum128 (f : Fin 128 → α) : ∑ r, f r = ∑ s : Fin 64, f ⟨s.val, by omega⟩ + ∑ s : Fin 64, f ⟨64 + s.val, by omega⟩ := Fin.sum_univ_add (a := 64) (b := 64) f
end Sums

/-! ## The doubled key rows and the pairs of heads -/

/-- A key head's rows, in the lower lanes first and then in the upper ones. -/
def KD (K : Fin 384 → Fin 128 → ℝ) (kv : Fin 2) (r : Fin 768) (l : Fin 128) : ℝ :=
  if r.val / 384 = l.val / 64 then K ⟨r.val % 384, Nat.mod_lt _ (by decide)⟩ (kcol kv ⟨l.val % 64, Nat.mod_lt _ (by decide)⟩) else 0
/-- Two pairs of query heads' rows, one below the other. -/
def PR (Q : Fin 128 → Fin 512 → ℝ) (kv : Fin 2) (c : Fin 256) (l : Fin 128) : ℝ :=
  Q ⟨c.val % 128, Nat.mod_lt _ (by decide)⟩ ⟨256 * kv.val + 128 * (c.val / 128) + l.val, by omega⟩
/-- The query and the head of a column: head `h` of the column's pair. -/
def ci (c : Fin 256) : Fin 128 := ⟨c.val % 128, Nat.mod_lt _ (by decide)⟩
def cg (c : Fin 256) (h : Fin 2) : Fin 4 := ⟨2 * (c.val / 128) + h.val, by omega⟩

section Pairs
variable {K : Fin 384 → Fin 128 → ℝ} {Q : Fin 128 → Fin 512 → ℝ} {k : B S384x128} {q : B S128x512}
  (hk : ∀ s l, k (ix2 s l) = (K s l : EReal)) (hq : ∀ i l, q (ix2 i l) = (Q i l : EReal))

include hk in
theorem kDiag0_at (r : Fin 768) (l : Fin 128) : kDiag0 k (ix2 r l) = (KD K 0 r l : EReal) := by
  unfold kDiag0
  rw [kTwo_at]
  simp only [kRot_at]
  pointwise
  simp only [hk]
  unfold KD kcol
  have := r.2; have := l.2
  have z0 : ((0 : Fin 2) : ℕ) = 0 := rfl
  have z1 : ((1 : Fin 2) : ℕ) = 1 := rfl
  split_ifs <;> first | omega | exact EReal.coe_zero.symm | exact congrArg _ (congrArg₂ K (Fin.ext (by simp only []; omega)) (Fin.ext (by simp only []; omega)))

include hk in
theorem kDiag1_at (r : Fin 768) (l : Fin 128) : kDiag1 k (ix2 r l) = (KD K 1 r l : EReal) := by
  unfold kDiag1
  rw [kTwo_at]
  simp only [kRot_at]
  pointwise
  simp only [hk]
  unfold KD kcol
  have := r.2; have := l.2
  have z0 : ((0 : Fin 2) : ℕ) = 0 := rfl
  have z1 : ((1 : Fin 2) : ℕ) = 1 := rfl
  split_ifs <;> first | omega | exact EReal.coe_zero.symm | exact congrArg _ (congrArg₂ K (Fin.ext (by simp only []; omega)) (Fin.ext (by simp only []; omega)))

include hq in
theorem kPair0_at (c : Fin 256) (l : Fin 128) : kPair0 q (ix2 c l) = (PR Q 0 c l : EReal) := by
  pointwise [kPair0]
  simp only [hq]
  unfold PR
  have := c.2; have := l.2
  have z0 : ((0 : Fin 2) : ℕ) = 0 := rfl
  split_ifs <;> exact congrArg _ (congrArg₂ Q (Fin.ext (by simp only []; omega)) (Fin.ext (by simp only []; omega)))

include hq in
theorem kPair1_at (c : Fin 256) (l : Fin 128) : kPair1 q (ix2 c l) = (PR Q 1 c l : EReal) := by
  pointwise [kPair1]
  simp only [hq]
  unfold PR
  have := c.2; have := l.2
  have z1 : ((1 : Fin 2) : ℕ) = 1 := rfl
  split_ifs <;> exact congrArg _ (congrArg₂ Q (Fin.ext (by simp only []; omega)) (Fin.ext (by simp only []; omega)))

include hq in
theorem kScaled_at (i : Fin 128) (l : Fin 512) : kScaled q (ix2 i l) = ((Q i l * (1 / 8) : ℝ) : EReal) := by
  pointwise [kScaled]
  rw [hq, ofBits_eighth', ← EReal.coe_mul]
end Pairs

section Real
variable (K V : Fin 384 → Fin 128 → ℝ) (Q : Fin 128 → Fin 512 → ℝ) (kv : Fin 2)
theorem sum_KD (f : Fin 128 → ℝ) (h : Fin 2) (s : Fin 384) (r : Fin 768) (hr : r.val = 384 * h.val + s.val) :
    ∑ l, KD K kv r l * f l = ∑ d : Fin 64, K s (kcol kv d) * f ⟨64 * h.val + d.val, by omega⟩ := by
  have hs : (⟨r.val % 384, Nat.mod_lt _ (by decide)⟩ : Fin 384) = s := Fin.ext (by simp only []; omega)
  have hlo : ∀ d : Fin 64, KD K kv r ⟨d.val, by omega⟩ = if h.val = 0 then K s (kcol kv d) else 0 := fun d => by
    unfold KD; rw [hs]
    have e : (⟨d.val % 64, Nat.mod_lt _ (by decide)⟩ : Fin 64) = d := Fin.ext (by simp only []; omega)
    simp only [e]; exact if_congr (by omega) rfl rfl
  have hhi : ∀ d : Fin 64, KD K kv r ⟨64 + d.val, by omega⟩ = if h.val = 0 then 0 else K s (kcol kv d) := fun d => by
    unfold KD; rw [hs]
    have e : (⟨(64 + d.val) % 64, Nat.mod_lt _ (by decide)⟩ : Fin 64) = d := Fin.ext (by simp only []; omega)
    simp only [e]
    by_cases h0 : h.val = 0
    · rw [if_pos h0, if_neg (by omega)]
    · rw [if_neg h0, if_pos (by omega)]
  rw [sum128]; simp only [hlo, hhi]
  by_cases h0 : h.val = 0
  · simp only [h0, if_true, zero_mul, Finset.sum_const_zero, add_zero, mul_zero, zero_add]
  · have h1 : h.val = 1 := by omega
    simp only [h1, one_ne_zero, if_false, zero_mul, Finset.sum_const_zero, zero_add, mul_one]

theorem dot_KD (h : Fin 2) (s : Fin 384) (r : Fin 768) (hr : r.val = 384 * h.val + s.val) (c : Fin 256) :
    ∑ l, KD K kv r l * PR Q kv c l = ∑ d : Fin 64, K s (kcol kv d) * Q (ci c) (qcol kv (cg c h) d) := by
  rw [sum_KD K kv _ h s r hr]
  refine Finset.sum_congr rfl fun d _ => ?_
  unfold PR ci qcol cg
  congr 2; apply Fin.ext; simp only []; omega
end Real

end Cert.Proof.Attn.Ker

end
-- ==== Proof.AttnHead.lean ====
/- The kernel's functions of one key head and of one block, over real numbers: the attention's weights and gradients of
   Proof/AttnReal.lean. -/
module

public import proofs.«01_k».proof.Proof.AttnCol

@[expose] public section

set_option maxRecDepth 16384

noncomputable section

namespace Cert.Proof.Attn.Ker

open Cert.AttnIdeal Cert.AttnIdeal.Gen Idealize.ShloMosaic
open scoped BigOperators

/-! ## The mask -/

/-- A column's query, as the kernel computes it. -/
theorem rem128 (c : Fin 256) :
    Scalar.select
      (IntOp.andi
        (IntOp.xori (IntOp.cmpi .slt (IntOp.remsi .vector (BitVec.ofNat 32 ↑c) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 ↑c) (Scalar.select (Scalar.cmpi .eq 128#32 0#32) 1#32 128#32)) 0#32))
      (IntOp.addi (IntOp.remsi .vector (BitVec.ofNat 32 ↑c) (Scalar.select (Scalar.cmpi .eq 128#32 0#32) 1#32 128#32)) (Scalar.select (Scalar.cmpi .eq 128#32 0#32) 1#32 128#32))
      (IntOp.remsi .vector (BitVec.ofNat 32 ↑c) (Scalar.select (Scalar.cmpi .eq 128#32 0#32) 1#32 128#32)) = BitVec.ofNat 32 (ci c) := by
  revert c; decide +kernel

theorem kMask_at (n : Fin 32) (s : Fin 384) (c : Fin 256) : kMask (BitVec.ofNat 32 n) (ix2 s c) = bit (See n (ci c) s) := by
  have hn := n.2; have hi := (ci c).2; have hs := s.2
  pointwise [kMask]
  rw [rem128]
  show IntOp.andi (IntOp.andi (IntOp.andi (IntOp.cmpi .sge (BitVec.ofNat 32 ↑s) (BitVec.ofNat 32 ↑(ci c)))
      (IntOp.cmpi .sle (BitVec.ofNat 32 ↑s) (IntOp.addi (BitVec.ofNat 32 ↑(ci c)) 256#32)))
      (IntOp.cmpi .sge (IntOp.addi (IntOp.muli (IntOp.subi (BitVec.ofNat 32 ↑n) 1#32) 128#32) (BitVec.ofNat 32 ↑s)) 0#32))
      (IntOp.cmpi .slt (IntOp.addi (IntOp.muli (IntOp.subi (BitVec.ofNat 32 ↑n) 1#32) 128#32) (BitVec.ofNat 32 ↑s)) 4096#32) = _
  simp only [w_ofNat, Nat.cast_ofNat, Nat.cast_zero, Nat.cast_one, w_mul, w_add, w_sub]
  rw [w_sge (by omega) (by omega) (by omega) (by omega), w_sle (by omega) (by omega) (by omega) (by omega), w_sge (by omega) (by omega) (by omega) (by omega),
    w_slt (by omega) (by omega) (by omega) (by omega), bit_and, bit_and, bit_and]
  refine bit_congr ?_
  unfold See; omega

/-! ## One key head -/

theorem kSink_at (a b : Elt Ideal .f32) (z : Fin 1) (c : Fin 256) : kSink a b (ix2 z c) = if c.val < 128 then a else b := by
  pointwise [kSink]
  have hc := c.2
  rw [w_ofNat, show (128#32 : BitVec 32) = w 128 from rfl, w_slt (by omega) (by omega) (by omega) (by omega), select_bit]
  exact if_congr (by omega) rfl rfl

theorem kMix_at (x : A S768x128) (s : Fin 384) (l : Fin 128) :
    kMix x (ix2 s l) = if l.val < 64 then x (ix2 ⟨s.val, by omega⟩ l) else x (ix2 ⟨384 + s.val, by omega⟩ l) := by
  pointwise [kMix]
  simp only [kLo_at, select_bit]

theorem kFold_at (x : A S768x128) (s : Fin 384) (l : Fin 128) :
    kFold x (ix2 s l) = (x (ix2 ⟨s.val, by omega⟩ ⟨l.val % 64, by omega⟩) + x (ix2 ⟨384 + s.val, by omega⟩ ⟨64 + l.val % 64, by omega⟩) : EReal) := by
  pointwise [kFold]
  have hl := l.2
  rw [kRot_at, kMix_at, kMix_at]
  by_cases h : l.val < 64
  · have e : (⟨(l.val + 128 - 64) % 128, Nat.mod_lt _ (by decide)⟩ : Fin 128) = ⟨64 + l.val % 64, by omega⟩ := Fin.ext (by simp only []; omega)
    have e' : (⟨l.val % 64, by omega⟩ : Fin 128) = l := Fin.ext (by simp only []; omega)
    rw [if_pos h, if_neg (by simp only []; omega), e, e']
  · have e : (⟨(l.val + 128 - 64) % 128, Nat.mod_lt _ (by decide)⟩ : Fin 128) = ⟨l.val % 64, by omega⟩ := Fin.ext (by simp only []; omega)
    have e' : (⟨64 + l.val % 64, by omega⟩ : Fin 128) = l := Fin.ext (by simp only []; omega)
    rw [if_neg h, if_pos (by simp only []; omega), e, e', add_comm]

section Back
variable {W : Fin 768 → Fin 256 → ℝ} {X : Fin 128 → Fin 512 → ℝ} {K : Fin 384 → Fin 128 → ℝ} {kv : Fin 2} {w : B S768x256} {x : B S256x128} {kd : B S768x128}
  (hw : ∀ r c, w (ix2 r c) = (W r c : EReal))

/-- A sum over the columns of both pairs, both heads' parts together: the sum over the four heads and the queries. -/
theorem sum_cols (F : Fin 4 → Fin 128 → ℝ) (d : Fin 64) :
    ∑ c : Fin 256, F (cg c 0) (ci c) * PR X kv c ⟨d.val, by omega⟩ + ∑ c : Fin 256, F (cg c 1) (ci c) * PR X kv c ⟨64 + d.val, by omega⟩
      = ∑ g, ∑ i, F g i * X i (qcol kv g d) := by
  have t : ∀ (c : Fin 128 → Fin 256) (h : Fin 2) (l : Fin 128) (g : Fin 4), (∀ i, (c i).val % 128 = i.val) → (∀ i, 2 * ((c i).val / 128) + h.val = g.val) →
      (∀ i, 128 * ((c i).val / 128) + l.val = 64 * g.val + d.val) → ∑ i, F (cg (c i) h) (ci (c i)) * PR X kv (c i) l = ∑ i, F g i * X i (qcol kv g d) := fun c h l g e1 e2 e3 =>
    Finset.sum_congr rfl fun i _ => by
      have e3 := e3 i
      have g1 : ci (c i) = i := Fin.ext (e1 i)
      have g2 : cg (c i) h = g := Fin.ext (e2 i)
      have g3 : PR X kv (c i) l = X i (qcol kv g d) := congrArg₂ X (Fin.ext (e1 i)) (Fin.ext (by simp only [qcol]; omega))
      rw [g1, g2, g3]
  have z0 : ((0 : Fin 2) : ℕ) = 0 := rfl
  have z1 : ((1 : Fin 2) : ℕ) = 1 := rfl
  rw [sum256, sum256]
  refine (congrArg₂ (· + ·) (congrArg₂ (· + ·) (t (fun i => ⟨i.val, by omega⟩) 0 ⟨d.val, by omega⟩ 0 ?_ ?_ ?_) (t (fun i => ⟨128 + i.val, by omega⟩) 0 ⟨d.val, by omega⟩ 2 ?_ ?_ ?_))
    (congrArg₂ (· + ·) (t (fun i => ⟨i.val, by omega⟩) 1 ⟨64 + d.val, by omega⟩ 1 ?_ ?_ ?_) (t (fun i => ⟨128 + i.val, by omega⟩) 1 ⟨64 + d.val, by omega⟩ 3 ?_ ?_ ?_))).trans ?_
  case refine_13 => rw [Fin.sum_univ_four]; ring
  all_goals (intro i; have hi := i.2; first | (show _ % 128 = _; dsimp only; omega) | (show _ = ((0 : Fin 4) : ℕ); simp only [z0, Fin.val_zero]; omega) | (simp only [z0, z1, Fin.val_zero, Fin.val_one, Fin.val_two]; omega))

include hw

theorem kBack_at (hx : ∀ c l, x (ix2 c l) = (PR X kv c l : EReal)) (F : Fin 384 → Fin 4 → Fin 128 → ℝ)
    (h0 : ∀ s c, W ⟨s.val, by omega⟩ c = F s (cg c 0) (ci c)) (h1 : ∀ s c, W ⟨384 + s.val, by omega⟩ c = F s (cg c 1) (ci c)) (s : Fin 384) (l : Fin 128) :
    kBack w x (ix2 s l) = ((∑ g, ∑ i, F s g i * X i (qcol kv g ⟨l.val % 64, Nat.mod_lt _ (by decide)⟩) : ℝ) : EReal) := by
  unfold kBack; rw [kFold_at]
  pointwise
  simp only [hw, hx, h0, h1, ← EReal.coe_mul, sum_coe, ← EReal.coe_add]
  rw [← sum_cols]

theorem kDq2_at (hk : ∀ r l, kd (ix2 r l) = (KD K kv r l : EReal)) (F : Fin 384 → Fin 4 → Fin 128 → ℝ)
    (h0 : ∀ s c, W ⟨s.val, by omega⟩ c = F s (cg c 0) (ci c)) (h1 : ∀ s c, W ⟨384 + s.val, by omega⟩ c = F s (cg c 1) (ci c)) (c : Fin 256) (l : Fin 128) :
    kDq2 w kd (ix2 c l) = (((∑ s, F s (cg c ⟨l.val / 64, by omega⟩) (ci c) * K s (kcol kv ⟨l.val % 64, Nat.mod_lt _ (by decide)⟩)) * (1 / 8) : ℝ) : EReal) := by
  pointwise [kDq2]
  simp only [hw, hk, ← EReal.coe_mul, sum_coe, ofBits_eighth]
  congr 2
  have hl := l.2
  have hs : ∀ s : Fin 384, (⟨s.val % 384, Nat.mod_lt _ (by decide)⟩ : Fin 384) = s := fun s => Fin.ext (by simp only []; omega)
  have hs' : ∀ s : Fin 384, (⟨(384 + s.val) % 384, Nat.mod_lt _ (by decide)⟩ : Fin 384) = s := fun s => Fin.ext (by simp only []; omega)
  rw [sum768]; simp only [h0, h1, KD, hs, hs']
  have t0 : ∀ s : Fin 384, s.val / 384 = 0 := fun s => by omega
  have t1 : ∀ s : Fin 384, (384 + s.val) / 384 = 1 := fun s => by omega
  simp only [t0, t1]
  by_cases h : l.val < 64
  · have e0 : l.val / 64 = 0 := by omega
    simp only [e0, if_true, if_neg (show ¬(1 = 0) by decide), mul_zero, Finset.sum_const_zero, add_zero]; rfl
  · have e0 : l.val / 64 = 1 := by omega
    simp only [e0, if_true, if_neg (show ¬(0 = 1) by decide), mul_zero, Finset.sum_const_zero, zero_add]; rfl
end Back

section Head
variable {K V : Fin 384 → Fin 128 → ℝ} {Q Y : Fin 128 → Fin 512 → ℝ} {P : Fin 128 → Fin 384 → Prop} [∀ i, DecidablePred (P i)] {σ : Fin 8 → ℝ} {kv : Fin 2}
  {M : IVec S384x256 1} {kd vd : B S768x128} {qs q a : B S256x128} {s0 s1 s2 s3 : Elt Ideal .f32}

theorem sink_at (h : Fin 2) {a b : Elt Ideal .f32} (ha : a = (σ (hd kv ⟨h.val, by omega⟩) : EReal)) (hb : b = (σ (hd kv ⟨2 + h.val, by omega⟩) : EReal)) (z : Fin 1) (c : Fin 256) :
    kSink a b (ix2 z c) = (σ (hd kv (cg c h)) : EReal) := by
  rw [kSink_at, ha, hb]
  have hc := c.2
  split_ifs
  · exact congrArg (fun g => ((σ (hd kv g) : ℝ) : EReal)) (Fin.ext (by show h.val = 2 * (c.val / 128) + h.val; omega))
  · exact congrArg (fun g => ((σ (hd kv g) : ℝ) : EReal)) (Fin.ext (by show 2 + h.val = 2 * (c.val / 128) + h.val; omega))

theorem kCat_at (a b : B S384x256) (r : Fin 768) (c : Fin 256) : kCat a b (ix2 r c) = if h : r.val < 384 then a (ix2 ⟨r.val, h⟩ c) else b (ix2 ⟨r.val - 384, by omega⟩ c) := by
  pointwise [kCat]

/-- One half stacked over another: the entries of the head's row. -/
theorem kCat_real (F : Fin 384 → Fin 4 → Fin 128 → ℝ) {a b : B S384x256} (ha : ∀ s c, a (ix2 s c) = (F s (cg c 0) (ci c) : EReal)) (hb : ∀ s c, b (ix2 s c) = (F s (cg c 1) (ci c) : EReal)) (r : Fin 768) (c : Fin 256) :
    kCat a b (ix2 r c) = ((if h : r.val < 384 then F ⟨r.val, h⟩ (cg c 0) (ci c) else F ⟨r.val - 384, by omega⟩ (cg c 1) (ci c) : ℝ) : EReal) := by
  rw [kCat_at]; split_ifs
  · exact ha _ _
  · exact hb _ _

variable (hM : ∀ s c, M (ix2 s c) = bit (P (ci c) s)) (hkd : ∀ r l, kd (ix2 r l) = (KD K kv r l : EReal)) (hvd : ∀ r l, vd (ix2 r l) = (KD V kv r l : EReal))
  (hqs : ∀ c l, qs (ix2 c l) = ((PR Q kv c l * (1 / 8) : ℝ) : EReal)) (hq : ∀ c l, q (ix2 c l) = (PR Q kv c l : EReal)) (ha : ∀ c l, a (ix2 c l) = (PR Y kv c l : EReal))
  (h0 : s0 = (σ (hd kv 0) : EReal)) (h1 : s1 = (σ (hd kv 2) : EReal)) (h2 : s2 = (σ (hd kv 1) : EReal)) (h3 : s3 = (σ (hd kv 3) : EReal))

include hkd hqs in
theorem dots_at (h : Fin 2) (s : Fin 384) (r : Fin 768) (hr : r.val = 384 * h.val + s.val) (c : Fin 256) :
    kDot kd qs (ix2 r c) = (scr K Q kv (cg c h) (ci c) s : EReal) := by
  pointwise [kDot]
  simp only [hkd, hqs, ← EReal.coe_mul, sum_coe, ← mul_assoc, ← Finset.sum_mul]
  rw [dot_KD K Q kv h s r hr]; rfl

include hvd ha in
theorem dotv_at (h : Fin 2) (s : Fin 384) (r : Fin 768) (hr : r.val = 384 * h.val + s.val) (c : Fin 256) :
    kDot vd a (ix2 r c) = (dpr V Y kv (cg c h) (ci c) s : EReal) := by
  pointwise [kDot]
  simp only [hvd, ha, ← EReal.coe_mul, sum_coe]
  rw [dot_KD V Y kv h s r hr]; rfl

include hM in
theorem kMsk_at {x : A S384x256} {f : Fin 384 → ℝ} (c : Fin 256) (hx : ∀ s, x (ix2 s c) = (f s : EReal)) (s : Fin 384) : kMsk M x (ix2 s c) = msk (P (ci c)) f s := by
  pointwise [kMsk]
  rw [hM, select_bit, hx]; rfl

include hM hkd hqs
theorem top_at (c : Fin 256) (s : Fin 384) : kMsk M (kTop (kDot kd qs)) (ix2 s c) = msk (P (ci c)) (scr K Q kv (cg c 0) (ci c)) s :=
  kMsk_at hM c (fun s => by pointwise [kTop]; exact dots_at hkd hqs 0 s _ (by simp only [Fin.val_zero]; omega) c) s
theorem bot_at (c : Fin 256) (s : Fin 384) : kMsk M (kBot (kDot kd qs)) (ix2 s c) = msk (P (ci c)) (scr K Q kv (cg c 1) (ci c)) s :=
  kMsk_at hM c (fun s => by pointwise [kBot]; exact dots_at hkd hqs 1 s _ (by simp only [Fin.val_one]) c) s

include ha h0 h1 h2 h3
theorem hDv_at (s : Fin 384) (l : Fin 128) : hDv M kd qs a s0 s1 s2 s3 (ix2 s l) = (bDv K Q Y P σ kv s ⟨l.val % 64, Nat.mod_lt _ (by decide)⟩ : EReal) := by
  unfold hDv
  exact kBack_at (kCat_real (fun s g i => bW K Q P σ kv g i s) (fun s c => kW'_at _ _ _ c (top_at hM hkd hqs c) (fun z => sink_at 0 h0 h1 z c) s) (fun s c => kW'_at _ _ _ c (bot_at hM hkd hqs c) (fun z => sink_at 1 h2 h3 z c) s))
    ha (fun s g i => bW K Q P σ kv g i s) (fun s c => dif_pos s.2) (fun s c => (dif_neg (by simp only []; omega)).trans (by simp only [Nat.add_sub_cancel_left])) s l

include hvd
theorem hDs_at (r : Fin 768) (c : Fin 256) : hDs M kd vd qs a s0 s1 s2 s3 (ix2 r c) =
    ((if h : r.val < 384 then bDs K V Q Y P σ kv (cg c 0) (ci c) ⟨r.val, h⟩ else bDs K V Q Y P σ kv (cg c 1) (ci c) ⟨r.val - 384, by omega⟩ : ℝ) : EReal) := by
  unfold hDs
  exact kCat_real (fun s g i => bDs K V Q Y P σ kv g i s)
    (fun s c => kDs_at _ _ _ _ c (top_at hM hkd hqs c) (fun z => sink_at 0 h0 h1 z c) (fun s => by pointwise [kTop]; exact dotv_at hvd ha 0 s _ (by simp only [Fin.val_zero]; omega) c) s)
    (fun s c => kDs_at _ _ _ _ c (bot_at hM hkd hqs c) (fun z => sink_at 1 h2 h3 z c) (fun s => by pointwise [kBot]; exact dotv_at hvd ha 1 s _ (by simp only [Fin.val_one]) c) s) r c

theorem hDq_at (c : Fin 256) (l : Fin 128) : hDq M kd vd qs a s0 s1 s2 s3 (ix2 c l) = (bDq K V Q Y P σ kv (cg c ⟨l.val / 64, by omega⟩) (ci c) ⟨l.val % 64, Nat.mod_lt _ (by decide)⟩ : EReal) := by
  unfold hDq
  exact kDq2_at (hDs_at hM hkd hvd hqs ha h0 h1 h2 h3) hkd (fun s g i => bDs K V Q Y P σ kv g i s) (fun s c => dif_pos s.2) (fun s c => (dif_neg (by simp only []; omega)).trans (by simp only [Nat.add_sub_cancel_left])) c l

omit h2 h3 in
theorem hSk0_at (z : Fin 1) (c : Fin 256) : hSk0 M kd vd qs a s0 s1 (ix2 z c) = (dsk (P (ci c)) (scr K Q kv (cg c 0) (ci c)) (dpr V Y kv (cg c 0) (ci c)) (σ (hd kv (cg c 0))) : EReal) :=
  kDsk_at _ _ _ _ c (top_at hM hkd hqs c) (fun z => sink_at 0 h0 h1 z c) (fun s => by pointwise [kTop]; exact dotv_at hvd ha 0 s _ (by simp only [Fin.val_zero]; omega) c) z
omit h0 h1 in
theorem hSk1_at (z : Fin 1) (c : Fin 256) : hSk1 M kd vd qs a s2 s3 (ix2 z c) = (dsk (P (ci c)) (scr K Q kv (cg c 1) (ci c)) (dpr V Y kv (cg c 1) (ci c)) (σ (hd kv (cg c 1))) : EReal) :=
  kDsk_at _ _ _ _ c (bot_at hM hkd hqs c) (fun z => sink_at 1 h2 h3 z c) (fun s => by pointwise [kBot]; exact dotv_at hvd ha 1 s _ (by simp only [Fin.val_one]) c) z

include hq
theorem hDk_at (s : Fin 384) (l : Fin 128) : hDk M kd vd qs q a s0 s1 s2 s3 (ix2 s l) = (bDk K V Q Y P σ kv s ⟨l.val % 64, Nat.mod_lt _ (by decide)⟩ : EReal) := by
  pointwise [hDk, kScale]
  rw [kBack_at (hDs_at hM hkd hvd hqs ha h0 h1 h2 h3) hq (fun s g i => bDs K V Q Y P σ kv g i s) (fun s c => dif_pos s.2) (fun s c => (dif_neg (by simp only []; omega)).trans (by simp only [Nat.add_sub_cancel_left])) s l,
    ofBits_eighth, ← EReal.coe_mul]
  rfl
end Head

/-! ## One block -/

section Block
variable {K V : Fin 384 → Fin 128 → ℝ} {Q Y : Fin 128 → Fin 512 → ℝ} {P : Fin 128 → Fin 384 → Prop} [∀ i, DecidablePred (P i)] {σ : Fin 8 → ℝ}
  {M : IVec S384x256 1} {k v : B S384x128} {q a : B S128x512} {S : Fin 8 → Elt Ideal .f32}
  (hM : ∀ s c, M (ix2 s c) = bit (P (ci c) s)) (hk : ∀ s l, k (ix2 s l) = (K s l : EReal)) (hv : ∀ s l, v (ix2 s l) = (V s l : EReal))
  (hq : ∀ i l, q (ix2 i l) = (Q i l : EReal)) (ha : ∀ i l, a (ix2 i l) = (Y i l : EReal)) (hS : ∀ h, S h = (σ h : EReal))

include hq in
theorem pairScaled0_at (c : Fin 256) (l : Fin 128) : kPair0 (kScaled q) (ix2 c l) = ((PR Q 0 c l * (1 / 8) : ℝ) : EReal) := kPair0_at (Q := fun i l => Q i l * (1 / 8)) (kScaled_at hq) c l
include hq in
theorem pairScaled1_at (c : Fin 256) (l : Fin 128) : kPair1 (kScaled q) (ix2 c l) = ((PR Q 1 c l * (1 / 8) : ℝ) : EReal) := kPair1_at (Q := fun i l => Q i l * (1 / 8)) (kScaled_at hq) c l

include hM hk hv hq ha hS
theorem bkDk_at (s : Fin 384) (l : Fin 128) : bkDk M k v q a (S 0) (S 1) (S 2) (S 3) (S 4) (S 5) (S 6) (S 7) (ix2 s l)
    = (bDk K V Q Y P σ ⟨l.val / 64, by omega⟩ s ⟨l.val % 64, Nat.mod_lt _ (by decide)⟩ : EReal) := by
  pointwise [bkDk]
  rw [kLo_at, select_bit, hDk_at hM (kDiag0_at hk) (kDiag0_at hv) (pairScaled0_at hq) (kPair0_at hq) (kPair0_at ha) (hS 0) (hS 2) (hS 1) (hS 3) s l,
    hDk_at hM (kDiag1_at hk) (kDiag1_at hv) (pairScaled1_at hq) (kPair1_at hq) (kPair1_at ha) (hS 4) (hS 6) (hS 5) (hS 7) s l]
  have hl := l.2
  split_ifs
  · exact congrArg (fun kv => ((bDk K V Q Y P σ kv s ⟨l.val % 64, _⟩ : ℝ) : EReal)) (Fin.ext (by show 0 = l.val / 64; omega))
  · exact congrArg (fun kv => ((bDk K V Q Y P σ kv s ⟨l.val % 64, _⟩ : ℝ) : EReal)) (Fin.ext (by show 1 = l.val / 64; omega))

theorem bkDq0_at (c : Fin 256) (l : Fin 128) : bkDq0 M k v q a (S 0) (S 1) (S 2) (S 3) (ix2 c l)
    = (bDq K V Q Y P σ 0 (cg c ⟨l.val / 64, by omega⟩) (ci c) ⟨l.val % 64, Nat.mod_lt _ (by decide)⟩ : EReal) :=
  hDq_at hM (kDiag0_at hk) (kDiag0_at hv) (pairScaled0_at hq) (kPair0_at ha) (hS 0) (hS 2) (hS 1) (hS 3) c l
theorem bkDq1_at (c : Fin 256) (l : Fin 128) : bkDq1 M k v q a (S 4) (S 5) (S 6) (S 7) (ix2 c l)
    = (bDq K V Q Y P σ 1 (cg c ⟨l.val / 64, by omega⟩) (ci c) ⟨l.val % 64, Nat.mod_lt _ (by decide)⟩ : EReal) :=
  hDq_at hM (kDiag1_at hk) (kDiag1_at hv) (pairScaled1_at hq) (kPair1_at ha) (hS 4) (hS 6) (hS 5) (hS 7) c l

omit hv in
theorem bkDv_at (s : Fin 384) (l : Fin 128) : bkDv M k q a (S 0) (S 1) (S 2) (S 3) (S 4) (S 5) (S 6) (S 7) (ix2 s l)
    = (bDv K Q Y P σ ⟨l.val / 64, by omega⟩ s ⟨l.val % 64, Nat.mod_lt _ (by decide)⟩ : EReal) := by
  pointwise [bkDv]
  rw [kLo_at, select_bit, hDv_at hM (kDiag0_at hk) (pairScaled0_at hq) (kPair0_at ha) (hS 0) (hS 2) (hS 1) (hS 3) s l,
    hDv_at hM (kDiag1_at hk) (pairScaled1_at hq) (kPair1_at ha) (hS 4) (hS 6) (hS 5) (hS 7) s l]
  have hl := l.2
  split_ifs
  · exact congrArg (fun kv => ((bDv K Q Y P σ kv s ⟨l.val % 64, _⟩ : ℝ) : EReal)) (Fin.ext (by show 0 = l.val / 64; omega))
  · exact congrArg (fun kv => ((bDv K Q Y P σ kv s ⟨l.val % 64, _⟩ : ℝ) : EReal)) (Fin.ext (by show 1 = l.val / 64; omega))
end Block

end Cert.Proof.Attn.Ker

end
-- ==== Proof.AttnRun.lean ====
/- What the kernel's run of one grid step leaves in the four output blocks claimed: four blocks of 128 queries, each by the
   functions of Proof/AttnBlock.lean. -/
module

public import proofs.«01_k».proof.Proof.AttnBlock
public import proofs.«01_k».proof.Proof.Gen.AttnIdeal.Value
public import Idealize.ShloMosaic.Lib.Pipeline.ValueKit
public import Idealize.ShloMosaic.Lib.VecWindow

@[expose] public section

set_option maxRecDepth 16384

noncomputable section

namespace Cert.Proof.Attn.Ker

open Cert.AttnIdeal Cert.AttnIdeal.Gen Idealize.ShloMosaic

/-- The number of block `j` of grid step `i`. -/
def nAt (i : grid0.Coords) (j : ℕ) : BitVec 32 := Scalar.addi (Scalar.muli (BitVec.ofNat 32 (i 0)) 4#32) (BitVec.ofNat 32 j)
/-- Three blocks of rows one below the other. -/
def stk (a : B S128x128) (b : B S512x128) (c : B S128x128) : B S768x128 :=
  concatenate S768x128 0 [⟨S128x128, shapeCast S128x128 (View.ld (Val := Elt Ideal) (e' := .bf16) a (Rect.unit ![0, 0] S128x128.size (by decide))) shapeCasts_S128x128_S128x128⟩,
    ⟨S512x128, shapeCast S512x128 (View.ld (Val := Elt Ideal) (e' := .bf16) b (Rect.unit ![0, 0] S512x128.size (by decide))) shapeCasts_S512x128_S512x128⟩,
    ⟨S128x128, shapeCast S128x128 (View.ld (Val := Elt Ideal) (e' := .bf16) c (Rect.unit ![0, 0] S128x128.size (by decide))) shapeCasts_S128x128_S128x128⟩] concatenates_S128x128_S512x128_S128x128_S768x128_d0
theorem kSl_ok (j : Fin 4) : S768x128.Slices ![128 * (j : ℕ), 0] S384x128 := by revert j; decide
/-- The rows of block `j`'s band. -/
def kSl (j : Fin 4) (x : B S768x128) : B S384x128 := extractStridedSlice S384x128 ![128 * (j : ℕ), 0] x (kSl_ok j)
theorem kRows_ok (j : Fin 4) : ∀ d, (![128 * (j : ℕ), 0] : Fin 2 → ℕ) d + S128x512.size d ≤ S512x512.size d := by revert j; decide
def kQ (j : Fin 4) (x : B S512x512) : B S128x512 := shapeCast S128x512 (View.ld (Val := Elt Ideal) (e' := .bf16) x (Rect.unit ![128 * (j : ℕ), 0] S128x512.size (kRows_ok j))) shapeCasts_S128x512_S128x512
def kA (j : Fin 4) (x : A S512x512) : B S128x512 := truncf .bf16 (s := S128x512) (φ := .f32) (View.ld (Val := Elt Ideal) (e' := .f32) x (Rect.unit ![128 * (j : ℕ), 0] S128x512.size (kRows_ok j))) bitsLt_bf16_f32
theorem kS_ok (h : Fin 8) : ∀ d, (![0, (h : ℕ)] : Fin 2 → ℕ) d + S1x1.size d ≤ S1x8.size d := by revert h; decide
def kS (x : A S1x8) (h : Fin 8) : Elt Ideal .f32   := View.ld (Val := Elt Ideal) (e' := .f32) x (Rect.unit ![0, (h : ℕ)] S1x1.size (kS_ok h)) (Shape.Idx.first (s := S1x1) (by decide))

section Step
variable (i : grid0.Coords) (x0 : A S1x8) (x1 : B S512x512) (x2 : B S128x128) (x3 : B S512x128) (x4 : B S128x128) (x5 : B S128x128) (x6 : B S512x128) (x7 : B S128x128) (x11 : A S512x512)
def gDk (j : Fin 4) : A S384x128 := bkDk (kMask (nAt i j)) (kSl j (stk x2 x3 x4)) (kSl j (stk x5 x6 x7)) (kQ j x1) (kA j x11) (kS x0 0) (kS x0 1) (kS x0 2) (kS x0 3) (kS x0 4) (kS x0 5) (kS x0 6) (kS x0 7)
def gDv (j : Fin 4) : A S384x128 := bkDv (kMask (nAt i j)) (kSl j (stk x2 x3 x4)) (kQ j x1) (kA j x11) (kS x0 0) (kS x0 1) (kS x0 2) (kS x0 3) (kS x0 4) (kS x0 5) (kS x0 6) (kS x0 7)
def gDq0 (j : Fin 4) : A S256x128 := bkDq0 (kMask (nAt i j)) (kSl j (stk x2 x3 x4)) (kSl j (stk x5 x6 x7)) (kQ j x1) (kA j x11) (kS x0 0) (kS x0 1) (kS x0 2) (kS x0 3)
def gDq1 (j : Fin 4) : A S256x128 := bkDq1 (kMask (nAt i j)) (kSl j (stk x2 x3 x4)) (kSl j (stk x5 x6 x7)) (kQ j x1) (kA j x11) (kS x0 4) (kS x0 5) (kS x0 6) (kS x0 7)

theorem off20_ok (k : Fin 12) : ∀ d, (![3 - (k : ℕ) / 3, 2 - (k : ℕ) % 3, 0, 0] : Fin 4 → ℕ) d + S1x1x128x128.size d ≤ S4x3x128x128.size d := by revert k; decide
theorem sl20_ok (k : Fin 12) : S384x128.Slices ![128 * (2 - (k : ℕ) % 3), 0] S128x128 := by revert k; decide
def at20 (k : Fin 12) : Fin 4 := ⟨3 - (k : ℕ) / 3, by omega⟩
/-- Twelve stores of 128 rows, block after block, the last first. -/
def L20 (f : Fin 4 → A S384x128) : List (View.Piece (Elt Ideal) S4x3x128x128 .f32) :=
  List.ofFn fun k : Fin 12 => ⟨Rect.unit ![3 - (k : ℕ) / 3, 2 - (k : ℕ) % 3, 0, 0] S1x1x128x128.size (off20_ok k),
    shapeCast S1x1x128x128 (extractStridedSlice S128x128 ![128 * (2 - (k : ℕ) % 3), 0] (f (at20 k)) (sl20_ok k)) shapeCasts_S128x128_S1x1x128x128⟩

theorem off19_ok (k : Fin 16) : ∀ d, (![128 * (3 - (k : ℕ) / 4), 128 * (3 - (k : ℕ) % 4)] : Fin 2 → ℕ) d + S128x128.size d ≤ S512x512.size d := by revert k; decide
theorem sl19_ok (k : Fin 16) : S256x128.Slices ![128 * ((3 - (k : ℕ) % 4) % 2), 0] S128x128 := by revert k; decide
def at19 (k : Fin 16) : Fin 4 := ⟨3 - (k : ℕ) / 4, by omega⟩
def L19 (f g : Fin 4 → A S256x128) : List (View.Piece (Elt Ideal) S512x512 .f32) :=
  List.ofFn fun k : Fin 16 => ⟨Rect.unit ![128 * (3 - (k : ℕ) / 4), 128 * (3 - (k : ℕ) % 4)] S128x128.size (off19_ok k),
    extractStridedSlice S128x128 ![128 * ((3 - (k : ℕ) % 4) % 2), 0] (if (3 - (k : ℕ) % 4) < 2 then f (at19 k) else g (at19 k)) (sl19_ok k)⟩

/-- The head whose sink's gradient is added at place `k` of a block's eight. -/
def ord (k : ℕ) : Fin 8 := (![0, 2, 1, 3, 4, 6, 5, 7] : Fin 8 → Fin 8) ⟨k % 8, Nat.mod_lt _ (by decide)⟩
theorem row_ok (h : Fin 8) : ∀ d, (![(h : ℕ), 0] : Fin 2 → ℕ) d + S1x128.size d ≤ S8x128.size d := by revert h; decide
abbrev rowR (h : Fin 8) : Rect S8x128 := Rect.unit ![(h : ℕ), 0] S1x128.size (row_ok h)
theorem half_ok (h : Fin 8) : S1x256.Slices ![0, 128 * ((h : ℕ) / 2 % 2)] S1x128 := by revert h; decide
/-- The sum of a head's 128 columns, in every lane of a row. -/
def rowSum (h : Fin 8) (x : A S1x256) : A S1x128 :=
  broadcastTo S1x128 (shapeCast S1x1 (shapeCast S1x1 (multiReduction .add [1] S1 (extractStridedSlice S1x128 ![0, 128 * ((h : ℕ) / 2 % 2)] x (half_ok h)) 0x00000000#32 reduces_S1x128_S1 (.inl rfl) rfl) shapeCasts_S1_S1x1) shapeCasts_S1x1_S1x1) broadcasts_S1x1_S1x128
def gSk (j : Fin 4) (h : Fin 8) : A S1x256 :=
  if (h : ℕ) < 4 then
    if (h : ℕ) % 2 = 0 then hSk0 (kMask (nAt i j)) (kDiag0 (kSl j (stk x2 x3 x4))) (kDiag0 (kSl j (stk x5 x6 x7))) (kPair0 (kScaled (kQ j x1))) (kPair0 (kA j x11)) (kS x0 0) (kS x0 2)
    else hSk1 (kMask (nAt i j)) (kDiag0 (kSl j (stk x2 x3 x4))) (kDiag0 (kSl j (stk x5 x6 x7))) (kPair0 (kScaled (kQ j x1))) (kPair0 (kA j x11)) (kS x0 1) (kS x0 3)
  else
    if (h : ℕ) % 2 = 0 then hSk0 (kMask (nAt i j)) (kDiag1 (kSl j (stk x2 x3 x4))) (kDiag1 (kSl j (stk x5 x6 x7))) (kPair1 (kScaled (kQ j x1))) (kPair1 (kA j x11)) (kS x0 4) (kS x0 6)
    else hSk1 (kMask (nAt i j)) (kDiag1 (kSl j (stk x2 x3 x4))) (kDiag1 (kSl j (stk x5 x6 x7))) (kPair1 (kScaled (kQ j x1))) (kPair1 (kA j x11)) (kS x0 5) (kS x0 7)
def gRow (k : ℕ) : A S1x128 := rowSum (ord k) (gSk i x0 x1 x2 x3 x4 x5 x6 x7 x11 ⟨k / 8 % 4, Nat.mod_lt _ (by decide)⟩ (ord k))
end Step

section Rows
variable (v : View sig .tc .vmem S8x128 .f32) (f : ℕ → A S1x128)
/-- The rows' stores at the first step: zeros everywhere, then one row after another, each read back first. -/
def rowsA : ℕ → List (View.Piece (Elt Ideal) S8x128 .f32)
  | 0 => [⟨Rect.unit ![0, 0] S8x128.size (by decide), broadcast S8x128 (Scalar.ofBits (F := Ideal) .f32 0x00000000#32)⟩]
  | k + 1 => ⟨rowR (ord k), addf (F := Ideal) (φ := .f32) (shapeCast S1x128 (v.readCov (Val := Elt Ideal) (rowsA k) (rowR (ord k)).toLoadRect) shapeCasts_S1x128_S1x128) (f k)⟩ :: rowsA k
/-- The rows' stores at a later step: each row's first addition reads what the step before left. -/
def rowsB (x : A S8x128) : ℕ → List (View.Piece (Elt Ideal) S8x128 .f32)
  | 0 => []
  | k + 1 => ⟨rowR (ord k), addf (F := Ideal) (φ := .f32) (shapeCast S1x128 (if k < 8 then View.ld (Val := Elt Ideal) (e' := .f32) x (rowR (ord k)) else v.readCov (Val := Elt Ideal) (rowsB x k) (rowR (ord k)).toLoadRect) shapeCasts_S1x128_S1x128) (f k)⟩ :: rowsB x k
end Rows

section Run
variable (c : Dev nD) (i : grid0.Coords) (arg1 : Memref sig .tc .smem S1x8 .f32) (harg1 : arg1.IsWhole) (arg2 : Memref sig .tc .vmem S512x512 .bf16) (harg2 : arg2.IsWhole) (arg3 : Memref sig .tc .vmem S128x128 .bf16) (harg3 : arg3.IsWhole) (arg4 : Memref sig .tc .vmem S512x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S128x128 .bf16) (harg8 : arg8.IsWhole) (arg9 : Memref sig .tc .vmem S128x512 .f32) (harg9 : arg9.IsWhole) (arg10 : Memref sig .tc .vmem S512x512 .f32) (harg10 : arg10.IsWhole) (arg11 : Memref sig .tc .vmem S128x512 .f32) (harg11 : arg11.IsWhole) (arg12 : Memref sig .tc .vmem S512x512 .f32) (harg12 : arg12.IsWhole) (arg13 : Memref sig .tc .vmem S128x512 .f32) (harg13 : arg13.IsWhole) (arg14 : Memref sig .tc .vmem S512x512 .f32) (harg14 : arg14.IsWhole) (arg15 : Memref sig .tc .vmem S128x512 .f32) (harg15 : arg15.IsWhole) (arg16 : Memref sig .tc .vmem S4x128x128 .f32) (harg16 : arg16.IsWhole) (arg17 : Memref sig .tc .vmem S1x512 .f32) (harg17 : arg17.IsWhole) (arg18 : Memref sig .tc .vmem S3x4x128x384 .bf16) (harg18 : arg18.IsWhole) (arg19 : Memref sig .tc .vmem S3x4x128x384 .bf16) (harg19 : arg19.IsWhole) (arg20 : Memref sig .tc .vmem S512x512 .f32) (harg20 : arg20.IsWhole) (arg21 : Memref sig .tc .vmem S4x3x128x128 .f32) (harg21 : arg21.IsWhole) (arg22 : Memref sig .tc .vmem S4x3x128x128 .f32) (harg22 : arg22.IsWhole) (arg23 : Memref sig .tc .vmem S512x512 .f32) (harg23 : arg23.IsWhole) (arg24 : Memref sig .tc .vmem S8x128 .f32) (harg24 : arg24.IsWhole) (arg25 : Memref sig .tc .vmem S4x128x128 .f32) (harg25 : arg25.IsWhole) (arg26 : Memref sig .tc .vmem S1x512 .f32) (harg26 : arg26.IsWhole)
  (x0 : Vec Ideal S1x8 .f32) (x1 : Vec Ideal S512x512 .bf16) (x2 : Vec Ideal S128x128 .bf16) (x3 : Vec Ideal S512x128 .bf16) (x4 : Vec Ideal S128x128 .bf16) (x5 : Vec Ideal S128x128 .bf16) (x6 : Vec Ideal S512x128 .bf16) (x7 : Vec Ideal S128x128 .bf16) (x8 : Vec Ideal S128x512 .f32) (x9 : Vec Ideal S512x512 .f32) (x10 : Vec Ideal S128x512 .f32) (x11 : Vec Ideal S512x512 .f32) (x12 : Vec Ideal S128x512 .f32) (x13 : Vec Ideal S512x512 .f32) (x14 : Vec Ideal S128x512 .f32) (x15 : Vec Ideal S4x128x128 .f32) (x16 : Vec Ideal S1x512 .f32) (x17 : Vec Ideal S3x4x128x384 .bf16) (x18 : Vec Ideal S3x4x128x384 .bf16)

/-- What a whole array's staging buffer reads, at the array it holds. -/
abbrev rd {sp : Space} {s : Shape} {e : EltTy} (a : Memref sig .tc sp s e) (h : a.IsWhole) (x : Vec Ideal s e) : Vec Ideal s e := a.view.read (Elt Ideal) (h.unread x)

theorem run19A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).1
    = L19 (gDq0 i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) (gDq1 i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) := by sl_kernel_rfl

theorem run20A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.1
    = L20 (gDk i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) := by sl_kernel_rfl

theorem run21A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.1
    = L20 (gDv i (rd arg1 harg1 x0) (rd arg2 harg2 x1) (rd arg3 harg3 x2) (rd arg4 harg4 x3) (rd arg5 harg5 x4) (rd arg12 harg12 x11)) := by sl_kernel_rfl

theorem run23A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.1
    = rowsA arg24.view (gRow i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) 32 := by sl_kernel_rfl

variable (xo23 : Vec Ideal S8x128 .f32) (xo24 : Vec Ideal S4x128x128 .f32) (xo25 : Vec Ideal S1x512 .f32)

theorem run19B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xo23 xo24 xo25).1
    = L19 (gDq0 i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) (gDq1 i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) := by sl_kernel_rfl

theorem run20B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xo23 xo24 xo25).2.1
    = L20 (gDk i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) := by sl_kernel_rfl

theorem run21B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xo23 xo24 xo25).2.2.1
    = L20 (gDv i (rd arg1 harg1 x0) (rd arg2 harg2 x1) (rd arg3 harg3 x2) (rd arg4 harg4 x3) (rd arg5 harg5 x4) (rd arg12 harg12 x11)) := by sl_kernel_rfl

theorem run23B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xo23 xo24 xo25).2.2.2.2.1
    = rowsB arg24.view (gRow i (rd arg1 harg1 x0) (rd arg2 harg2 x1) (rd arg3 harg3 x2) (rd arg4 harg4 x3) (rd arg5 harg5 x4) (rd arg6 harg6 x5) (rd arg7 harg7 x6) (rd arg8 harg8 x7) (rd arg12 harg12 x11)) (rd arg24 harg24 xo23) 32 := by sl_kernel_rfl

end Run

end Cert.Proof.Attn.Ker

end
-- ==== Proof.AttnStep.lean ====
/- The entries of the four blocks of results that a grid step leaves, over real numbers. -/
module

public import proofs.«01_k».proof.Proof.AttnHead
public import proofs.«01_k».proof.Proof.AttnRun

@[expose] public section

set_option maxRecDepth 16384

noncomputable section

namespace Cert.Proof.Attn.Ker

open Cert.AttnIdeal Cert.AttnIdeal.Gen Idealize.ShloMosaic
open scoped BigOperators

/-- The number of block `j` of step `t`. -/
def nb (t : Fin 8) (j : Fin 4) : Fin 32 := ⟨4 * t.val + j.val, by omega⟩

theorem nAt_eq (i : grid0.Coords) (t : Fin 8) (hi : (i 0).val = t.val) (j : Fin 4) : nAt i j = BitVec.ofNat 32 (nb t j) := by
  unfold nAt nb; rw [hi]; clear hi; revert t j; decide +kernel

/-- The real rows of block `j`'s band, from the three blocks of rows read. -/
def skR (a : Fin 128 → Fin 128 → ℝ) (b : Fin 512 → Fin 128 → ℝ) (c : Fin 128 → Fin 128 → ℝ) (j : Fin 4) (s : Fin 384) (l : Fin 128) : ℝ :=
  if h : 128 * j.val + s.val < 128 then a ⟨128 * j.val + s.val, h⟩ l
  else if h' : 128 * j.val + s.val < 640 then b ⟨128 * j.val + s.val - 128, by omega⟩ l
  else c ⟨128 * j.val + s.val - 640, by omega⟩ l

theorem kSl_stk (a : Fin 128 → Fin 128 → ℝ) (b : Fin 512 → Fin 128 → ℝ) (c : Fin 128 → Fin 128 → ℝ) (j : Fin 4) (s : Fin 384) (l : Fin 128) :
    kSl j (stk (mat a) (mat b) (mat c)) (ix2 s l) = (skR a b c j s l : EReal) := by
  pointwise [kSl, stk]
  simp only [mat_ix2]
  unfold skR
  have := j.2; have := s.2
  by_cases h1 : 128 * j.val + s.val < 128
  · rw [dif_pos h1, dif_pos h1]
  · rw [dif_neg h1, dif_neg h1]
    by_cases h2 : 128 * j.val + s.val < 640
    · rw [dif_pos (by omega), dif_pos h2]
    · rw [dif_neg (by omega), dif_neg h2]; rfl

theorem kQ_at (x : Fin 512 → Fin 512 → ℝ) (j : Fin 4) (i : Fin 128) (l : Fin 512) : kQ j (mat x) (ix2 i l) = (x ⟨128 * j.val + i.val, by omega⟩ l : EReal) := by
  pointwise [kQ]
  rfl
theorem kA_at (x : Fin 512 → Fin 512 → ℝ) (j : Fin 4) (i : Fin 128) (l : Fin 512) : kA j (mat x) (ix2 i l) = (x ⟨128 * j.val + i.val, by omega⟩ l : EReal) := by
  pointwise [kA]
  rfl
theorem kS_at (x : Fin 1 → Fin 8 → ℝ) (h : Fin 8) : kS (mat x) h = (x 0 h : EReal) := by
  pointwise [kS]
  rfl

theorem rowSum_at (h : Fin 8) (x : A S1x256) (f : Fin 256 → ℝ) (hx : ∀ z c, x (ix2 z c) = (f c : EReal)) (z : Fin 1) (l : Fin 128) :
    rowSum h x (ix2 z l) = ((∑ i : Fin 128, f ⟨128 * (h.val / 2 % 2) + i.val, by omega⟩ : ℝ) : EReal) := by
  pointwise [rowSum]
  simp only [hx, sum_coe]

/-! ## A block's results -/

/-- The rows of block `j`. -/
def rw4 (x : Fin 512 → Fin 512 → ℝ) (j : Fin 4) (i : Fin 128) (l : Fin 512) : ℝ := x ⟨128 * j.val + i.val, by omega⟩ l

section Step
variable (i : grid0.Coords) (t : Fin 8) (hi : (i 0).val = t.val) (σ : Fin 8 → ℝ) (q : Fin 512 → Fin 512 → ℝ) (ka : Fin 128 → Fin 128 → ℝ) (kb : Fin 512 → Fin 128 → ℝ) (kc : Fin 128 → Fin 128 → ℝ)
  (va : Fin 128 → Fin 128 → ℝ) (vb : Fin 512 → Fin 128 → ℝ) (vc : Fin 128 → Fin 128 → ℝ) (da : Fin 512 → Fin 512 → ℝ)
include hi

theorem mask_at (j : Fin 4) (s : Fin 384) (c : Fin 256) : kMask (nAt i j) (ix2 s c) = bit (See (nb t j) (ci c) s) := by
  rw [nAt_eq i t hi]; exact kMask_at _ s c

theorem gDk_at (j : Fin 4) (s : Fin 384) (l : Fin 128) :
    gDk i (mat fun _ => σ) (mat q) (mat ka) (mat kb) (mat kc) (mat va) (mat vb) (mat vc) (mat da) j (ix2 s l)
      = (bDk (skR ka kb kc j) (skR va vb vc j) (rw4 q j) (rw4 da j) (See (nb t j)) σ ⟨l.val / 64, by omega⟩ s ⟨l.val % 64, Nat.mod_lt _ (by decide)⟩ : EReal) :=
  bkDk_at (mask_at i t hi j) (kSl_stk ka kb kc j) (kSl_stk va vb vc j) (kQ_at q j) (kA_at da j) (kS_at fun _ => σ) s l

theorem gDv_at (j : Fin 4) (s : Fin 384) (l : Fin 128) :
    gDv i (mat fun _ => σ) (mat q) (mat ka) (mat kb) (mat kc) (mat da) j (ix2 s l)
      = (bDv (skR ka kb kc j) (rw4 q j) (rw4 da j) (See (nb t j)) σ ⟨l.val / 64, by omega⟩ s ⟨l.val % 64, Nat.mod_lt _ (by decide)⟩ : EReal) :=
  bkDv_at (mask_at i t hi j) (kSl_stk ka kb kc j) (kQ_at q j) (kA_at da j) (kS_at fun _ => σ) s l

theorem gDq0_at (j : Fin 4) (c : Fin 256) (l : Fin 128) :
    gDq0 i (mat fun _ => σ) (mat q) (mat ka) (mat kb) (mat kc) (mat va) (mat vb) (mat vc) (mat da) j (ix2 c l)
      = (bDq (skR ka kb kc j) (skR va vb vc j) (rw4 q j) (rw4 da j) (See (nb t j)) σ 0 (cg c ⟨l.val / 64, by omega⟩) (ci c) ⟨l.val % 64, Nat.mod_lt _ (by decide)⟩ : EReal) :=
  bkDq0_at (mask_at i t hi j) (kSl_stk ka kb kc j) (kSl_stk va vb vc j) (kQ_at q j) (kA_at da j) (kS_at fun _ => σ) c l

theorem gDq1_at (j : Fin 4) (c : Fin 256) (l : Fin 128) :
    gDq1 i (mat fun _ => σ) (mat q) (mat ka) (mat kb) (mat kc) (mat va) (mat vb) (mat vc) (mat da) j (ix2 c l)
      = (bDq (skR ka kb kc j) (skR va vb vc j) (rw4 q j) (rw4 da j) (See (nb t j)) σ 1 (cg c ⟨l.val / 64, by omega⟩) (ci c) ⟨l.val % 64, Nat.mod_lt _ (by decide)⟩ : EReal) :=
  bkDq1_at (mask_at i t hi j) (kSl_stk ka kb kc j) (kSl_stk va vb vc j) (kQ_at q j) (kA_at da j) (kS_at fun _ => σ) c l

theorem gSk_at (j : Fin 4) (h : Fin 8) (z : Fin 1) (c : Fin 256) :
    gSk i (mat fun _ => σ) (mat q) (mat ka) (mat kb) (mat kc) (mat va) (mat vb) (mat vc) (mat da) j h (ix2 z c)
      = ((fun kv g i => dsk (See (nb t j) i) (scr (skR ka kb kc j) (rw4 q j) kv g i) (dpr (skR va vb vc j) (rw4 da j) kv g i) (σ (hd kv g))) ⟨h.val / 4, by omega⟩ (cg c ⟨h.val % 2, by omega⟩) (ci c) : ℝ) := by
  have k0 := kDiag0_at (kSl_stk ka kb kc j)
  have v0 := kDiag0_at (kSl_stk va vb vc j)
  have k1 := kDiag1_at (kSl_stk ka kb kc j)
  have v1 := kDiag1_at (kSl_stk va vb vc j)
  have q0 := pairScaled0_at (kQ_at q j)
  have q1 := pairScaled1_at (kQ_at q j)
  have a0 := kPair0_at (kA_at da j)
  have a1 := kPair1_at (kA_at da j)
  have s := kS_at fun _ => σ
  have hM := mask_at i t hi j
  unfold gSk
  fin_cases h
  · exact hSk0_at hM k0 v0 q0 a0 (s 0) (s 2) z c
  · exact hSk1_at hM k0 v0 q0 a0 (s 1) (s 3) z c
  · exact hSk0_at hM k0 v0 q0 a0 (s 0) (s 2) z c
  · exact hSk1_at hM k0 v0 q0 a0 (s 1) (s 3) z c
  · exact hSk0_at hM k1 v1 q1 a1 (s 4) (s 6) z c
  · exact hSk1_at hM k1 v1 q1 a1 (s 5) (s 7) z c
  · exact hSk0_at hM k1 v1 q1 a1 (s 4) (s 6) z c
  · exact hSk1_at hM k1 v1 q1 a1 (s 5) (s 7) z c

theorem gRow_at (k : ℕ) (z : Fin 1) (l : Fin 128) :
    gRow i (mat fun _ => σ) (mat q) (mat ka) (mat kb) (mat kc) (mat va) (mat vb) (mat vc) (mat da) k (ix2 z l)
      = ((fun j : Fin 4 => bDsk (skR ka kb kc j) (skR va vb vc j) (rw4 q j) (rw4 da j) (See (nb t j)) σ ⟨(ord k).val / 4, by omega⟩ ⟨(ord k).val % 4, by omega⟩) ⟨k / 8 % 4, Nat.mod_lt _ (by decide)⟩ : ℝ) := by
  unfold gRow
  rw [rowSum_at _ _ _ (gSk_at i t hi σ q ka kb kc va vb vc da _ (ord k)) z l]
  refine congrArg _ (Finset.sum_congr rfl fun r _ => ?_)
  have hg : cg ⟨128 * ((ord k).val / 2 % 2) + r.val, by omega⟩ ⟨(ord k).val % 2, by omega⟩ = ⟨(ord k).val % 4, by omega⟩ := Fin.ext (by show 2 * ((128 * ((ord k).val / 2 % 2) + r.val) / 128) + (ord k).val % 2 = (ord k).val % 4; omega)
  have hc : ci ⟨128 * ((ord k).val / 2 % 2) + r.val, by omega⟩ = r := Fin.ext (by show (128 * ((ord k).val / 2 % 2) + r.val) % 128 = r.val; omega)
  dsimp only
  rw [hg, hc]
end Step

/-! ## The stores, read together -/

theorem L20_at (f : Fin 4 → A S384x128) (b : Fin 4) (e : Fin 3) (r l : Fin 128) :
    View.canon (L20 f) (ix4 b e r l) = f b (ix2 ⟨128 * e.val + r.val, by omega⟩ l) := by
  unfold L20
  refine View.canon_ofFn_unit_eq_of_forall (Val := Elt Ideal) (e := .f32) (S := S4x3x128x128) _ S1x1x128x128.size _ _ _ _ ?_ ?_
  · refine ⟨⟨3 * (3 - b.val) + (2 - e.val), by omega⟩, fun a => ?_⟩
    fin_cases a
    · show 3 - (3 * (3 - b.val) + (2 - e.val)) / 3 ≤ b.val ∧ b.val < 3 - (3 * (3 - b.val) + (2 - e.val)) / 3 + 1; omega
    · show 2 - (3 * (3 - b.val) + (2 - e.val)) % 3 ≤ e.val ∧ e.val < 2 - (3 * (3 - b.val) + (2 - e.val)) % 3 + 1; omega
    · show 0 ≤ r.val ∧ r.val < 0 + 128; omega
    · show 0 ≤ l.val ∧ l.val < 0 + 128; omega
  · intro k
    tile_intro x h
    have h0 : b.val = 3 - k.val / 3 + (x 0).val := h0
    have h1 : e.val = 2 - k.val % 3 + (x 1).val := h1
    have h2 : r.val = (x 2).val := h2
    have h3 : l.val = (x 3).val := h3
    have x0 : (x 0).val < 1 := x0_lt
    have x1 : (x 1).val < 1 := x1_lt
    have e1 : at20 k = b := Fin.ext (by show 3 - k.val / 3 = b.val; omega)
    rw [e1]
    revert h0 h1 h2 h3 x0 x1 x0_lt x1_lt x2_lt x3_lt
    idx_vars x
    intros
    pointwise
    exact congrArg (f b) (congrArg₂ ix2 (Fin.ext (by simp only []; omega)) (Fin.ext (by omega)))

theorem L19_at (f g : Fin 4 → A S256x128) (r c : Fin 512) :
    View.canon (L19 f g) (ix2 r c) = (if c.val < 256 then f else g) ⟨r.val / 128, by omega⟩ (ix2 ⟨128 * (c.val / 128 % 2) + r.val % 128, by omega⟩ ⟨c.val % 128, Nat.mod_lt _ (by decide)⟩) := by
  unfold L19
  refine View.canon_ofFn_unit_eq_of_forall (Val := Elt Ideal) (e := .f32) (S := S512x512) _ S128x128.size _ _ _ _ ?_ ?_
  · refine ⟨⟨4 * (3 - r.val / 128) + (3 - c.val / 128), by omega⟩, fun a => ?_⟩
    fin_cases a
    · show 128 * (3 - (4 * (3 - r.val / 128) + (3 - c.val / 128)) / 4) ≤ r.val ∧ r.val < 128 * (3 - (4 * (3 - r.val / 128) + (3 - c.val / 128)) / 4) + 128; omega
    · show 128 * (3 - (4 * (3 - r.val / 128) + (3 - c.val / 128)) % 4) ≤ c.val ∧ c.val < 128 * (3 - (4 * (3 - r.val / 128) + (3 - c.val / 128)) % 4) + 128; omega
  · intro k
    tile_intro x h
    have h0 : r.val = 128 * (3 - k.val / 4) + (x 0).val := h0
    have h1 : c.val = 128 * (3 - k.val % 4) + (x 1).val := h1
    have x0 : (x 0).val < 128 := x0_lt
    have x1 : (x 1).val < 128 := x1_lt
    have e1 : (if 3 - k.val % 4 < 2 then f (at19 k) else g (at19 k)) = (if c.val < 256 then f else g) ⟨r.val / 128, by omega⟩ := by
      have e2 : at19 k = ⟨r.val / 128, by omega⟩ := Fin.ext (by show 3 - k.val / 4 = r.val / 128; omega)
      rw [e2, apply_ite (fun f : Fin 4 → A S256x128 => f ⟨r.val / 128, by omega⟩) (c.val < 256) f g]
      exact if_congr (by omega) rfl rfl
    rw [e1]
    obtain ⟨a, b, rfl⟩ : ∃ a b : Fin 128, x = ix2 a b := by idx_vars x; exact ⟨_, _, rfl⟩
    have h0 : r.val = 128 * (3 - k.val / 4) + a.val := h0
    have h1 : c.val = 128 * (3 - k.val % 4) + b.val := h1
    pointwise
    exact congrArg _ (congrArg₂ ix2 (Fin.ext (by simp only []; omega)) (Fin.ext (by simp only []; omega)))

theorem row_cons (h' : Fin 8) (P : A S1x128) (L : List (View.Piece (Elt Ideal) S8x128 .f32)) (h : Fin 8) (l : Fin 128) :
    View.canon (⟨rowR h', P⟩ :: L) (ix2 h l) = if h' = h then P (ix2 0 l) else View.canon L (ix2 h l) := by
  split_ifs with e
  · subst e
    refine Eq.trans (congrArg _ ?_) (View.canon_cons_emb (rowR h') P L (ix2 0 l))
    funext a; apply Fin.ext; fin_cases a
    · rfl
    · exact ((Rect.idx_unit_val (s := S8x128) ![(h' : ℕ), 0] S1x128.size (row_ok h') (ix2 0 l) 1).trans (Nat.zero_add l.val)).symm
  · refine View.canon_cons_of_not_mem _ _ fun hm => e (Fin.ext ?_)
    have := (Rect.mem_set_unit (s := S8x128) (off := ![(h' : ℕ), 0]) (size := S1x128.size) (inb := row_ok h')).mp hm 0
    have e1 : h'.val ≤ h.val := this.1
    have e2 : h.val < h'.val + 1 := this.2
    omega

theorem ord_ne (k m : Fin 8) (h : k < m) : ord k ≠ ord m := by revert k m; decide

section Rows
variable (v : View sig .tc .vmem S8x128 .f32) (f : ℕ → A S1x128) (F : ℕ → ℝ) (hf : ∀ k z l, f k (ix2 z l) = (F k : EReal))
include hf

theorem rowsA_at (m : ℕ) (h : Fin 8) (l : Fin 128) : View.canon (rowsA v f m) (ix2 h l) = ((∑ k ∈ Finset.range m, if ord k = h then F k else 0 : ℝ) : EReal) := by
  induction m generalizing h l with
  | zero => unfold rowsA; rw [View.canon_cons_unit_lit _ _ _ (by decide)]; pointwise; rw [Finset.sum_range_zero]; exact EReal.coe_zero.symm
  | succ m ih =>
    unfold rowsA
    rw [row_cons, Finset.sum_range_succ]
    split_ifs with e
    · rw [View.readCov_eq_canon']
      pointwise
      rw [ih, hf, e, ← EReal.coe_add]
    · rw [ih, add_zero]

theorem rowsB_at (x : A S8x128) (X : Fin 8 → ℝ) (hx : ∀ h l, x (ix2 h l) = (X h : EReal)) (m : ℕ) (h : Fin 8) (l : Fin 128) (hm : ∃ k < m, k < 8 ∧ ord k = h) :
    View.canon (rowsB v f x m) (ix2 h l) = ((X h + ∑ k ∈ Finset.range m, if ord k = h then F k else 0 : ℝ) : EReal) := by
  induction m generalizing h l with
  | zero => obtain ⟨k, hk, _⟩ := hm; omega
  | succ m ih =>
    unfold rowsB
    rw [row_cons, Finset.sum_range_succ]
    split_ifs with e e'
    · pointwise
      rw [hx, hf, e, Finset.sum_eq_zero fun k hk => if_neg fun h1 => ord_ne ⟨k, by have := Finset.mem_range.mp hk; omega⟩ ⟨m, e'⟩ (Finset.mem_range.mp hk) (h1.trans e.symm), zero_add, ← EReal.coe_add]
    · rw [View.readCov_eq_canon']
      pointwise
      rw [ih _ l (by obtain ⟨k, hk, hk', ho⟩ := hm; exact ⟨k, by omega, hk', ho.trans e.symm⟩), hf, e, ← EReal.coe_add, ← add_assoc]
    · rw [ih h l ?_, add_zero]
      obtain ⟨k, hk, hk', ho⟩ := hm
      refine ⟨k, ?_, hk', ho⟩
      rcases Nat.lt_succ_iff_lt_or_eq.mp hk with h1 | h1
      · exact h1
      · exact absurd (h1 ▸ ho) e
end Rows

end Cert.Proof.Attn.Ker

end
-- ==== Proof.AttnOut.lean ====
/- What grid step `t` leaves in the four output blocks claimed, from the blocks of the arguments it reads. -/
module

public import proofs.«01_k».proof.Proof.AttnStep
public import Idealize.ShloMosaic.Lib.StableHlo.RunRead

@[expose] public section

set_option maxRecDepth 16384

noncomputable section

namespace Cert.Proof.Attn.Ker

open Cert.AttnIdeal Cert.AttnIdeal.Gen Idealize.ShloMosaic
open scoped BigOperators

variable (m : (ℓ : Loc nD τ sig) → Buf (Elt Ideal) ℓ) (c : Dev nD) (t : Fin cfg0.N)

abbrev sDk : Fin 4 → A S384x128 := gDk (grid0.coords t) (iblk m c 0 t) (iblk m c 1 t) (iblk m c 2 t) (iblk m c 3 t) (iblk m c 4 t) (iblk m c 5 t) (iblk m c 6 t) (iblk m c 7 t) (iblk m c 11 t)
abbrev sDv : Fin 4 → A S384x128 := gDv (grid0.coords t) (iblk m c 0 t) (iblk m c 1 t) (iblk m c 2 t) (iblk m c 3 t) (iblk m c 4 t) (iblk m c 11 t)
abbrev sDq0 : Fin 4 → A S256x128 := gDq0 (grid0.coords t) (iblk m c 0 t) (iblk m c 1 t) (iblk m c 2 t) (iblk m c 3 t) (iblk m c 4 t) (iblk m c 5 t) (iblk m c 6 t) (iblk m c 7 t) (iblk m c 11 t)
abbrev sDq1 : Fin 4 → A S256x128 := gDq1 (grid0.coords t) (iblk m c 0 t) (iblk m c 1 t) (iblk m c 2 t) (iblk m c 3 t) (iblk m c 4 t) (iblk m c 5 t) (iblk m c 6 t) (iblk m c 7 t) (iblk m c 11 t)
abbrev sRow : ℕ → A S1x128 := gRow (grid0.coords t) (iblk m c 0 t) (iblk m c 1 t) (iblk m c 2 t) (iblk m c 3 t) (iblk m c 4 t) (iblk m c 5 t) (iblk m c 6 t) (iblk m c 7 t) (iblk m c 11 t)

theorem out19 : (outsAt0 m c t.val t.isLt).1 = View.canon (L19 (sDq0 m c t) (sDq1 m c t)) := by
  by_cases h : t.val % 8 = 0
  · rw [outsAt0_A m c t h]
    dsimp only
    unfold out0_A_19
    rw [View.read_writes_junk_eq_canon, run19A]
    simp only [rd, Memref.IsWhole.read_unread]
  · rw [outsAt0_B m c t h]
    dsimp only
    unfold out0_B_19
    rw [View.read_writes_junk_eq_canon, run19B]
    simp only [rd, Memref.IsWhole.read_unread]

theorem out20 : (outsAt0 m c t.val t.isLt).2.1 = View.canon (L20 (sDk m c t)) := by
  by_cases h : t.val % 8 = 0
  · rw [outsAt0_A m c t h]
    dsimp only
    unfold out0_A_20
    rw [View.read_writes_junk_eq_canon, run20A]
    simp only [rd, Memref.IsWhole.read_unread]
  · rw [outsAt0_B m c t h]
    dsimp only
    unfold out0_B_20
    rw [View.read_writes_junk_eq_canon, run20B]
    simp only [rd, Memref.IsWhole.read_unread]

theorem out21 : (outsAt0 m c t.val t.isLt).2.2.1 = View.canon (L20 (sDv m c t)) := by
  by_cases h : t.val % 8 = 0
  · rw [outsAt0_A m c t h]
    dsimp only
    unfold out0_A_21
    rw [View.read_writes_junk_eq_canon, run21A]
    simp only [rd, Memref.IsWhole.read_unread]
  · rw [outsAt0_B m c t h]
    dsimp only
    unfold out0_B_21
    rw [View.read_writes_junk_eq_canon, run21B]
    simp only [rd, Memref.IsWhole.read_unread]

theorem out23A (h : t.val % 8 = 0) : (outsAt0 m c t.val t.isLt).2.2.2.2.1 = View.canon (rowsA (ms0_23 t).view (sRow m c t) 32) := by
  rw [outsAt0_A m c t h]
  dsimp only
  unfold out0_A_23
  rw [View.read_writes_junk_eq_canon, run23A]
  simp only [rd, Memref.IsWhole.read_unread]

theorem out23B (h : ¬t.val % 8 = 0) : (outsAt0 m c t.val t.isLt).2.2.2.2.1 = View.canon (rowsB (ms0_23 t).view (sRow m c t) (outsAt0 m c (t.val - 1) (by omega)).2.2.2.2.1 32) := by
  rw [outsAt0_B m c t h]
  dsimp only
  unfold out0_B_23
  rw [View.read_writes_junk_eq_canon, run23B]
  simp only [rd, Memref.IsWhole.read_unread]

/-! ## The blocks of the arguments -/

structure Args (q : Fin 4096 → Fin 512 → ℝ) (k v : Fin 4096 → Fin 128 → ℝ) (dm : Fin 4096 → Fin 1024 → ℝ) (σ : Fin 8 → ℝ) : Prop where
  a0 : m ((c.tc : Thread nD τ).loc main_arg0) = mat q
  a1 : m ((c.tc : Thread nD τ).loc main_arg1) = mat k
  a2 : m ((c.tc : Thread nD τ).loc main_arg2) = mat v
  a4 : m ((c.tc : Thread nD τ).loc main_arg4) = mat dm
  a5 : m ((c.tc : Thread nD τ).loc main_arg5) = mat fun (_ : Fin 1) => σ

/-- The step's number. -/
def tt : Fin 8 := ⟨t.val, lt_of_lt_of_eq t.isLt N_0⟩
theorem tt_coord : (grid0.coords t 0).val = (tt t).val := by
  revert t; exact (by decide +kernel : ∀ t : Fin grid0.N, (grid0.coords t 0).val = t.val)

/-- The array row of the step's row `r`; of the blocks of rows before it and after it, the nearest in the array where there is none. -/
def rows (t : Fin cfg0.N) (r : Fin 512) : Fin 4096 := ⟨512 * t.val + r.val, by have := lt_of_lt_of_eq t.isLt N_0; omega⟩
def half (l : Fin 512) : Fin 1024 := l.castLE (by decide)
def rowsLo (t : Fin cfg0.N) (r : Fin 128) : Fin 4096 := ⟨128 * (4 * t.val - 1) + r.val, by have := lt_of_lt_of_eq t.isLt N_0; omega⟩
def rowsHi (t : Fin cfg0.N) (r : Fin 128) : Fin 4096 := ⟨128 * min (4 * t.val + 4) 31 + r.val, by omega⟩

theorem idx_in : ∀ t : Fin cfg0.N, (win0_0.index t 0 = 0 ∧ win0_0.index t 1 = 0) ∧ (win0_1.index t 0 = t.val ∧ win0_1.index t 1 = 0)
    ∧ (win0_2.index t 0 = 4 * t.val - 1 ∧ win0_2.index t 1 = 0) ∧ (win0_3.index t 0 = t.val ∧ win0_3.index t 1 = 0) ∧ (win0_4.index t 0 = min (4 * t.val + 4) 31 ∧ win0_4.index t 1 = 0)
    ∧ (win0_5.index t 0 = 4 * t.val - 1 ∧ win0_5.index t 1 = 0) ∧ (win0_6.index t 0 = t.val ∧ win0_6.index t 1 = 0) ∧ (win0_7.index t 0 = min (4 * t.val + 4) 31 ∧ win0_7.index t 1 = 0)
    ∧ (win0_11.index t 0 = t.val ∧ win0_11.index t 1 = 0) :=
  (by decide +kernel : ∀ t : Fin grid0.N, (win0_0.index t 0 = 0 ∧ win0_0.index t 1 = 0) ∧ (win0_1.index t 0 = t.val ∧ win0_1.index t 1 = 0)
    ∧ (win0_2.index t 0 = 4 * t.val - 1 ∧ win0_2.index t 1 = 0) ∧ (win0_3.index t 0 = t.val ∧ win0_3.index t 1 = 0) ∧ (win0_4.index t 0 = min (4 * t.val + 4) 31 ∧ win0_4.index t 1 = 0)
    ∧ (win0_5.index t 0 = 4 * t.val - 1 ∧ win0_5.index t 1 = 0) ∧ (win0_6.index t 0 = t.val ∧ win0_6.index t 1 = 0) ∧ (win0_7.index t 0 = min (4 * t.val + 4) 31 ∧ win0_7.index t 1 = 0)
    ∧ (win0_11.index t 0 = t.val ∧ win0_11.index t 1 = 0))

theorem mat_at {a b : ℕ} (f : Fin a → Fin b → ℝ) (j : (⟨2, ![a, b]⟩ : Shape).Idx) (r : Fin a) (k : Fin b) (h0 : (j 0 : ℕ) = r) (h1 : (j 1 : ℕ) = k) :
    mat f j = (f r k : EReal) := by
  obtain rfl : j = ix2 r k := (eq_ix2 j).trans (by rw [show j 0 = r from Fin.ext h0, show j 1 = k from Fin.ext h1])
  rfl

/-- The buffers before the last host operations. -/
def before : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))
theorem late (b : Ref sig .tc) : V m c b = StableHlo.after hostOps0_16 (before m c) (Proc.devRef .tc b) := by
  have h : ∀ (L : List (List (HloOp τ sig (Elt Ideal)))) (l), (L ++ [l]).flatten = L.flatten ++ l := fun L l => by simp
  show StableHlo.after (([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] : List (List (HloOp τ sig (Elt Ideal)))) ++ [hostOps0_16]).flatten (fun b => m (c, b)) _ = _
  rw [h, StableHlo.after_append]; rfl
theorem early (b : Ref sig .tc) (hb : b ∉ [main_v151, main_v152, main_v153, main_v154, main_v155]) : before m c (Proc.devRef .tc b) = V m c b :=
  ((late m c b).trans (StableHlo.after_unwritten [main_v151, main_v152, main_v153, main_v154, main_v155] rfl hb _)).symm

section Blocks
variable {m c} {q : Fin 4096 → Fin 512 → ℝ} {k v : Fin 4096 → Fin 128 → ℝ} {dm : Fin 4096 → Fin 1024 → ℝ} {σ : Fin 8 → ℝ} (R : Args m c q k v dm σ)
include R

theorem V_q : V m c main_v152 = mat q := by
  have h := (early m c main_arg0 (by decide)).trans ((V_main_arg0 m c).trans R.a0)
  rw [late]; entry_read; rw [h]
  funext i; idx_vars i; pointwise
theorem V_k : V m c main_v153 = mat k := by
  have h := (early m c main_arg1 (by decide)).trans ((V_main_arg1 m c).trans R.a1)
  rw [late]; entry_read; rw [h]
  funext i; idx_vars i; pointwise
theorem V_v : V m c main_v154 = mat v := by
  have h := (early m c main_arg2 (by decide)).trans ((V_main_arg2 m c).trans R.a2)
  rw [late]; entry_read; rw [h]
  funext i; idx_vars i; pointwise

theorem b0 : iblk m c 0 t = mat fun _ : Fin 1 => σ := by
  have i0 := (idx_in t).1
  funext i; blk_simp [iblk]; rw [V_main_arg5, R.a5]; exact mat_at _ _ (i 0) (i 1) (by blk_simp [i0]) (by blk_simp [i0])
theorem b1 : iblk m c 1 t = mat fun r l => q (rows t r) l := by
  have i0 := (idx_in t).2.1
  funext i; blk_simp [iblk]; rw [V_q R]; exact mat_at _ _ (rows t (i 0)) (i 1) (by blk_simp [i0]; show _ = 512 * t.val + _; omega) (by blk_simp [i0])
theorem b2 : iblk m c 2 t = mat fun r l => k (rowsLo t r) l := by
  have i0 := (idx_in t).2.2.1
  funext i; blk_simp [iblk]; rw [V_k R]; exact mat_at _ _ (rowsLo t (i 0)) (i 1) (by blk_simp [i0]; show _ = 128 * (4 * t.val - 1) + _; omega) (by blk_simp [i0])
theorem b3 : iblk m c 3 t = mat fun r l => k (rows t r) l := by
  have i0 := (idx_in t).2.2.2.1
  funext i; blk_simp [iblk]; rw [V_k R]; exact mat_at _ _ (rows t (i 0)) (i 1) (by blk_simp [i0]; show _ = 512 * t.val + _; omega) (by blk_simp [i0])
theorem b4 : iblk m c 4 t = mat fun r l => k (rowsHi t r) l := by
  have i0 := (idx_in t).2.2.2.2.1
  funext i; blk_simp [iblk]; rw [V_k R]; exact mat_at _ _ (rowsHi t (i 0)) (i 1) (by blk_simp [i0]; show _ = 128 * min (4 * t.val + 4) 31 + _; omega) (by blk_simp [i0])
theorem b5 : iblk m c 5 t = mat fun r l => v (rowsLo t r) l := by
  have i0 := (idx_in t).2.2.2.2.2.1
  funext i; blk_simp [iblk]; rw [V_v R]; exact mat_at _ _ (rowsLo t (i 0)) (i 1) (by blk_simp [i0]; show _ = 128 * (4 * t.val - 1) + _; omega) (by blk_simp [i0])
theorem b6 : iblk m c 6 t = mat fun r l => v (rows t r) l := by
  have i0 := (idx_in t).2.2.2.2.2.2.1
  funext i; blk_simp [iblk]; rw [V_v R]; exact mat_at _ _ (rows t (i 0)) (i 1) (by blk_simp [i0]; show _ = 512 * t.val + _; omega) (by blk_simp [i0])
theorem b7 : iblk m c 7 t = mat fun r l => v (rowsHi t r) l := by
  have i0 := (idx_in t).2.2.2.2.2.2.2.1
  funext i; blk_simp [iblk]; rw [V_v R]; exact mat_at _ _ (rowsHi t (i 0)) (i 1) (by blk_simp [i0]; show _ = 128 * min (4 * t.val + 4) 31 + _; omega) (by blk_simp [i0])
theorem b11 : iblk m c 11 t = mat fun r l => dm (rows t r) (half l) := by
  have i0 := (idx_in t).2.2.2.2.2.2.2.2
  funext i; blk_simp [iblk]; rw [V_main_arg4, R.a4]; exact mat_at _ _ (rows t (i 0)) (half (i 1)) (by blk_simp [i0]; show _ = 512 * t.val + _; omega) (by blk_simp [i0]; rfl)
end Blocks

end Cert.Proof.Attn.Ker

end
-- ==== Proof.AttnRef.lean ====
/- What the reference of the attention gradient computes, stage by stage, at real arguments. -/
module

public import proofs.«01_k».proof.Proof.Real
public import proofs.«01_k».proof.Proof.AttnRow
public import proofs.«01_k».proof.Proof.Gen.AttnRefIdeal.Run

@[expose] public section

set_option maxRecDepth 16384

noncomputable section

namespace Cert.Proof.Attn

open Cert.AttnRefIdeal Cert.AttnRefIdeal.Gen Cert.AttnRefIdeal.Value Idealize.ShloMosaic Idealize.SL.Sem Idealize.ShloMosaic.StableHlo
open scoped BigOperators

/-- The reference's arguments are real matrices. -/
structure Real (V : Valuation τ sig (Elt Ideal)) (q : Fin 4096 → Fin 512 → ℝ) (k v : Fin 4096 → Fin 128 → ℝ) (dm : Fin 4096 → Fin 1024 → ℝ) (σ : Fin 8 → ℝ) : Prop where
  a0 : V (Proc.devRef .tc main_arg0) = mat q
  a1 : V (Proc.devRef .tc main_arg1) = mat k
  a2 : V (Proc.devRef .tc main_arg2) = mat v
  a4 : V (Proc.devRef .tc main_arg4) = mat dm
  a5 : V (Proc.devRef .tc main_arg5) = mat fun (_ : Fin 1) => σ

theorem mat_eq {a b : ℕ} (f : Fin a → Fin b → ℝ) {i i' : Fin a} {j j' : Fin b} (hi : i.val = i'.val) (hj : j.val = j'.val) :
    mat f (ix2 i j) = (f i' j' : EReal) := by rw [Fin.ext hi, Fin.ext hj]; rfl

variable {V : Valuation τ sig (Elt Ideal)} {q : Fin 4096 → Fin 512 → ℝ} {k v : Fin 4096 → Fin 128 → ℝ} {dm : Fin 4096 → Fin 1024 → ℝ} {σ : Fin 8 → ℝ}
  (R : Real V q k v dm σ)
include R

theorem v16_at (n : Fin 32) (i : Fin 128) (kv : Fin 2) (g : Fin 4) (d : Fin 64) :
    res_main_v16 V (ix5 n i kv g d) = (q (row n i) (qcol kv g d) : EReal) := by
  unfold res_main_v16; rw [R.a0]; pointwise
  exact mat_eq q (by simp only [row]; omega) (by simp only [qcol]; omega)

theorem v109_at (n : Fin 32) (i : Fin 128) (kv : Fin 2) (g : Fin 4) (d : Fin 64) :
    res_main_v109 V (ix5 n kv d g i) = (dm (row n i) ((qcol kv g d).castLE (by decide)) : EReal) := by
  unfold res_main_v109; rw [R.a4]; pointwise
  exact mat_eq dm (by simp only [row]; omega) (by simp only [qcol, Fin.val_castLE]; omega)

omit R in
theorem band_cases (f : Fin 4096 → Fin 128 → ℝ) (n : Fin 32) (s : Fin 384) (c : Fin 128) (j : ℕ) (e : 128 ≤ 128 * n.val + s.val → j = 128 * n.val + s.val - 128)
    (p : Prop) [Decidable p] (hp : p ↔ 128 ≤ 128 * n.val + s.val ∧ 128 * n.val + s.val < 4224) (hj : p → j < 4096) (c' : ℕ) (hc : p → c' < 128) (ec : c' = c.val) :
    (if h : p then mat f (ix2 ⟨j, hj h⟩ ⟨c', hc h⟩) else (FloatOps.sitofp (F := Ideal) FTy.f32 0#32 : Ideal .f32)) = (band f n s c : EReal) := by
  unfold band
  by_cases h : p
  · rw [dif_pos h, dif_pos (hp.mp h)]; exact mat_eq f (e (hp.mp h).1) ec
  · rw [dif_neg h, dif_neg (mt hp.mpr h)]
    show (((0#32 : BitVec 32).toInt : ℝ) : EReal) = ((0 : ℝ) : EReal)
    simp

theorem v6_at (n : Fin 32) (s : Fin 384) (kv : Fin 2) (d : Fin 64) :
    res_main_v6 V (ix4 n s kv d) = (band k n s (kcol kv d) : EReal) := by
  unfold res_main_v6 res_main_v2; rw [R.a1]; pointwise
  have hc : kv.val * 64 + d.val = (kcol kv d).val := by simp only [kcol]; omega
  split
  · exact band_cases k n s _ _ (fun h => by omega) _ (by omega) _ _ _ hc
  · split <;> exact band_cases k n s _ _ (fun h => by omega) _ (by omega) _ _ _ hc

theorem v13_at (n : Fin 32) (s : Fin 384) (kv : Fin 2) (d : Fin 64) :
    res_main_v13 V (ix4 n s kv d) = (band v n s (kcol kv d) : EReal) := by
  unfold res_main_v13 res_main_v9; rw [R.a2]; pointwise
  have hc : kv.val * 64 + d.val = (kcol kv d).val := by simp only [kcol]; omega
  split
  · exact band_cases v n s _ _ (fun h => by omega) _ (by omega) _ _ _ hc
  · split <;> exact band_cases v n s _ _ (fun h => by omega) _ (by omega) _ _ _ hc

theorem v60_1_at (n : Fin 32) (kv : Fin 2) (g : Fin 4) (i : Fin 128) (s : Fin 384) :
    res_main_v60_1 V (ix5 n kv g i s) = bit (See n i s) := by
  unfold res_main_v60_1; pointwise [res_main_v40]
  exact see_ref n i s

/-- The queries of a block, and the cotangents of its outputs. -/
def qs (q : Fin 4096 → Fin 512 → ℝ) (n : Fin 32) (i : Fin 128) (c : Fin 512) : ℝ := q (row n i) c
def das (dm : Fin 4096 → Fin 1024 → ℝ) (n : Fin 32) (i : Fin 128) (c : Fin 512) : ℝ := dm (row n i) (c.castLE (by decide))

theorem v60_0_at (n : Fin 32) (kv : Fin 2) (g : Fin 4) (i : Fin 128) (s : Fin 384) :
    res_main_v60_0 V (ix5 n kv g i s) = msk (See n i) (scr (band k n) (qs q n) kv g i) s := by
  unfold res_main_v60_0; pointwise
  simp only [v60_1_at R, v6_at R, v16_at R, select_bit, ← EReal.coe_mul, sum_coe, ofBits_eighth]
  unfold msk
  congr 1

theorem v62_at (z a b : Fin 1) (kv : Fin 2) (g : Fin 4) : res_main_v62 V (ix5 z kv g a b) = (σ (hd kv g) : EReal) := by
  unfold res_main_v62; rw [R.a5]; pointwise
  exact mat_eq (fun (_ : Fin 1) => σ) (i' := 0) rfl (by simp only [hd]; omega)

theorem v110_at (n : Fin 32) (kv : Fin 2) (g : Fin 4) (i : Fin 128) (s : Fin 384) :
    res_main_v110 V (ix5 n kv g i s) = (dpr (band v n) (das dm n) kv g i s : EReal) := by
  unfold res_main_v110; pointwise
  simp only [v109_at R, v13_at R, ← EReal.coe_mul, sum_coe]
  unfold dpr; congr 1
  exact Finset.sum_congr rfl fun d _ => mul_comm _ _

theorem v100_at (n : Fin 32) (kv : Fin 2) (g : Fin 4) (i : Fin 128) (s : Fin 384) :
    res_main_v100 V (ix5 n kv g i s) = (bW (band k n) (qs q n) (See n) σ kv g i s : EReal) :=
  cW_at _ _ _ n kv g i (v60_0_at R n kv g i) (fun z a b => v62_at R z a b kv g) s

theorem v121_at (n : Fin 32) (kv : Fin 2) (g : Fin 4) (i : Fin 128) (z : Fin 1) :
    res_main_v121 V (ix5 n kv g i z) = (dsk (See n i) (scr (band k n) (qs q n) kv g i) (dpr (band v n) (das dm n) kv g i) (σ (hd kv g)) : EReal) :=
  cGs_at _ _ _ _ n kv g i (v60_0_at R n kv g i) (fun z a b => v62_at R z a b kv g) (v110_at R n kv g i) z

theorem v132_at (n : Fin 32) (kv : Fin 2) (g : Fin 4) (i : Fin 128) (z : Fin 1) : res_main_v132 V (ix5 n kv g i z) = ((0 : ℝ) : EReal) :=
  cGm_at _ _ _ _ n kv g i (v60_0_at R n kv g i) (fun z a b => v62_at R z a b kv g) (v110_at R n kv g i) z

theorem v148_at (n : Fin 32) (kv : Fin 2) (g : Fin 4) (i : Fin 128) (s : Fin 384) :
    res_main_v148 V (ix5 n kv s i g) = ((bDs (band k n) (band v n) (qs q n) (das dm n) (See n) σ kv g i s * (1 / 8) : ℝ) : EReal) :=
  f148_at _ _ _ _ n kv g i (v60_0_at R n kv g i) (fun z a b => v62_at R z a b kv g) (v110_at R n kv g i) _ (v60_1_at R n kv g i) (fSel (res_main_v69 V) (res_main_v62 V)) s

/-! ## The four results -/

omit R in
def fDq (Gx : A S32x2x384x128x4) (B : A S32x384x2x64) : A S4096x512 :=
  shapeCast _ (shapeCast S4096x8x64 (transpose S32x128x2x4x64 [0, 2, 1, 3, 4] (Host.dotGeneral (φ₁ := .f32) (φ₂ := .f32) dot_S32x2x384x128x4_S32x384x2x64_S32x2x128x4x64_2_1_34_3_01_02 none Gx B) transposes_S32x2x128x4x64_S32x128x2x4x64_0_2_1_3_4) shapeCasts_S32x128x2x4x64_S4096x8x64) shapeCasts_S4096x8x64_S4096x512
omit R in
def fDk (Gx : A S32x2x384x128x4) (H : A S32x128x2x4x64) : A S32x3x128x128 :=
  shapeCast _ (transpose S32x384x2x64 [0, 2, 1, 3] (Host.dotGeneral (φ₁ := .f32) (φ₂ := .f32) dot_S32x2x384x128x4_S32x128x2x4x64_S32x2x384x64_34_13_2_4_01_02 none Gx H) transposes_S32x2x384x64_S32x384x2x64_0_2_1_3) shapeCasts_S32x384x2x64_S32x3x128x128
omit R in
def fDv (At : A S32x2x64x4x128) (Wt : A S32x2x4x128x384) : A S32x3x128x128 :=
  shapeCast _ (transpose S32x384x2x64 [0, 3, 1, 2] (Host.dotGeneral (φ₁ := .f32) (φ₂ := .f32) dot_S32x2x64x4x128_S32x2x4x128x384_S32x2x64x384_34_23_2_4_01_01 none At Wt) transposes_S32x2x64x384_S32x384x2x64_0_3_1_2) shapeCasts_S32x384x2x64_S32x3x128x128
omit R in
def fDs (Gs Gm Sel : A S32x2x4x128x1) : A S8x128 :=
  broadcastInDim S8x128 ![0, 1] bcast_S8x1_S8x128_0_1 (shapeCast _ (broadcastInDim S1x8 ![1] bcast_S8_S1x8_1 (shapeCast _ (Host.reduceAdd (addf (shapeCast S1x2x4x1x1 (Host.reduceAdd Gs (constant S_ .f32 0x00000000#32) reducesTo_S32x2x4x128x1_S2x4x1_d0_3 h_S_) shapeCasts_S2x4x1_S1x2x4x1x1) (shapeCast S1x2x4x1x1 (Host.reduceAdd (mulf Gm Sel) (constant S_ .f32 0x00000000#32) reducesTo_S32x2x4x128x1_S2x4x1_d0_3 h_S_) shapeCasts_S2x4x1_S1x2x4x1x1)) (constant S_ .f32 0x00000000#32) reducesTo_S1x2x4x1x1_S2x4_d0_3_4 h_S_) shapeCasts_S2x4_S8)) shapeCasts_S1x8_S8x1)

section Results
variable (q k v dm σ)
omit R
def oDq (r : Fin 4096) (c : Fin 512) : ℝ :=
  bDq (band k ⟨r / 128, by omega⟩) (band v ⟨r / 128, by omega⟩) (qs q ⟨r / 128, by omega⟩) (das dm ⟨r / 128, by omega⟩) (See ⟨r / 128, by omega⟩) σ ⟨c / 256, by omega⟩ ⟨c / 64 % 4, by omega⟩ ⟨r % 128, by omega⟩ ⟨c % 64, by omega⟩
def oDk (n : Fin 32) (s : Fin 384) (c : Fin 128) : ℝ :=
  bDk (band k n) (band v n) (qs q n) (das dm n) (See n) σ ⟨c / 64, by omega⟩ s ⟨c % 64, by omega⟩
def oDv (n : Fin 32) (s : Fin 384) (c : Fin 128) : ℝ :=
  bDv (band k n) (qs q n) (das dm n) (See n) σ ⟨c / 64, by omega⟩ s ⟨c % 64, by omega⟩
def oDs (h : Fin 8) : ℝ := ∑ n, bDsk (band k n) (band v n) (qs q n) (das dm n) (See n) σ ⟨h / 4, by omega⟩ ⟨h % 4, by omega⟩
end Results

theorem dq_ref : fDq (res_main_v148 V) (res_main_v6 V) = mat (oDq q k v dm σ) := by
  funext j; idx_vars j
  pointwise [fDq]
  simp only [v148_at R, v6_at R, ← EReal.coe_mul, sum_coe]
  rw [mat_ix2]; congr 1
  unfold oDq bDq
  rw [Finset.sum_mul]
  refine Finset.sum_congr rfl fun s _ => ?_
  rw [mul_right_comm]

theorem dk_ref : fDk (res_main_v148 V) (res_main_v16 V) = fun j => (oDk q k v dm σ (j 0) ⟨128 * (j 1).val + (j 2).val, by have := (j 1).2; have := (j 2).2; simp at *; omega⟩ (j 3) : EReal) := by
  funext j; idx_vars j
  pointwise [fDk]
  simp only [v148_at R, v16_at R, ← EReal.coe_mul, sum_coe]
  congr 1
  unfold oDk bDk
  rw [Finset.sum_comm, Finset.sum_mul]
  refine Finset.sum_congr rfl fun g _ => ?_
  rw [Finset.sum_mul]
  refine Finset.sum_congr rfl fun i _ => ?_
  rw [mul_right_comm]; simp only [mul_comm _ 128]; rfl

theorem dv_ref : fDv (res_main_v109 V) (res_main_v100 V) = fun j => (oDv q k dm σ (j 0) ⟨128 * (j 1).val + (j 2).val, by have := (j 1).2; have := (j 2).2; simp at *; omega⟩ (j 3) : EReal) := by
  funext j; idx_vars j
  pointwise [fDv]
  simp only [v109_at R, v100_at R, ← EReal.coe_mul, sum_coe]
  congr 1
  unfold oDv bDv
  refine Finset.sum_congr rfl fun g _ => Finset.sum_congr rfl fun i _ => ?_
  rw [mul_comm]; simp only [mul_comm _ 128]; rfl

omit R in
/-- A sum over axes of length one is the one number. -/
theorem add_unit (X : S1x2x4x1x1.Idx → EReal) (a : Fin 2) (b : Fin 4) :
    Ideal.hostReduceAdd reducesTo_S1x2x4x1x1_S2x4_d0_3_4 X 0 (ix2 a b) = X (ix5 0 a b 0 0) := by
  unfold Ideal.hostReduceAdd
  rw [Finset.sum_filter_eq_sum_of_fiber _ (fun _ : Unit => (ix5 0 a b 0 0 : S1x2x4x1x1.Idx)) (fun _ _ _ => rfl) (fun i => ?_)]
  · simp
  · constructor
    · intro e
      refine ⟨(), ?_⟩
      funext x; apply Fin.ext
      match x with
      | ⟨0, h⟩ => have := (i ⟨0, h⟩).2; exact (Nat.lt_one_iff.mp this).symm
      | ⟨1, _⟩ => exact (congrArg Fin.val (congrFun e 0)).symm
      | ⟨2, _⟩ => exact (congrArg Fin.val (congrFun e 1)).symm
      | ⟨3, h⟩ => have := (i ⟨3, h⟩).2; exact (Nat.lt_one_iff.mp this).symm
      | ⟨4, h⟩ => have := (i ⟨4, h⟩).2; exact (Nat.lt_one_iff.mp this).symm
    · rintro ⟨k, rfl⟩
      funext x; apply Fin.ext
      match x with
      | ⟨0, _⟩ => rfl
      | ⟨1, _⟩ => rfl

omit R in
/-- A sum over the blocks and the queries. -/
theorem add_rows (X : S32x2x4x128x1.Idx → EReal) (a : Fin 2) (b : Fin 4) (z : Fin 1) :
    Ideal.hostReduceAdd reducesTo_S32x2x4x128x1_S2x4x1_d0_3 X 0 (ix3 a b z) = ∑ n, ∑ i, X (ix5 n a b i z) := by
  unfold Ideal.hostReduceAdd
  rw [Finset.sum_filter_eq_sum_of_fiber _ (fun p : Fin 32 × Fin 128 => (ix5 p.1 a b p.2 z : S32x2x4x128x1.Idx)) ?_ (fun i => ?_)]
  · rw [Fintype.sum_prod_type]; simp
  · intro x y e
    exact Prod.ext (congrFun e 0) (congrFun e 3)
  · constructor
    · intro e
      refine ⟨(i 0, i 3), ?_⟩
      funext x; apply Fin.ext
      match x with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => exact (congrArg Fin.val (congrFun e 2)).symm
    · rintro ⟨k, rfl⟩
      funext x; apply Fin.ext
      match x with
      | ⟨0, _⟩ => rfl
      | ⟨1, _⟩ => rfl
      | ⟨2, _⟩ => rfl

omit R in
theorem fDs_at (Gs Gm Sel : A S32x2x4x128x1) (h : Fin 8) (l : Fin 128) :
    fDs Gs Gm Sel (ix2 h l) = (∑ n, ∑ i, Gs (ix5 n ⟨h / 4, by omega⟩ ⟨h % 4, by omega⟩ i 0)) + ∑ n, ∑ i, Gm (ix5 n ⟨h / 4, by omega⟩ ⟨h % 4, by omega⟩ i 0) * Sel (ix5 n ⟨h / 4, by omega⟩ ⟨h % 4, by omega⟩ i 0) := by
  pointwise [fDs, add_unit, add_rows]

theorem ds_ref (Sel : A S32x2x4x128x1) : fDs (res_main_v121 V) (res_main_v132 V) Sel = mat fun h (_ : Fin 128) => oDs q k v dm σ h := by
  funext j; idx_vars j
  rw [fDs_at]
  simp only [v121_at R, v132_at R, EReal.coe_zero, zero_mul, Finset.sum_const_zero, add_zero, sum_coe]
  rfl

end Cert.Proof.Attn

end
-- ==== Proof.AttnFinal.lean ====
/- The four result arrays claimed of the attention's backward kernel, after its eight grid steps. -/
module

public import proofs.«01_k».proof.Proof.AttnOut
public import proofs.«01_k».proof.Proof.AttnRef

@[expose] public section

set_option maxRecDepth 16384

noncomputable section

namespace Cert.Proof.Attn.Ker

open Cert.AttnIdeal Cert.AttnIdeal.Gen Idealize.ShloMosaic
open scoped BigOperators

/-- The real rows of block `j`'s band at step `t`, as the step stacks them. -/
def kR (k : Fin 4096 → Fin 128 → ℝ) (t : Fin cfg0.N) (j : Fin 4) : Fin 384 → Fin 128 → ℝ :=
  skR (fun r l => k (rowsLo t r) l) (fun r l => k (rows t r) l) (fun r l => k (rowsHi t r) l) j

theorem kR_band (k : Fin 4096 → Fin 128 → ℝ) (t : Fin cfg0.N) (j : Fin 4) (i : Fin 128) (s : Fin 384) (h : See (nb (tt t) j) i s) :
    kR k t j s = band k (nb (tt t) j) s := by
  have ht := lt_of_lt_of_eq t.isLt N_0
  obtain ⟨_, _, h3, h4⟩ := h
  have h3' : 128 ≤ 128 * (4 * t.val + j.val) + s.val := h3
  have h4' : 128 * (4 * t.val + j.val) + s.val < 4224 := h4
  have hs := s.isLt
  have hj := j.isLt
  funext l
  have e : band k (nb (tt t) j) s l = k ⟨128 * (4 * t.val + j.val) + s.val - 128, by omega⟩ l := by
    unfold band; rw [dif_pos ⟨h3, h4⟩]; rfl
  rw [e]
  unfold kR skR
  by_cases a : 128 * j.val + s.val < 128
  · rw [dif_pos a]; exact congrArg (k · l) (Fin.ext (by show 128 * (4 * t.val - 1) + (128 * j.val + s.val) = 128 * (4 * t.val + j.val) + s.val - 128; omega))
  rw [dif_neg a]
  by_cases b : 128 * j.val + s.val < 640
  · rw [dif_pos b]; exact congrArg (k · l) (Fin.ext (by show 512 * t.val + (128 * j.val + s.val - 128) = 128 * (4 * t.val + j.val) + s.val - 128; omega))
  · rw [dif_neg b]; exact congrArg (k · l) (Fin.ext (by show 128 * min (4 * t.val + 4) 31 + (128 * j.val + s.val - 640) = 128 * (4 * t.val + j.val) + s.val - 128; omega))

theorem rw4_q (q : Fin 4096 → Fin 512 → ℝ) (t : Fin cfg0.N) (j : Fin 4) : rw4 (fun r l => q (rows t r) l) j = qs q (nb (tt t) j) := by
  funext i l
  exact congrArg (q · l) (Fin.ext (by show 512 * t.val + (128 * j.val + i.val) = 128 * (4 * t.val + j.val) + i.val; omega))
theorem rw4_d (d : Fin 4096 → Fin 1024 → ℝ) (t : Fin cfg0.N) (j : Fin 4) : rw4 (fun r l => d (rows t r) (half l)) j = das d (nb (tt t) j) := by
  funext i l
  exact congrArg (d · (half l)) (Fin.ext (by show 512 * t.val + (128 * j.val + i.val) = 128 * (4 * t.val + j.val) + i.val; omega))

/-- An array of 32 blocks of 384 rows, each block cut in three. -/
def cut (f : Fin 32 → Fin 384 → Fin 128 → ℝ) : (⟨4, ![32, 3, 128, 128]⟩ : Shape).Idx → EReal :=
  fun j => (f (j 0) ⟨128 * (j 1).val + (j 2).val, by have := (j 1).2; have := (j 2).2; simp at *; omega⟩ (j 3) : EReal)

theorem cut_at (f : Fin 32 → Fin 384 → Fin 128 → ℝ) (j : (⟨4, ![32, 3, 128, 128]⟩ : Shape).Idx) (n : Fin 32) (e : Fin 3) (r l : Fin 128)
    (h0 : (j 0 : ℕ) = n) (h1 : (j 1 : ℕ) = e) (h2 : (j 2 : ℕ) = r) (h3 : (j 3 : ℕ) = l) : cut f j = (f n ⟨128 * e + r, by omega⟩ l : EReal) := by
  obtain rfl : j 0 = n := Fin.ext h0
  obtain rfl : j 3 = l := Fin.ext h3
  unfold cut
  exact congrArg (fun s => (f (j 0) s (j 3) : EReal)) (Fin.ext (by show 128 * (j 1).val + (j 2).val = _; rw [h1, h2]))

variable {m : (ℓ : Loc nD τ sig) → Buf (Elt Ideal) ℓ} {c : Dev nD} (t : Fin cfg0.N)
variable {q : Fin 4096 → Fin 512 → ℝ} {k v : Fin 4096 → Fin 128 → ℝ} {dm : Fin 4096 → Fin 1024 → ℝ} {σ : Fin 8 → ℝ} (R : Args m c q k v dm σ)
include R

theorem sDk_at (j : Fin 4) (s : Fin 384) (l : Fin 128) : sDk m c t j (ix2 s l) = (oDk q k v dm σ (nb (tt t) j) s l : EReal) := by
  rw [sDk, b0 t R, b1 t R, b2 t R, b3 t R, b4 t R, b5 t R, b6 t R, b7 t R, b11 t R, gDk_at _ (tt t) (tt_coord t), rw4_q, rw4_d]
  exact congrArg (fun f : Fin 2 → Fin 384 → Fin 64 → ℝ => (f _ s _ : EReal)) (bDk_congr _ _ _ _ (kR_band k t j) (kR_band v t j))

theorem sDv_at (j : Fin 4) (s : Fin 384) (l : Fin 128) : sDv m c t j (ix2 s l) = (oDv q k dm σ (nb (tt t) j) s l : EReal) := by
  rw [sDv, b0 t R, b1 t R, b2 t R, b3 t R, b4 t R, b11 t R, gDv_at _ (tt t) (tt_coord t), rw4_q, rw4_d]
  exact congrArg (fun f : Fin 2 → Fin 384 → Fin 64 → ℝ => (f _ s _ : EReal)) (bDv_congr _ _ _ _ (kR_band k t j))

theorem sDq0_at (j : Fin 4) (x : Fin 256) (l : Fin 128) : sDq0 m c t j (ix2 x l)
    = (bDq (band k (nb (tt t) j)) (band v (nb (tt t) j)) (qs q (nb (tt t) j)) (das dm (nb (tt t) j)) (See (nb (tt t) j)) σ 0 (cg x ⟨l.val / 64, by omega⟩) (ci x) ⟨l.val % 64, Nat.mod_lt _ (by decide)⟩ : EReal) := by
  rw [sDq0, b0 t R, b1 t R, b2 t R, b3 t R, b4 t R, b5 t R, b6 t R, b7 t R, b11 t R, gDq0_at _ (tt t) (tt_coord t), rw4_q, rw4_d]
  exact congrArg (fun f : Fin 2 → Fin 4 → Fin 128 → Fin 64 → ℝ => (f _ _ _ _ : EReal)) (bDq_congr _ _ _ _ (kR_band k t j) (kR_band v t j))

theorem sDq1_at (j : Fin 4) (x : Fin 256) (l : Fin 128) : sDq1 m c t j (ix2 x l)
    = (bDq (band k (nb (tt t) j)) (band v (nb (tt t) j)) (qs q (nb (tt t) j)) (das dm (nb (tt t) j)) (See (nb (tt t) j)) σ 1 (cg x ⟨l.val / 64, by omega⟩) (ci x) ⟨l.val % 64, Nat.mod_lt _ (by decide)⟩ : EReal) := by
  rw [sDq1, b0 t R, b1 t R, b2 t R, b3 t R, b4 t R, b5 t R, b6 t R, b7 t R, b11 t R, gDq1_at _ (tt t) (tt_coord t), rw4_q, rw4_d]
  exact congrArg (fun f : Fin 2 → Fin 4 → Fin 128 → Fin 64 → ℝ => (f _ _ _ _ : EReal)) (bDq_congr _ _ _ _ (kR_band k t j) (kR_band v t j))

omit R in
/-- Block `n`'s part of the gradient of the sink's logit of head `h`. -/
def dsN (q : Fin 4096 → Fin 512 → ℝ) (k v : Fin 4096 → Fin 128 → ℝ) (dm : Fin 4096 → Fin 1024 → ℝ) (σ : Fin 8 → ℝ) (n : Fin 32) (h : Fin 8) : ℝ :=
  bDsk (band k n) (band v n) (qs q n) (das dm n) (See n) σ ⟨h / 4, by omega⟩ ⟨h % 4, by omega⟩

theorem sRow_at (x : ℕ) (z : Fin 1) (l : Fin 128) : sRow m c t x (ix2 z l) = (dsN q k v dm σ (nb (tt t) ⟨x / 8 % 4, Nat.mod_lt _ (by decide)⟩) (ord x) : EReal) := by
  rw [sRow, b0 t R, b1 t R, b2 t R, b3 t R, b4 t R, b5 t R, b6 t R, b7 t R, b11 t R, gRow_at _ (tt t) (tt_coord t)]
  simp only [rw4_q, rw4_d]
  exact congrArg (fun f : Fin 2 → Fin 4 → ℝ => (f _ _ : EReal)) (bDsk_congr _ _ _ _ (kR_band k t _) (kR_band v t _))

omit R in
/-- Of the 32 rows added, head `h`'s are one for each block. -/
theorem sum_ord (G : Fin 4 → Fin 8 → ℝ) (h : Fin 8) : (∑ x ∈ Finset.range 32, if ord x = h then G ⟨x / 8 % 4, Nat.mod_lt _ (by decide)⟩ (ord x) else 0) = ∑ j, G j h := by
  have e : ∀ j : Fin 4, (∑ o : Fin 8, if ord o = h then G j (ord o) else 0) = G j h := fun j => by
    have b : Function.Bijective fun o : Fin 8 => ord o := by decide
    rw [b.sum_comp fun o => if o = h then G j o else 0, Finset.sum_ite_eq' Finset.univ h]; simp
  rw [Finset.sum_range, ← Finset.sum_congr rfl fun j _ => e j]
  refine (Fin.sum_mul_add_congr (L := 32) (S := 4) (n := 8) fun j o hl => ?_).symm
  have e1 : ord (j.val * 8 + o.val) = ord o := by
    unfold ord; congr 1; exact Fin.ext (by simp only []; omega)
  have e2 : (⟨(j.val * 8 + o.val) / 8 % 4, Nat.mod_lt _ (by decide)⟩ : Fin 4) = j := Fin.ext (by simp only []; omega)
  simp only [e1, e2]

omit R in
def dsT (q : Fin 4096 → Fin 512 → ℝ) (k v : Fin 4096 → Fin 128 → ℝ) (dm : Fin 4096 → Fin 1024 → ℝ) (σ : Fin 8 → ℝ) (n : ℕ) (h : Fin 8) : ℝ :=
  if hn : n < 8 then ∑ j, dsN q k v dm σ (nb ⟨n, hn⟩ j) h else 0

theorem acc23 (n : ℕ) (hn : n < cfg0.N) : (outsAt0 m c n hn).2.2.2.2.1 = mat fun h (_ : Fin 128) => ∑ u ∈ Finset.range (n + 1), dsT q k v dm σ u h := by
  have step : ∀ (n : ℕ) (hn : n < cfg0.N) (h : Fin 8), (∑ x ∈ Finset.range 32, if ord x = h then dsN q k v dm σ (nb (tt ⟨n, hn⟩) ⟨x / 8 % 4, Nat.mod_lt _ (by decide)⟩) (ord x) else 0) = dsT q k v dm σ n h := fun n hn h => by
    rw [sum_ord fun j h => dsN q k v dm σ (nb (tt ⟨n, hn⟩) j) h]
    unfold dsT; rw [dif_pos (lt_of_lt_of_eq hn N_0)]; rfl
  induction n with
  | zero =>
    funext y; idx_vars y
    rw [out23A m c ⟨0, hn⟩ rfl, rowsA_at _ _ _ (sRow_at ⟨0, hn⟩ R), mat_ix2, step, Finset.sum_range_one]
  | succ n ih =>
    have h8 := lt_of_lt_of_eq hn N_0
    funext y; idx_vars y
    rw [out23B m c ⟨n + 1, hn⟩ (by simp only []; omega), rowsB_at _ _ _ (sRow_at ⟨n + 1, hn⟩ R) _ (fun h => ∑ u ∈ Finset.range (n + 1), dsT q k v dm σ u h) (fun h l => by
      rw [show (outsAt0 m c (n + 1 - 1) _) = outsAt0 m c n (by omega) from rfl, ih]; rfl) _ _ _ (by
        have : ∀ h : Fin 8, ∃ x < 32, x < 8 ∧ ord x = h := by decide
        exact this _), mat_ix2, step, Finset.sum_range_succ _ (n + 1)]

omit R in
theorem idx_out : ∀ t : Fin cfg0.N, (win0_19.index t 0 = t.val ∧ win0_19.index t 1 = 0)
    ∧ (win0_20.index t 0 = t.val ∧ win0_20.index t 1 = 0 ∧ win0_20.index t 2 = 0 ∧ win0_20.index t 3 = 0)
    ∧ (win0_21.index t 0 = t.val ∧ win0_21.index t 1 = 0 ∧ win0_21.index t 2 = 0 ∧ win0_21.index t 3 = 0)
    ∧ (win0_23.index t 0 = 0 ∧ win0_23.index t 1 = 0) :=
  (by decide +kernel : ∀ t : Fin grid0.N, (win0_19.index t 0 = t.val ∧ win0_19.index t 1 = 0)
    ∧ (win0_20.index t 0 = t.val ∧ win0_20.index t 1 = 0 ∧ win0_20.index t 2 = 0 ∧ win0_20.index t 3 = 0)
    ∧ (win0_21.index t 0 = t.val ∧ win0_21.index t 1 = 0 ∧ win0_21.index t 2 = 0 ∧ win0_21.index t 3 = 0)
    ∧ (win0_23.index t 0 = 0 ∧ win0_23.index t 1 = 0))

omit R in
theorem oDq_eq (r x : Fin 512) : oDq q k v dm σ (rows t r) x
    = bDq (band k (nb (tt t) ⟨r / 128, by omega⟩)) (band v (nb (tt t) ⟨r / 128, by omega⟩)) (qs q (nb (tt t) ⟨r / 128, by omega⟩)) (das dm (nb (tt t) ⟨r / 128, by omega⟩)) (See (nb (tt t) ⟨r / 128, by omega⟩)) σ
      ⟨x / 256, by omega⟩ ⟨x / 64 % 4, by omega⟩ ⟨r % 128, by omega⟩ ⟨x % 64, by omega⟩ := by
  unfold oDq
  have e : (⟨(rows t r).val / 128, by omega⟩ : Fin 32) = nb (tt t) ⟨r / 128, by omega⟩ :=
    Fin.ext (by show (512 * t.val + r.val) / 128 = 4 * t.val + r.val / 128; omega)
  have e' : (⟨(rows t r).val % 128, by omega⟩ : Fin 128) = ⟨r % 128, by omega⟩ :=
    Fin.ext (by show (512 * t.val + r.val) % 128 = r.val % 128; omega)
  rw [e, e']

theorem blk19 (r x : Fin 512) : (outsAt0 m c t.val t.isLt).1 (ix2 r x) = (oDq q k v dm σ (rows t r) x : EReal) := by
  rw [out19, L19_at, oDq_eq]
  have a : cg ⟨128 * (x.val / 128 % 2) + r.val % 128, by omega⟩ ⟨x.val % 128 / 64, by omega⟩ = ⟨x / 64 % 4, by omega⟩ :=
    Fin.ext (by show 2 * ((128 * (x.val / 128 % 2) + r.val % 128) / 128) + x.val % 128 / 64 = x.val / 64 % 4; omega)
  have b : ci ⟨128 * (x.val / 128 % 2) + r.val % 128, by omega⟩ = ⟨r % 128, by omega⟩ :=
    Fin.ext (by show (128 * (x.val / 128 % 2) + r.val % 128) % 128 = r.val % 128; omega)
  have d : (⟨x.val % 128 % 64, by omega⟩ : Fin 64) = ⟨x % 64, by omega⟩ := Fin.ext (by show x.val % 128 % 64 = x.val % 64; omega)
  split_ifs with h
  · rw [sDq0_at t R, a, b, d, show (⟨x / 256, by omega⟩ : Fin 2) = 0 from Fin.ext (by show x.val / 256 = 0; omega)]
  · rw [sDq1_at t R, a, b, d, show (⟨x / 256, by omega⟩ : Fin 2) = 1 from Fin.ext (by show x.val / 256 = 1; omega)]

theorem arr19 : (dats m 0 c).arrAt 19 (cfgs 0).N = mat (oDq q k v dm σ) := by
  refine (dats m 0 c).arrAt_eq_of_covers 19 _ (by decide +kernel) fun t hf y => ?_
  have ij := (idx_out t).1
  blk_simp
  rw [after0_19]
  refine Eq.trans ?_ (mat_at (oDq q k v dm σ) ((win0_19.blk t).view.emb y) (rows t (y 0)) (y 1) ?_ ?_).symm
  · exact (congrArg _ (eq_ix2 y)).trans (blk19 t R (y 0) (y 1))
  · blk_simp [ij]; show _ = 512 * t.val + _; omega
  · blk_simp [ij]

theorem arr20 : (dats m 0 c).arrAt 20 (cfgs 0).N = cut (oDk q k v dm σ) := by
  refine (dats m 0 c).arrAt_eq_of_covers 20 _ (by decide +kernel) fun t hf y => ?_
  have ij := (idx_out t).2.1
  blk_simp
  rw [after0_20, out20]
  refine Eq.trans ?_ (cut_at (oDk q k v dm σ) ((win0_20.blk t).view.emb y) (nb (tt t) (y 0)) (y 1) (y 2) (y 3) ?_ ?_ ?_ ?_).symm
  · exact (congrArg _ (eq_ix4 y)).trans ((L20_at _ (y 0) (y 1) (y 2) (y 3)).trans (sDk_at t R (y 0) _ (y 3)))
  · blk_simp [ij]; show _ = 4 * t.val + _; omega
  · blk_simp [ij]
  · blk_simp [ij]
  · blk_simp [ij]

theorem arr21 : (dats m 0 c).arrAt 21 (cfgs 0).N = cut (oDv q k dm σ) := by
  refine (dats m 0 c).arrAt_eq_of_covers 21 _ (by decide +kernel) fun t hf y => ?_
  have ij := (idx_out t).2.2.1
  blk_simp
  rw [after0_21, out21]
  refine Eq.trans ?_ (cut_at (oDv q k dm σ) ((win0_21.blk t).view.emb y) (nb (tt t) (y 0)) (y 1) (y 2) (y 3) ?_ ?_ ?_ ?_).symm
  · exact (congrArg _ (eq_ix4 y)).trans ((L20_at _ (y 0) (y 1) (y 2) (y 3)).trans (sDv_at t R (y 0) _ (y 3)))
  · blk_simp [ij]; show _ = 4 * t.val + _; omega
  · blk_simp [ij]
  · blk_simp [ij]
  · blk_simp [ij]

omit R in
theorem sum_dsT {n : ℕ} (hn : n = 7) (h : Fin 8) : (∑ u ∈ Finset.range (n + 1), dsT q k v dm σ u h) = oDs q k v dm σ h := by
  subst hn
  rw [Finset.sum_range]
  unfold dsT
  simp only [Fin.is_lt, dite_true]
  refine Fin.sum_mul_add_congr (L := 32) fun s j hl => ?_
  exact congrArg (fun n : Fin 32 => dsN q k v dm σ n h) (Fin.ext (by show 4 * s.val + j.val = s.val * 4 + j.val; omega))

theorem arr23 : (dats m 0 c).arrAt 23 (cfgs 0).N = mat fun h (_ : Fin 128) => oDs q k v dm σ h := by
  refine (dats m 0 c).arrAt_eq_of_covers 23 _ (by decide +kernel) fun t hf y => ?_
  have ij := (idx_out t).2.2.2
  have ht : t.val = 7 := by have := (flush0_23 t).mp hf; have := lt_of_lt_of_eq t.isLt N_0; omega
  blk_simp
  rw [after0_23, acc23 R]
  refine Eq.trans ?_ (mat_at (fun h (_ : Fin 128) => oDs q k v dm σ h) ((win0_23.blk t).view.emb y) (y 0) (y 1) ?_ ?_).symm
  · exact (congrArg _ (eq_ix2 y)).trans (congrArg (fun x : ℝ => (x : EReal)) (sum_dsT ht (y 0)))
  · blk_simp [ij]
  · blk_simp [ij]

end Cert.Proof.Attn.Ker

end
-- ==== Proof.AttnSame.lean ====
/- The attention's backward pass: over finite arguments the four arrays of the kernel are the reference's. -/
module

public import proofs.«01_k».proof.Defs
public import proofs.«01_k».proof.Proof.AttnFinal
public import proofs.«01_k».proof.Proof.Pre
public import proofs.«01_k».proof.Proof.Gen.AttnIdeal.Value
public import proofs.«01_k».proof.Proof.Gen.AttnRefIdeal.Run
public import Idealize.ShloMosaic.Adequacy
public import Idealize.ShloMosaic.Init

@[expose] public section

set_option maxRecDepth 16384

noncomputable section

namespace Cert.Proof.Attn

open Idealize.ShloMosaic Idealize.SL.Sem

section Pre
open Cert.Pre_attn_finite

theorem pre_facts : Cert.Pre_attn_finite.Facts where
  bcast_S_S4096x512 := by decide
  reducesTo_S4096x512_S_d0_1 := by decide
  h_S_ := by decide
  bcast_S_S4096x128 := by decide
  reducesTo_S4096x128_S_d0_1 := by decide
  bcast_S_S4096x1024 := by decide
  reducesTo_S4096x1024_S_d0_1 := by decide
  bcast_S_S1x8 := by decide
  reducesTo_S1x8_S_d0_1 := by decide

attribute [local instance] pre_facts in
theorem pre_finite (a0 : FVec Ideal S4096x512 .f32) (a1 a2 : FVec Ideal S4096x128 .f32) (a3 : FVec Ideal S4096x512 .f32) (a4 : FVec Ideal S4096x1024 .f32)
    (a5 : FVec Ideal S1x8 .f32) (a6 : FVec Ideal S1x4x128x128 .f32) (a7 : FVec Ideal S1x512 .f32) (j : S_.Idx) (h : Cert.Pre_attn_finite.fn (F := Ideal) a0 a1 a2 a3 a4 a5 a6 a7 j = 1#1) :
    (∀ i, max (a0 i) (-a0 i) < ⊤) ∧ (∀ i, max (a1 i) (-a1 i) < ⊤) ∧ (∀ i, max (a2 i) (-a2 i) < ⊤) ∧ (∀ i, max (a4 i) (-a4 i) < ⊤)
      ∧ (∀ i, max (a5 i) (-a5 i) < ⊤) := by
  obtain ⟨h, h5⟩ := andi_one h
  obtain ⟨h, h4⟩ := andi_one h
  obtain ⟨h, h2⟩ := andi_one h
  obtain ⟨h0, h1⟩ := andi_one h
  exact ⟨fun i => finite_of_cmp _ _ (fun _ => ofBits_top) i (Host.reduce_andi_all _ _ _ _ j h0 i),
    fun i => finite_of_cmp _ _ (fun _ => ofBits_top) i (Host.reduce_andi_all _ _ _ _ j h1 i),
    fun i => finite_of_cmp _ _ (fun _ => ofBits_top) i (Host.reduce_andi_all _ _ _ _ j h2 i),
    fun i => finite_of_cmp _ _ (fun _ => ofBits_top) i (Host.reduce_andi_all _ _ _ _ j h4 i),
    fun i => finite_of_cmp _ _ (fun _ => ofBits_top) i (Host.reduce_andi_all _ _ _ _ j h5 i)⟩
end Pre

/-- The reference runs to the end, leaves its arguments as they were, and has no semaphore. -/
theorem refFrame : Cert.quiescent_AttnRefIdeal := fun m g _ =>
  (θ_run Cert.AttnRefIdeal.defs _ _).mono (fun r h => ⟨fun c => (h c).2.2.2.2, sem_eq_zero_of_no_sems (by decide) r.2⟩)
    (Cert.AttnRefIdeal.Value.run (F := Ideal) m g)

set_option maxHeartbeats 4000000 in
theorem same : Cert.algebraic_AttnIdeal_AttnRefIdeal_pre_attn_finite (hPre_attn_finite := pre_facts) := by
  intro m g m' g' hp ha
  refine ⟨fun c => (Cert.AttnIdeal.Gen.dats m 0 c).arrAt 19 _, fun c => (Cert.AttnIdeal.Gen.dats m 0 c).arrAt 20 _, fun c => (Cert.AttnIdeal.Gen.dats m 0 c).arrAt 21 _,
    fun c => (Cert.AttnIdeal.Gen.dats m 0 c).arrAt 23 _,
    (θ_run Cert.AttnIdeal.defs _ _).mono (fun r h c => ⟨(h c).1, (h c).2.1, (h c).2.2.1, (h c).2.2.2.2.1, (h c).2.2.2.2.2.2.2⟩) (Cert.AttnIdeal.Value.run_blocks m g),
    (θ_run Cert.AttnRefIdeal.defs _ _).mono (fun r h c => ?_) (Cert.AttnRefIdeal.Value.run (F := Ideal) m' g')⟩
  obtain ⟨e0, e1, e2, e3, e4, e5, _, _⟩ := ha c
  obtain ⟨f0, f1, f2, f4, f5⟩ := pre_finite _ _ _ _ _ _ _ _ (fun i => i.elim0) (congrFun (hp c) _)
  obtain ⟨q, a0⟩ := exists_mat _ f0
  obtain ⟨k, a1⟩ := exists_mat _ f1
  obtain ⟨v, a2⟩ := exists_mat _ f2
  obtain ⟨dm, a4⟩ := exists_mat _ f4
  obtain ⟨σ, a5⟩ := exists_mat _ f5
  have a5' : m ((c.tc : Thread Cert.AttnIdeal.nD Cert.AttnIdeal.τ).loc Cert.AttnIdeal.main_arg5) = mat fun (_ : Fin 1) => σ 0 :=
    a5.trans (congrArg mat (funext fun z => congrArg σ (Subsingleton.elim z 0)))
  have K : Ker.Args m c q k v dm (σ 0) := ⟨a0, a1, a2, a4, a5'⟩
  have R : Real (StableHlo.launchContents m' c) q k v dm (σ 0) := ⟨e0.trans a0, e1.trans a1, e2.trans a2, e4.trans a4, e5.trans a5'⟩
  obtain ⟨h0, h1, h2, h3, hk⟩ := h c
  exact ⟨h0.trans ((dq_ref R).trans (Ker.arr19 K).symm), h1.trans ((dk_ref R).trans (Ker.arr20 K).symm), h2.trans ((dv_ref R).trans (Ker.arr21 K).symm),
    h3.trans ((ds_ref R _).trans (Ker.arr23 K).symm), hk⟩

end Cert.Proof.Attn

end
-- ==== Proof.FfnGates.lean ====
/- The first eHalf-step's backward call for its gates: the kernel's three arrays and the reference's three results are the
   gradients of Proof/GateExt.lean, where the cotangent, the scale and the up and down weights are finite. -/
module

public import proofs.«01_k».proof.Defs
public import proofs.«01_k».proof.Proof.Final
public import proofs.«01_k».proof.Proof.Out
public import proofs.«01_k».proof.Proof.Pre
public import proofs.«01_k».proof.Proof.Gen.GatesIdeal.Value
public import proofs.«01_k».proof.Proof.Gen.GatesRefIdeal.Run
public import Idealize.ShloMosaic.Adequacy
public import Idealize.ShloMosaic.Init

@[expose] public section

set_option maxRecDepth 16384

noncomputable section

namespace Cert.Proof.Gates

open Idealize.ShloMosaic Idealize.SL.Sem
open scoped BigOperators

section kernel
open Cert.GatesIdeal Cert.GatesIdeal.Gen

variable (m : (ℓ : Loc nD τ sig) → Buf (Elt Ideal) ℓ) (c : Dev nD)

/-- The array rows of grid point `t`. -/
def rows (t : Fin cfg0.N) (r : Fin 512) : Fin 4096 := ⟨t.val * 512 + r.val, by have := lt_of_lt_of_eq t.isLt N_0; omega⟩

section cells
variable (z u : Fin 512 → Fin 2816 → EReal) (d : Fin 512 → Fin 1024 → EReal) (wd : Fin 2816 → Fin 1024 → EReal)

theorem gate_out : out0_4 (F := Ideal) (emat d) (emat z) (emat u) (emat wd) = emat fun f r => eGate z u (eLinT (eHalf d) wd) r f := by
  funext y
  unfold_out out0_4
  canon_tiles y h
  all_goals (unfold_payloads; pointwise; exact Blk.gate_cell z u d wd _ _ _ h0 h1)

theorem up_out : out0_5 (F := Ideal) (emat d) (emat z) (emat u) (emat wd) = emat fun f r => eUp z (eLinT (eHalf d) wd) r f := by
  funext y
  unfold_out out0_5
  canon_tiles y h
  all_goals (unfold_payloads; pointwise; exact Blk.up_cell z d wd _ _ _ h0 h1)

theorem pay3_eq : k0_pay3 (F := Ideal) (emat d) = emat (eHalf d) := by
  funext i; idx_vars i
  pointwise [k0_pay3]
  simp only [emat_ix2, ofBits_half]; rfl

theorem half_out : out0_6 (F := Ideal) (emat d) (emat z) (emat u) (emat wd) = emat (eHalf d) := by
  funext y
  frame_out
  rw [pay3_eq]
end cells

theorem idx_row : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = t.val) ∧ (win0_5.index t 0 = 0 ∧ win0_5.index t 1 = t.val) ∧ (win0_6.index t 0 = t.val ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = t.val) ∧ (win0_5.index t 0 = 0 ∧ win0_5.index t 1 = t.val) ∧ (win0_6.index t 0 = t.val ∧ win0_6.index t 1 = 0))

/-- The arguments as matrices. -/
structure Args (x d : Fin 4096 → Fin 1024 → EReal) (g : Fin 1 → Fin 1024 → EReal) (wg wu : Fin 1024 → Fin 2816 → EReal) (wd : Fin 2816 → Fin 1024 → EReal) : Prop where
  a0 : m ((c.tc : Thread nD τ).loc main_arg0) = emat x
  a1 : m ((c.tc : Thread nD τ).loc main_arg1) = emat d
  a2 : m ((c.tc : Thread nD τ).loc main_arg2) = emat g
  a3 : m ((c.tc : Thread nD τ).loc main_arg3) = emat1 wg
  a4 : m ((c.tc : Thread nD τ).loc main_arg4) = emat1 wu
  a5 : m ((c.tc : Thread nD τ).loc main_arg5) = emat1 wd

section
variable {m c} {x d : Fin 4096 → Fin 1024 → EReal} {g : Fin 1 → Fin 1024 → EReal} {wg wu : Fin 1024 → Fin 2816 → EReal} {wd : Fin 2816 → Fin 1024 → EReal}
  (A : Args m c x d g wg wu wd) (t : Fin cfg0.N)
include A

theorem V_gate : V m c main_v16 = emat (eLin (eNrm x (g 0)) wg) := by
  have h0 : m (c, Proc.tc.devRef main_arg0) = emat x := A.a0
  have h2 : m (c, Proc.tc.devRef main_arg2) = emat g := A.a2
  have h3 : m (c, Proc.tc.devRef main_arg3) = emat1 wg := A.a3
  entry_read
  rw [h0, h2, h3]
  funext i; idx_vars i; pointwise
  simp only [emat_ix2, emat1_ix3, ofBits_1024, ofBits_eps]
  rfl

theorem V_up : V m c main_v19 = emat (eLin (eNrm x (g 0)) wu) := by
  have h0 : m (c, Proc.tc.devRef main_arg0) = emat x := A.a0
  have h2 : m (c, Proc.tc.devRef main_arg2) = emat g := A.a2
  have h4 : m (c, Proc.tc.devRef main_arg4) = emat1 wu := A.a4
  entry_read
  rw [h0, h2, h4]
  funext i; idx_vars i; pointwise
  simp only [emat_ix2, emat1_ix3, ofBits_1024, ofBits_eps]
  rfl

theorem V_wd : V m c main_v21 = emat wd := by
  have h : m (c, Proc.tc.devRef main_arg5) = emat1 wd := A.a5
  entry_read; rw [h]
  funext i; idx_vars i; pointwise; rfl

theorem b0 : iblk m c 0 t = emat fun r => d (rows t r) := by
  obtain ⟨i0, -⟩ := idx_row t
  have V1 : V m c main_arg1 = emat d := (V_main_arg1 m c).trans A.a1
  funext i; blk_simp [iblk]; rw [V1]; exact emat_at _ _ (rows t (i 0)) (i 1) (by blk_simp [i0]; rfl) (by blk_simp [i0])

theorem b1 : iblk m c 1 t = emat fun r => eLin (eNrm x (g 0)) wg (rows t r) := by
  obtain ⟨-, i1, -⟩ := idx_row t
  funext i; blk_simp [iblk]; rw [V_gate A]; exact emat_at _ _ (rows t (i 0)) (i 1) (by blk_simp [i1]; rfl) (by blk_simp [i1])

theorem b2 : iblk m c 2 t = emat fun r => eLin (eNrm x (g 0)) wu (rows t r) := by
  obtain ⟨-, -, i2, -⟩ := idx_row t
  funext i; blk_simp [iblk]; rw [V_up A]; exact emat_at _ _ (rows t (i 0)) (i 1) (by blk_simp [i2]; rfl) (by blk_simp [i2])

theorem b3 : iblk m c 3 t = emat wd := by
  obtain ⟨-, -, -, i3, -⟩ := idx_row t
  funext i; blk_simp [iblk]; rw [V_wd A]; exact emat_at _ _ (i 0) (i 1) (by blk_simp [i3]) (by blk_simp [i3])

theorem arr4 : (dats m 0 c).arrAt 4 (cfgs 0).N = emat fun f r => eGate (eLin (eNrm x (g 0)) wg) (eLin (eNrm x (g 0)) wu) (eLinT (eHalf d) wd) r f := by
  refine (dats m 0 c).arrAt_eq_of_covers 4 _ (by decide +kernel) fun t hf y => ?_
  have ij := (idx_row t).2.2.2.2.1
  blk_simp
  rw [after0_4, b0 A, b1 A, b2 A, b3 A, gate_out]
  refine Eq.trans ?_ (emat_at (fun f r => eGate (eLin (eNrm x (g 0)) wg) (eLin (eNrm x (g 0)) wu) (eLinT (eHalf d) wd) r f) ((win0_4.blk t).view.emb y) (y 0) (rows t (y 1)) ?_ ?_).symm
  · rfl
  · blk_simp [ij]
  · blk_simp [ij]; rfl

theorem arr5 : (dats m 0 c).arrAt 5 (cfgs 0).N = emat fun f r => eUp (eLin (eNrm x (g 0)) wg) (eLinT (eHalf d) wd) r f := by
  refine (dats m 0 c).arrAt_eq_of_covers 5 _ (by decide +kernel) fun t hf y => ?_
  have ij := (idx_row t).2.2.2.2.2.1
  blk_simp
  rw [after0_5, b0 A, b1 A, b2 A, b3 A, up_out]
  refine Eq.trans ?_ (emat_at (fun f r => eUp (eLin (eNrm x (g 0)) wg) (eLinT (eHalf d) wd) r f) ((win0_5.blk t).view.emb y) (y 0) (rows t (y 1)) ?_ ?_).symm
  · rfl
  · blk_simp [ij]
  · blk_simp [ij]; rfl

theorem arr6 : (dats m 0 c).arrAt 6 (cfgs 0).N = emat (eHalf d) := by
  refine (dats m 0 c).arrAt_eq_of_covers 6 _ (by decide +kernel) fun t hf y => ?_
  have ij := (idx_row t).2.2.2.2.2.2
  blk_simp
  rw [after0_6, b0 A, b1 A, b2 A, b3 A, half_out]
  refine Eq.trans ?_ (emat_at (eHalf d) ((win0_6.blk t).view.emb y) (rows t (y 0)) (y 1) ?_ ?_).symm
  · rfl
  · blk_simp [ij]; rfl
  · blk_simp [ij]
end
end kernel

section Pre
open Cert.Pre_gates_finite

theorem pre_facts : Cert.Pre_gates_finite.Facts where
  bcast_S_S4096x1024 := by decide
  reducesTo_S4096x1024_S_d0_1 := by decide
  h_S_ := by decide
  bcast_S_S1x1024 := by decide
  reducesTo_S1x1024_S_d0_1 := by decide
  bcast_S_S1x1024x2816 := by decide
  reducesTo_S1x1024x2816_S_d0_1_2 := by decide
  bcast_S_S1x2816x1024 := by decide
  reducesTo_S1x2816x1024_S_d0_1_2 := by decide

attribute [local instance] pre_facts in
theorem pre_finite (a0 a1 : FVec Ideal S4096x1024 .f32) (a2 : FVec Ideal S1x1024 .f32) (a3 a4 : FVec Ideal S1x1024x2816 .f32)
    (a5 : FVec Ideal S1x2816x1024 .f32) (j : S_.Idx) (h : Cert.Pre_gates_finite.fn (F := Ideal) a0 a1 a2 a3 a4 a5 j = 1#1) :
    (∀ i, max (a1 i) (-a1 i) < ⊤) ∧ (∀ i, max (a2 i) (-a2 i) < ⊤) ∧ (∀ i, max (a4 i) (-a4 i) < ⊤) ∧ (∀ i, max (a5 i) (-a5 i) < ⊤) := by
  obtain ⟨h, h3⟩ := andi_one h
  obtain ⟨h, h2⟩ := andi_one h
  obtain ⟨h0, h1⟩ := andi_one h
  exact ⟨all_finite (fun _ => ofBits_top) h0, all_finite (fun _ => ofBits_top) h1, all_finite (fun _ => ofBits_top) h2, all_finite (fun _ => ofBits_top) h3⟩
end Pre

section reference
open Cert.GatesRefIdeal Cert.GatesRefIdeal.Gen Cert.GatesRefIdeal.Value

variable (m : (ℓ : Loc nD τ sig) → Buf (Elt Ideal) ℓ) (c : Dev nD)

abbrev arg0 : Ref.A S4096x1024 := m ((c.tc : Thread nD τ).loc main_arg0)
abbrev arg1 : Ref.A S4096x1024 := m ((c.tc : Thread nD τ).loc main_arg1)
abbrev arg2 : Ref.A S1x1024 := m ((c.tc : Thread nD τ).loc main_arg2)
abbrev arg3 : Ref.A S1x1024x2816 := m ((c.tc : Thread nD τ).loc main_arg3)
abbrev arg4 : Ref.A S1x1024x2816 := m ((c.tc : Thread nD τ).loc main_arg4)
abbrev arg5 : Ref.A S1x2816x1024 := m ((c.tc : Thread nD τ).loc main_arg5)

def sZ : Ref.A S4096x2816 := Ref.rLin (Ref.rNrm (arg0 m c) (arg2 m c)) (arg3 m c)
def sU : Ref.A S4096x2816 := Ref.rLin (Ref.rNrm (arg0 m c) (arg2 m c)) (arg4 m c)
def sP : Ref.A S4096x1024 := mulf (broadcastInDim S4096x1024 ![] bcast_S_S4096x1024 (constant S_ .f32 0x3F000000#32)) (arg1 m c)
def sA : Ref.A S4096x2816 :=
  Host.dotGeneral dot_S4096x1024_S2816x1024_S4096x2816_1_1_0_0_n_n none (sP m c) (shapeCast S2816x1024 (arg5 m c) shapeCasts_S1x2816x1024_S2816x1024)

theorem out0 : res_out0 m c = truncf .bf16 (transpose S2816x4096 [1, 0] (Ref.rGate (sZ m c) (sU m c) (sA m c))
    transposes_S4096x2816_S2816x4096_1_0) bitsLt_bf16_f32 := rfl

variable {m c} {x d : Fin 4096 → Fin 1024 → EReal} {g : Fin 1 → Fin 1024 → EReal} {wg wu : Fin 1024 → Fin 2816 → EReal} {wd : Fin 2816 → Fin 1024 → EReal}

theorem sP_eq (h : arg1 m c = emat d) : sP m c = emat (eHalf d) := by
  unfold sP; rw [h]
  funext i; idx_vars i
  pointwise
  simp only [emat_ix2, ofBits_half]; rfl

theorem sA_eq (h : arg1 m c = emat d) (h5 : arg5 m c = emat1 wd) :
    sA m c = emat (eLinT (eHalf d) wd) := by
  unfold sA; rw [sP_eq h, h5]
  funext i; idx_vars i
  pointwise
  simp only [emat_ix2, emat1_ix3]; rfl
end reference

/-- The reference runs to the end, leaves its arguments as they were, and has no semaphore. -/
theorem refFrame : Cert.quiescent_GatesRefIdeal := fun m g _ =>
  (θ_run Cert.GatesRefIdeal.defs _ _).mono (fun r h => ⟨fun c => (h c).2.2.2, sem_eq_zero_of_no_sems (by decide) r.2⟩)
    (Cert.GatesRefIdeal.Value.run (F := Ideal) m g)

set_option maxHeartbeats 4000000 in
theorem same : Cert.algebraic_GatesIdeal_GatesRefIdeal_pre_gates_finite (hPre_gates_finite := pre_facts) := by
  intro m g m' g' hp ha
  refine ⟨fun c => (Cert.GatesIdeal.Gen.dats m 0 c).arrAt 4 _, fun c => (Cert.GatesIdeal.Gen.dats m 0 c).arrAt 5 _,
    fun c => (Cert.GatesIdeal.Gen.dats m 0 c).arrAt 6 _, Cert.GatesIdeal.Value.run_blocks m g,
    (θ_run Cert.GatesRefIdeal.defs _ _).mono (fun r h c => ?_) (Cert.GatesRefIdeal.Value.run (F := Ideal) m' g')⟩
  obtain ⟨e0, e1, e2, e3, e4, e5⟩ := ha c
  obtain ⟨f1, f2, f4, f5⟩ := pre_finite _ _ _ _ _ _ (fun i => i.elim0) (congrFun (hp c) _)
  obtain ⟨x, a0⟩ := exists_emat (m ((c.tc : Thread Cert.GatesIdeal.nD Cert.GatesIdeal.τ).loc Cert.GatesIdeal.main_arg0))
  obtain ⟨d, a1⟩ := exists_coe _ f1
  obtain ⟨γ, a2⟩ := exists_coe _ f2
  obtain ⟨wg, a3⟩ := exists_emat1 (m ((c.tc : Thread Cert.GatesIdeal.nD Cert.GatesIdeal.τ).loc Cert.GatesIdeal.main_arg3))
  obtain ⟨wu, a4⟩ := exists_coe1 _ f4
  obtain ⟨wd, a5⟩ := exists_coe1 _ f5
  have hc := factor_coe x d (γ 0) wu wd
  have A : Args m c x _ _ wg _ _ := ⟨a0, a1, a2, a3, a4, a5⟩
  have z : sZ m' c = emat (eLin (eNrm x fun k => (γ 0 k : EReal)) wg) := by
    unfold sZ arg0 arg2 arg3; rw [e0, e2, e3, a0, a2, a3]; exact (congrArg (Ref.rLin · _) (Ref.rNrm_at x _)).trans (Ref.rLin_at _ wg)
  have u : sU m' c = emat (eLin (eNrm x fun k => (γ 0 k : EReal)) fun k f => (wu k f : EReal)) := by
    unfold sU arg0 arg2 arg4; rw [e0, e2, e4, a0, a2, a4]; exact (congrArg (Ref.rLin · _) (Ref.rNrm_at x _)).trans (Ref.rLin_at _ _)
  have p := sA_eq (e1.trans a1) (e5.trans a5)
  obtain ⟨h0, h1, h2, hk⟩ := h c
  refine ⟨h0.trans ?_, h1.trans ?_, h2.trans ?_, hk⟩
  · refine (out0 m' c).trans ?_
    rw [z, u, p, Ref.rGate_at _ _ _ hc]
    exact (Ref.transpose_at _).trans (arr4 A).symm
  · refine Eq.trans (b := truncf (F := Ideal) .bf16 (transpose Cert.GatesRefIdeal.S2816x4096 [1, 0] (Ref.rUp (sZ m' c) (sA m' c))
      Cert.GatesRefIdeal.Gen.transposes_S4096x2816_S2816x4096_1_0) Cert.GatesRefIdeal.Gen.bitsLt_bf16_f32) rfl ?_
    rw [z, p, Ref.rUpG_at]
    exact (Ref.transpose_at _).trans (arr5 A).symm
  · refine Eq.trans (b := truncf (F := Ideal) .bf16 (sP m' c) Cert.GatesRefIdeal.Gen.bitsLt_bf16_f32) rfl ?_
    rw [sP_eq (e1.trans a1)]
    exact (Ref.cast_eq' _).trans (arr6 A).symm

end Cert.Proof.Gates
end
-- ==== Proof.FfnIn.lean ====
/- The first half-step's backward call for its input and the norm's scale: the kernel's two arrays and the reference's two
   results are the gradients of Proof/Ext.lean, at any arguments. The cotangent of the branch around the half-step is only added. -/
module

public import proofs.«01_k».proof.Proof.Final
public import proofs.«01_k».proof.Proof.Ext
public import proofs.«01_k».proof.Proof.Gen.InpIdeal.Value
public import proofs.«01_k».proof.Proof.Gen.InpRefIdeal.Run

@[expose] public section

set_option maxRecDepth 16384

noncomputable section

namespace Cert.Proof.Inp

open Cert.InpIdeal Cert.InpIdeal.Gen Idealize.ShloMosaic
open scoped BigOperators

/-- An array plus a matrix. -/
def plus {a b : ℕ} (D : (⟨2, ![a, b]⟩ : Shape).Idx → EReal) (f : Fin a → Fin b → EReal) : (⟨2, ![a, b]⟩ : Shape).Idx → EReal :=
  fun i => D i + f (i 0) (i 1)

theorem plus_at {a b : ℕ} (D : (⟨2, ![a, b]⟩ : Shape).Idx → EReal) (f : Fin a → Fin b → EReal) (j : (⟨2, ![a, b]⟩ : Shape).Idx) (r : Fin a) (k : Fin b)
    (h0 : (j 0 : ℕ) = r) (h1 : (j 1 : ℕ) = k) : plus D f j = D (ix2 r k) + f r k := by
  obtain rfl : j = ix2 r k := (eq_ix2 j).trans (by rw [show j 0 = r from Fin.ext h0, show j 1 = k from Fin.ext h1])
  rfl

variable (m : (ℓ : Loc nD τ sig) → Buf (Elt Ideal) ℓ) (c : Dev nD)

/-- The array rows of grid point `t`. -/
def rows (t : Fin cfg0.N) (r : Fin 512) : Fin 4096 := ⟨t.val * 512 + r.val, by have := lt_of_lt_of_eq t.isLt N_0; omega⟩

section payloads
variable (x : Fin 512 → Fin 1024 → EReal) (g : Fin 1 → Fin 1024 → EReal) (q e : Fin 512 → Fin 2816 → EReal) (wg wu : Fin 1024 → Fin 2816 → EReal)

theorem pay3_eq : k0_pay3 (F := Ideal) (emat x) = emat fun r (_ : Fin 1) => eInv x r := by
  funext i; idx_vars i
  pointwise [k0_pay3]
  simp only [emat_ix2, ofBits_1024, ofBits_eps]; rfl

theorem pay4_eq : k0_pay4 (F := Ideal) (emat x) = emat (eHat x) := by
  funext i; idx_vars i
  pointwise [k0_pay4]
  rw [pay3_eq]; rfl

theorem pay5_eq : k0_pay5 (F := Ideal) (emat fun r f => q f r) (emat fun f k => wg k f) (emat fun r f => e f r) (emat fun f k => wu k f)
    = emat (eDn q e wg wu) := by
  funext i; idx_vars i
  pointwise [k0_pay5]
  simp only [emat_ix2]; rfl

theorem pay6_eq (D : S512x1024.Idx → EReal) :
    k0_pay6 (F := Ideal) (emat x) (emat fun r f => q f r) (emat fun f k => wg k f) (emat fun r f => e f r) (emat fun f k => wu k f) (emat g) D
      = plus D (eIn x (g 0) (eDn q e wg wu)) := by
  funext i; idx_vars i
  pointwise [k0_pay6]
  rw [pay3_eq, pay4_eq, pay5_eq]
  simp only [emat_ix2, ofBits_1024]; rfl

theorem pay2_eq (dn : Fin 512 → Fin 1024 → EReal) (A : S1x1024.Idx → EReal) (j : S1x1024.Idx) :
    k0_pay2 (F := Ideal) (emat (eHat x)) (emat dn) A j = A j + emat (fun (_ : Fin 1) k => eScale x dn k) j := by
  idx_vars j
  pointwise [k0_pay2]
  simp only [emat_ix2]; rfl
end payloads

/-- The arrays whose rows grid point `t` has in its blocks. -/
structure Blocks (t : Fin cfg0.N) (x : Fin 512 → Fin 1024 → EReal) (q e : Fin 512 → Fin 2816 → EReal) (g : Fin 1 → Fin 1024 → EReal)
    (wg wu : Fin 1024 → Fin 2816 → EReal) : Prop where
  b0 : iblk m c 0 t = emat x
  b2 : iblk m c 2 t = emat fun f r => q r f
  b3 : iblk m c 3 t = emat fun f r => e r f
  b4 : iblk m c 4 t = emat g
  b5 : iblk m c 5 t = emat fun f k => wg k f
  b6 : iblk m c 6 t = emat fun f k => wu k f

section outs
variable {m c} {t : Fin cfg0.N} {x : Fin 512 → Fin 1024 → EReal} {q e : Fin 512 → Fin 2816 → EReal} {g : Fin 1 → Fin 1024 → EReal}
  {wg wu : Fin 1024 → Fin 2816 → EReal} (B : Blocks m c t x q e g wg wu)

include B in
theorem dh_blk : (outsAt0 m c t.val t.isLt).1 = plus (iblk m c 1 t) (eIn x (g 0) (eDn q e wg wu)) := by
  funext y
  by_cases hc : t.val % 8 = 0
  · rw [outsAt0_A m c t hc]; frame_out; rw [B.b0, B.b2, B.b3, B.b4, B.b5, B.b6, pay6_eq]
  · rw [outsAt0_B m c t hc]; frame_out; rw [B.b0, B.b2, B.b3, B.b4, B.b5, B.b6, pay6_eq]

include B in
theorem dg_blk_A (hc : t.val % 8 = 0) (y) : (outsAt0 m c t.val t.isLt).2 y = emat (fun (_ : Fin 1) k => eScale x (eDn q e wg wu) k) y := by
  rw [outsAt0_A m c t hc]; frame_out
  rw [B.b0, B.b2, B.b3, B.b5, B.b6, pay4_eq, pay5_eq, pay2_eq]
  rw [show k0_pay1 (F := Ideal) y = 0 by idx_vars y; pointwise [k0_pay1], zero_add]

include B in
theorem dg_blk_B (hc : ¬ t.val % 8 = 0) (y) : (outsAt0 m c t.val t.isLt).2 y
    = (outsAt0 m c (t.val - 1) (Nat.lt_of_le_of_lt (Nat.sub_le _ _) t.isLt)).2 y + emat (fun (_ : Fin 1) k => eScale x (eDn q e wg wu) k) y := by
  rw [outsAt0_B m c t hc]; frame_out
  rw [B.b0, B.b2, B.b3, B.b5, B.b6, pay4_eq, pay5_eq, pay2_eq]
end outs

theorem idx_row : ∀ t : Fin cfg0.N, (win0_0.index t 0 = t.val ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val) ∧ (win0_7.index t 0 = t.val ∧ win0_7.index t 1 = 0))

theorem idx_all : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_8.index t 0 = 0 ∧ win0_8.index t 1 = 0) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_8.index t 0 = 0 ∧ win0_8.index t 1 = 0))

/-- The arguments but the cotangent as matrices. -/
structure Args (x : Fin 4096 → Fin 1024 → EReal) (q e : Fin 4096 → Fin 2816 → EReal) (g : Fin 1 → Fin 1024 → EReal) (wg wu : Fin 1024 → Fin 2816 → EReal) : Prop where
  a0 : m ((c.tc : Thread nD τ).loc main_arg0) = emat x
  a2 : m ((c.tc : Thread nD τ).loc main_arg2) = emat q
  a3 : m ((c.tc : Thread nD τ).loc main_arg3) = emat e
  a4 : m ((c.tc : Thread nD τ).loc main_arg4) = emat g
  a5 : m ((c.tc : Thread nD τ).loc main_arg5) = emat1 wg
  a6 : m ((c.tc : Thread nD τ).loc main_arg6) = emat1 wu

section
variable {m c} {x : Fin 4096 → Fin 1024 → EReal} {q e : Fin 4096 → Fin 2816 → EReal} {g : Fin 1 → Fin 1024 → EReal} {wg wu : Fin 1024 → Fin 2816 → EReal}
  (A : Args m c x q e g wg wu) (t : Fin cfg0.N)

include A in
theorem V_q : V m c main_v1 = emat fun f r => q r f := by
  have h : m (c, Proc.tc.devRef main_arg2) = emat q := A.a2
  entry_read; rw [h]
  funext i; idx_vars i; pointwise; rfl

include A in
theorem V_e : V m c main_v3 = emat fun f r => e r f := by
  have h : m (c, Proc.tc.devRef main_arg3) = emat e := A.a3
  entry_read; rw [h]
  funext i; idx_vars i; pointwise; rfl

include A in
theorem V_wg : V m c main_v6 = emat fun f k => wg k f := by
  have h : m (c, Proc.tc.devRef main_arg5) = emat1 wg := A.a5
  entry_read; rw [h]
  funext i; idx_vars i; pointwise; rfl

include A in
theorem V_wu : V m c main_v9 = emat fun f k => wu k f := by
  have h : m (c, Proc.tc.devRef main_arg6) = emat1 wu := A.a6
  entry_read; rw [h]
  funext i; idx_vars i; pointwise; rfl

include A in
theorem blocks : Blocks m c t (fun r => x (rows t r)) (fun r => q (rows t r)) (fun r => e (rows t r)) g wg wu := by
  obtain ⟨i0, -, i2, i3, -⟩ := idx_row t
  obtain ⟨i4, i5, i6, -⟩ := idx_all t
  have V0 : V m c main_arg0 = emat x := (V_main_arg0 m c).trans A.a0
  have V4 : V m c main_arg4 = emat g := (V_main_arg4 m c).trans A.a4
  constructor
  · funext i; blk_simp [iblk]; rw [V0]; exact emat_at _ _ (rows t (i 0)) (i 1) (by blk_simp [i0]; rfl) (by blk_simp [i0])
  · funext i; blk_simp [iblk]; rw [V_q A]; exact emat_at _ _ (i 0) (rows t (i 1)) (by blk_simp [i2]) (by blk_simp [i2]; rfl)
  · funext i; blk_simp [iblk]; rw [V_e A]; exact emat_at _ _ (i 0) (rows t (i 1)) (by blk_simp [i3]) (by blk_simp [i3]; rfl)
  · funext i; blk_simp [iblk]; rw [V4]; exact emat_at _ _ (i 0) (i 1) (by blk_simp [i4]) (by blk_simp [i4])
  · funext i; blk_simp [iblk]; rw [V_wg A]; exact emat_at _ _ (i 0) (i 1) (by blk_simp [i5]) (by blk_simp [i5])
  · funext i; blk_simp [iblk]; rw [V_wu A]; exact emat_at _ _ (i 0) (i 1) (by blk_simp [i6]) (by blk_simp [i6])

theorem blk1 (i : S512x1024.Idx) : iblk m c 1 t i = m ((c.tc : Thread nD τ).loc main_arg1) (ix2 (rows t (i 0)) (i 1)) := by
  obtain ⟨-, i1, -⟩ := idx_row t
  blk_simp [iblk]
  rw [V_main_arg1]
  exact congrArg _ ((eq_ix2 _).trans (congrArg₂ ix2 (Fin.ext (by blk_simp [i1]; rfl)) (Fin.ext (by blk_simp [i1]))))

include A in
theorem arr7 : (dats m 0 c).arrAt 7 (cfgs 0).N
    = plus (m ((c.tc : Thread nD τ).loc main_arg1)) (eIn x (g 0) (eDn q e wg wu)) := by
  refine (dats m 0 c).arrAt_eq_of_covers 7 _ (by decide +kernel) fun t hf y => ?_
  have ij := (idx_row t).2.2.2.2
  blk_simp
  rw [after0_7, dh_blk (blocks A t)]
  refine Eq.trans ?_ (plus_at (m ((c.tc : Thread nD τ).loc main_arg1)) (eIn x (g 0) (eDn q e wg wu)) ((win0_7.blk t).view.emb y) (rows t (y 0)) (y 1) ?_ ?_).symm
  · exact congrArg (· + _) (blk1 t y)
  · blk_simp [ij]; rfl
  · blk_simp [ij]

include A in
theorem arr8 : (dats m 0 c).arrAt 8 (cfgs 0).N = emat fun (_ : Fin 1) k => eScale x (eDn q e wg wu) k := by
  refine (dats m 0 c).arrAt_eq_of_covers 8 _ (by decide +kernel) fun t hf y => ?_
  have ij := (idx_all t).2.2.2
  have ht : t.val < 8 := lt_of_lt_of_eq t.isLt N_0
  blk_simp
  rw [after0_8, Pipeline.eq_sum_fin_of_reset_step_apply_of_flush (fun n h => (outsAt0 m c n h).2) 8 (fun _ => 0)
    (fun t j => emat (fun (_ : Fin 1) k => eScale (fun r => x (rows t r)) (fun r => eDn q e wg wu (rows t r)) k) j)
    (fun t h j => by rw [dg_blk_A (blocks A t) h, zero_add]; rfl) (fun t h j => by rw [dg_blk_B (blocks A t) h]; rfl) t ((flush0_8 t).mp hf) _, zero_add]
  refine Eq.trans ?_ (emat_at (fun (_ : Fin 1) k => eScale x (eDn q e wg wu) k) ((win0_8.blk t).view.emb y) (y 0) (y 1) ?_ ?_).symm
  · refine Fin.sum_mul_add_congr (fun s k hl => ?_)
    have er : rows ⟨8 * (t.val / 8) + s.val, Pipeline.run_point_lt_of_flush t ((flush0_8 t).mp hf) s⟩ k = ⟨s.val * 512 + k.val, hl⟩ :=
      Fin.ext (by show (8 * (t.val / 8) + s.val) * 512 + k.val = s.val * 512 + k.val; rw [Nat.div_eq_of_lt ht]; omega)
    exact congrArg (fun r : Fin 4096 => eDn q e wg wu r (y 1) * eHat x r (y 1)) er
  · blk_simp [ij]
  · blk_simp [ij]
end

end Cert.Proof.Inp
end
-- ==== Proof.FfnInSame.lean ====
/- The first half-step's backward call for its input: the reference's results, and the claim that they are the kernel's. -/
module

public import proofs.«01_k».proof.Defs
public import proofs.«01_k».proof.Proof.FfnIn
public import proofs.«01_k».proof.Proof.Out
public import proofs.«01_k».proof.Proof.RefExt
public import proofs.«01_k».proof.Proof.Gen.InpIdeal.Value
public import proofs.«01_k».proof.Proof.Gen.InpRefIdeal.Run
public import Idealize.ShloMosaic.Adequacy
public import Idealize.ShloMosaic.Init

@[expose] public section

set_option maxRecDepth 16384

noncomputable section

namespace Cert.Proof.Inp

open Idealize.ShloMosaic Idealize.SL.Sem
open scoped BigOperators

section results
open Cert.InpRefIdeal Cert.InpRefIdeal.Value
variable (m : (ℓ : Loc nD τ sig) → Buf (Elt Ideal) ℓ) (c : Dev nD)

/-- The normed row's gradient, as the reference prints it. -/
def sN : Ref.A Cert.FfnRefIdeal.S4096x1024 :=
  Ref.rDn (m ((c.tc : Thread nD τ).loc main_arg2)) (m ((c.tc : Thread nD τ).loc main_arg3)) (m ((c.tc : Thread nD τ).loc main_arg5)) (m ((c.tc : Thread nD τ).loc main_arg6))

theorem out0 : res_out0 m c = Ref.rDh (m ((c.tc : Thread nD τ).loc main_arg0)) (m ((c.tc : Thread nD τ).loc main_arg1))
    (Ref.rDx (sN m c) (m ((c.tc : Thread nD τ).loc main_arg4))) := rfl
end results

/-- The reference runs to the end, leaves its arguments as they were, and has no semaphore. -/
theorem refFrame : Cert.quiescent_InpRefIdeal := fun m g _ =>
  (θ_run Cert.InpRefIdeal.defs _ _).mono (fun r h => ⟨fun c => (h c).2.2, sem_eq_zero_of_no_sems (by decide) r.2⟩)
    (Cert.InpRefIdeal.Value.run (F := Ideal) m g)

set_option maxHeartbeats 4000000 in
theorem same : Cert.algebraic_InpIdeal_InpRefIdeal := by
  intro m g m' g' hp ha
  refine ⟨fun c => (Cert.InpIdeal.Gen.dats m 0 c).arrAt 7 _, fun c => (Cert.InpIdeal.Gen.dats m 0 c).arrAt 8 _, Cert.InpIdeal.Value.run_blocks m g,
    (θ_run Cert.InpRefIdeal.defs _ _).mono (fun r h c => ?_) (Cert.InpRefIdeal.Value.run (F := Ideal) m' g')⟩
  obtain ⟨e0, e1, e2, e3, e4, e5, e6⟩ := ha c
  obtain ⟨x, a0⟩ := exists_emat (m ((c.tc : Thread Cert.InpIdeal.nD Cert.InpIdeal.τ).loc Cert.InpIdeal.main_arg0))
  obtain ⟨q, a2⟩ := exists_emat (m ((c.tc : Thread Cert.InpIdeal.nD Cert.InpIdeal.τ).loc Cert.InpIdeal.main_arg2))
  obtain ⟨e, a3⟩ := exists_emat (m ((c.tc : Thread Cert.InpIdeal.nD Cert.InpIdeal.τ).loc Cert.InpIdeal.main_arg3))
  obtain ⟨γ, a4⟩ := exists_emat (m ((c.tc : Thread Cert.InpIdeal.nD Cert.InpIdeal.τ).loc Cert.InpIdeal.main_arg4))
  obtain ⟨wg, a5⟩ := exists_emat1 (m ((c.tc : Thread Cert.InpIdeal.nD Cert.InpIdeal.τ).loc Cert.InpIdeal.main_arg5))
  obtain ⟨wu, a6⟩ := exists_emat1 (m ((c.tc : Thread Cert.InpIdeal.nD Cert.InpIdeal.τ).loc Cert.InpIdeal.main_arg6))
  have A : Args m c x q e γ wg wu := ⟨a0, a2, a3, a4, a5, a6⟩
  have n : sN m' c = emat (eDn q e wg wu) := by
    unfold sN; rw [e2, e3, e5, e6, a2, a3, a5, a6]; exact Ref.rDn_at wg wu q e
  obtain ⟨h0, h1, hk⟩ := h c
  refine ⟨h0.trans ?_, h1.trans ?_, hk⟩
  · refine (out0 m' c).trans ?_
    rw [n, e0, e1, e4, a0, a4]
    exact (congrArg _ (Ref.rDx_at _ γ)).trans ((funext fun i => Ref.rDh_at x _ _ (γ 0) i).trans (arr7 A).symm)
  · refine Eq.trans (b := Ref.rDg (m' ((c.tc : Thread Cert.InpRefIdeal.nD Cert.InpRefIdeal.τ).loc Cert.InpRefIdeal.main_arg0)) (sN m' c)) rfl ?_
    rw [n, e0, a0]
    exact (Ref.rDg_at x _).trans (arr8 A).symm

end Cert.Proof.Inp
end
-- ==== Proof.Head.lean ====
/- The second half-step's forward call with the loss: the arrays of one grid point's blocks. The call writes the normed row,
   the two gates and their product, the loss, and the gradients of the loss for the final norm's input and scale. -/
module

public import proofs.«01_k».proof.Proof.Ext
public import proofs.«01_k».proof.Proof.Gen.HeadIdeal.Value
public import proofs.«01_k».proof.Proof.Block

@[expose] public section

set_option maxRecDepth 16384

noncomputable section

namespace Cert.Proof.Head

open Cert.HeadIdeal Cert.HeadIdeal.Gen Idealize.ShloMosaic
open scoped BigOperators

section values
variable {ρ : Type}

/-- The product of the two gates. -/
def act (z u : ρ → Fin 2816 → EReal) (r : ρ) (f : Fin 2816) : EReal := z r f * Ideal.div 1 (1 + Ideal.exp (0 - z r f)) * u r f
/-- The half-step's output: the input plus half of the down product. -/
def mid (x : ρ → Fin 1024 → EReal) (a : ρ → Fin 2816 → EReal) (wd : Fin 2816 → Fin 1024 → EReal) (r : ρ) (k : Fin 1024) : EReal := x r k + ((1 / 2 : ℝ) : EReal) * eLin a wd r k
/-- The final norm less the target. -/
def err (h : ρ → Fin 1024 → EReal) (γ : Fin 1024 → EReal) (y : ρ → Fin 1024 → EReal) (r : ρ) (k : Fin 1024) : EReal := eNrm h γ r k - y r k
/-- The loss's gradient for the final norm's output. -/
def dErr (h : ρ → Fin 1024 → EReal) (γ : Fin 1024 → EReal) (y : ρ → Fin 1024 → EReal) (r : ρ) (k : Fin 1024) : EReal := err h γ y r k * ((1 / 1024 : ℝ) : EReal)
/-- The loss: half of the sum of the rows' mean squares. -/
def loss [Fintype ρ] (h : ρ → Fin 1024 → EReal) (γ : Fin 1024 → EReal) (y : ρ → Fin 1024 → EReal) : EReal :=
  ((1 / 2 : ℝ) : EReal) * ∑ r, avg (∑ k, err h γ y r k * err h γ y r k)
end values

theorem ofBits_inv : Ideal.ofBits .f32 0x3A800000#32 = ((1 / 1024 : ℝ) : EReal) := by
  simp [Ideal.ofBits, Ideal.ieee, -EReal.coe_mul]; norm_num

section payloads
variable (x y h : Fin 512 → Fin 1024 → EReal) (g γ : Fin 1 → Fin 1024 → EReal) (a : Fin 512 → Fin 2816 → EReal) (wd : Fin 2816 → Fin 1024 → EReal)

theorem pay3_eq : k0_pay3 (F := Ideal) (emat x) (emat g) = emat (eNrm x (g 0)) := by
  funext i; idx_vars i
  pointwise [k0_pay3]
  simp only [emat_ix2, ofBits_1024, ofBits_eps]
  rfl

theorem pay64_eq : k0_pay64 (F := Ideal) (emat x) (k0_pay63 (F := Ideal) (emat fun f r => a r f) (emat wd)) = emat (mid x a wd) := by
  funext i; idx_vars i
  pointwise [k0_pay64, k0_pay63]
  simp only [emat_ix2, ofBits_half]; rfl

theorem pay65_eq : k0_pay65 (F := Ideal) (emat γ) = emat γ := by
  funext i; idx_vars i
  pointwise [k0_pay65]

theorem pay68_eq {X H : FVec Ideal S512x1024 .f32} (e : k0_pay64 (F := Ideal) X H = emat h) : k0_pay68 (F := Ideal) X H = emat fun r (_ : Fin 1) => eInv h r := by
  funext i; idx_vars i
  pointwise [k0_pay68]
  rw [e]
  simp only [emat_ix2, ofBits_1024, ofBits_eps]
  rfl

theorem pay69_eq {X H : FVec Ideal S512x1024 .f32} (e : k0_pay64 (F := Ideal) X H = emat h) : k0_pay69 (F := Ideal) X H = emat (eHat h) := by
  funext i; idx_vars i
  pointwise [k0_pay69]
  rw [e, pay68_eq h e]
  simp only [emat_ix2]; rfl

theorem pay70_eq {X H : FVec Ideal S512x1024 .f32} (e : k0_pay64 (F := Ideal) X H = emat h) : k0_pay70 (F := Ideal) X H (emat γ) (emat y) = emat (err h (γ 0) y) := by
  funext i; idx_vars i
  pointwise [k0_pay70]
  rw [pay69_eq h e, pay65_eq]
  simp only [emat_ix2]; rfl

theorem pay71_eq {X H : FVec Ideal S512x1024 .f32} (e : k0_pay64 (F := Ideal) X H = emat h) (L : S1x1.Idx → EReal) (j : S1x1.Idx) :
    k0_pay71 (F := Ideal) X H (emat γ) (emat y) L j = L j + emat (fun (_ _ : Fin 1) => loss h (γ 0) y) j := by
  idx_vars j
  pointwise [k0_pay71]
  rw [pay70_eq y h γ e]
  simp only [emat_ix2, ofBits_1024, ofBits_half]; rfl

theorem pay72_eq {X H : FVec Ideal S512x1024 .f32} (e : k0_pay64 (F := Ideal) X H = emat h) : k0_pay72 (F := Ideal) X H (emat γ) (emat y) = emat (dErr h (γ 0) y) := by
  funext i; idx_vars i
  pointwise [k0_pay72]
  rw [pay70_eq y h γ e]
  simp only [emat_ix2, ofBits_inv]; rfl

theorem pay1_eq (dn : Fin 512 → Fin 1024 → EReal) (A : S1x1024.Idx → EReal) (j : S1x1024.Idx) :
    k0_pay1 (F := Ideal) (emat (eHat h)) (emat dn) (k0_pay73 (F := Ideal) A) j = A j + emat (fun (_ : Fin 1) k => eScale h dn k) j := by
  idx_vars j
  pointwise [k0_pay1, k0_pay73]
  simp only [emat_ix2]; rfl

theorem pay2_eq (dn : Fin 512 → Fin 1024 → EReal) :
    k0_pay2 (F := Ideal) (emat γ) (emat fun r (_ : Fin 1) => eInv h r) (emat (eHat h)) (emat dn) = emat (eIn h (γ 0) dn) := by
  funext i; idx_vars i
  pointwise [k0_pay2]
  simp only [emat_ix2, ofBits_1024]
  rfl
end payloads

section tiles
variable (X : FVec Ideal S512x1024 .f32) (G : FVec Ideal S1x1024 .f32) (W U : FVec Ideal S256x1024 .bf16)

theorem pay6_as : k0_pay6 (F := Ideal) X G W = k0_pay12 (F := Ideal) (k0_pay3 X G) W := rfl
theorem pay7_as : k0_pay7 (F := Ideal) X G W = k0_pay13 (F := Ideal) (k0_pay3 X G) W := rfl
theorem pay9_as : k0_pay9 (F := Ideal) (k0_pay5 X G W) (k0_pay8 X G U) = k0_pay14 (F := Ideal) (k0_pay3 X G) U W := rfl
end tiles

section cells
variable (n : Fin 512 → Fin 1024 → EReal) (wg wu : Fin 1024 → Fin 2816 → EReal)

theorem lin_cell (y : (⟨2, ![512, 2816]⟩ : Shape).Idx) (r : Fin 512) (f : Fin 2816) (hr : (y 0 : ℕ) = r) (hf : (y 1 : ℕ) = f) :
    ∑ k, emat n (ix2 r k) * emat (fun f k => wg k f) (ix2 f k) = emat (eLin n wg) y := by
  obtain rfl : y = ix2 r f := (eq_ix2 y).trans (by rw [show y 0 = r from Fin.ext hr, show y 1 = f from Fin.ext hf])
  simp only [emat_ix2]; rfl

theorem act_cell (y : (⟨2, ![2816, 512]⟩ : Shape).Idx) (f : Fin 2816) (r : Fin 512) (hf : (y 0 : ℕ) = f) (hr : (y 1 : ℕ) = r) :
    (∑ k, emat n (ix2 r k) * emat (fun f k => wg k f) (ix2 f k)) * Ideal.div 1 (1 + Ideal.exp (0 - ∑ k, emat n (ix2 r k) * emat (fun f k => wg k f) (ix2 f k)))
      * (∑ k, emat n (ix2 r k) * emat (fun f k => wu k f) (ix2 f k)) = emat (fun f r => act (eLin n wg) (eLin n wu) r f) y := by
  obtain rfl : y = ix2 f r := (eq_ix2 y).trans (by rw [show y 0 = f from Fin.ext hf, show y 1 = r from Fin.ext hr])
  simp only [emat_ix2]; rfl
end cells

theorem readCov_whole {κ} {sp} (v : View sig κ sp S2816x512 .bf16) (L : List (View.Piece (Elt Ideal) S2816x512 .bf16)) (inb) :
    v.readCov L (Rect.unit (s := S2816x512) ![0, 0] ![2816, 512] inb).toLoadRect = View.canon L := by
  rw [View.readCov_eq_canon']
  funext j
  exact congrArg (View.canon L) (funext fun a => Fin.ext (by rw [Rect.idx_unit_val]; fin_cases a <;> exact Nat.zero_add _))

variable (m : (ℓ : Loc nD τ sig) → Buf (Elt Ideal) ℓ) (c : Dev nD)

/-- The arrays whose rows grid point `t` has in its blocks. -/
structure Blocks (t : Fin cfg0.N) (x y : Fin 512 → Fin 1024 → EReal) (g γ : Fin 1 → Fin 1024 → EReal)
    (wg wu : Fin 1024 → Fin 2816 → EReal) (wd : Fin 2816 → Fin 1024 → EReal) : Prop where
  b0 : iblk m c 0 t = emat x
  b1 : iblk m c 1 t = emat g
  b2 : iblk m c 2 t = emat fun f k => wg k f
  b3 : iblk m c 3 t = emat fun f k => wu k f
  b4 : iblk m c 4 t = emat wd
  b5 : iblk m c 5 t = emat γ
  b6 : iblk m c 6 t = emat y

section outs
variable {m c} {t : Fin cfg0.N} {x y : Fin 512 → Fin 1024 → EReal} {g γ : Fin 1 → Fin 1024 → EReal}
  {wg wu : Fin 1024 → Fin 2816 → EReal} {wd : Fin 2816 → Fin 1024 → EReal} (B : Blocks m c t x y g γ wg wu wd)
include B

theorem nrm_blk : (outsAt0 m c t.val t.isLt).2.1 = emat (eNrm x (g 0)) := by
  funext j
  by_cases hc : t.val % 8 = 0
  · rw [outsAt0_A m c t hc]; frame_out; rw [B.b0, B.b1, pay3_eq]
  · rw [outsAt0_B m c t hc]; frame_out; rw [B.b0, B.b1, pay3_eq]

theorem gate_blk : (outsAt0 m c t.val t.isLt).2.2.1 = emat (eLin (eNrm x (g 0)) wg) := by
  funext j
  by_cases hc : t.val % 8 = 0
  · rw [outsAt0_A m c t hc]; frame_out; rw [B.b0, B.b1, B.b2, pay6_as, pay3_eq]; clear hc B
    canon_tiles j h
    all_goals (unfold_payloads; pointwise; exact lin_cell _ _ _ _ _ h0 h1)
  · rw [outsAt0_B m c t hc]; frame_out; rw [B.b0, B.b1, B.b2, pay6_as, pay3_eq]; clear hc B
    canon_tiles j h
    all_goals (unfold_payloads; pointwise; exact lin_cell _ _ _ _ _ h0 h1)

theorem up_blk : (outsAt0 m c t.val t.isLt).2.2.2.1 = emat (eLin (eNrm x (g 0)) wu) := by
  funext j
  by_cases hc : t.val % 8 = 0
  · rw [outsAt0_A m c t hc]; frame_out; rw [B.b0, B.b1, B.b3, pay7_as, pay3_eq]; clear hc B
    canon_tiles j h
    all_goals (unfold_payloads; pointwise; exact lin_cell _ _ _ _ _ h0 h1)
  · rw [outsAt0_B m c t hc]; frame_out; rw [B.b0, B.b1, B.b3, pay7_as, pay3_eq]; clear hc B
    canon_tiles j h
    all_goals (unfold_payloads; pointwise; exact lin_cell _ _ _ _ _ h0 h1)

theorem act_blk : (outsAt0 m c t.val t.isLt).2.2.2.2.1 = emat fun f r => act (eLin (eNrm x (g 0)) wg) (eLin (eNrm x (g 0)) wu) r f := by
  funext j
  by_cases hc : t.val % 8 = 0
  · rw [outsAt0_A m c t hc]; frame_out; rw [B.b0, B.b1, B.b2, B.b3, pay9_as, pay3_eq]; clear hc B
    canon_tiles j h
    all_goals (unfold_payloads; pointwise; exact act_cell _ _ _ _ _ _ h0 h1)
  · rw [outsAt0_B m c t hc]; frame_out; rw [B.b0, B.b1, B.b2, B.b3, pay9_as, pay3_eq]; clear hc B
    canon_tiles j h
    all_goals (unfold_payloads; pointwise; exact act_cell _ _ _ _ _ _ h0 h1)
end outs

/-- The half-step's output from the rows of its input. -/
def out {ρ : Type} (x : ρ → Fin 1024 → EReal) (g : Fin 1 → Fin 1024 → EReal) (wg wu : Fin 1024 → Fin 2816 → EReal) (wd : Fin 2816 → Fin 1024 → EReal) :=
  mid x (act (eLin (eNrm x (g 0)) wg) (eLin (eNrm x (g 0)) wu)) wd

section grads
variable {m c} {t : Fin cfg0.N} {x y : Fin 512 → Fin 1024 → EReal} {g γ : Fin 1 → Fin 1024 → EReal}
  {wg wu : Fin 1024 → Fin 2816 → EReal} {wd : Fin 2816 → Fin 1024 → EReal} (B : Blocks m c t x y g γ wg wu wd)
include B

theorem dh_blk : (outsAt0 m c t.val t.isLt).1 = emat (eIn (out x g wg wu wd) (γ 0) (dErr (out x g wg wu wd) (γ 0) y)) := by
  have ha := act_blk B
  funext j
  by_cases hc : t.val % 8 = 0
  · rw [outsAt0_A m c t hc] at ha ⊢
    frame_out
    simp only [readCov_whole]
    frame_out at ha
    generalize hQ : View.canon (Val := Elt Ideal) _ = Q
    rw [hQ] at ha
    subst ha
    have e : k0_pay64 (F := Ideal) _ _ = emat (out x g wg wu wd) := pay64_eq x (act (eLin (eNrm x (g 0)) wg) (eLin (eNrm x (g 0)) wu)) wd
    rw [B.b0, B.b4, B.b5, B.b6, pay65_eq, pay68_eq _ e, pay69_eq _ e, pay72_eq _ _ _ e, pay2_eq]
  · rw [outsAt0_B m c t hc] at ha ⊢
    frame_out
    simp only [readCov_whole]
    frame_out at ha
    generalize hQ : View.canon (Val := Elt Ideal) _ = Q
    rw [hQ] at ha
    subst ha
    have e : k0_pay64 (F := Ideal) _ _ = emat (out x g wg wu wd) := pay64_eq x (act (eLin (eNrm x (g 0)) wg) (eLin (eNrm x (g 0)) wu)) wd
    rw [B.b0, B.b4, B.b5, B.b6, pay65_eq, pay68_eq _ e, pay69_eq _ e, pay72_eq _ _ _ e, pay2_eq]

theorem loss_blk_A (hc : t.val % 8 = 0) (j) : (outsAt0 m c t.val t.isLt).2.2.2.2.2.1 j = emat (fun (_ _ : Fin 1) => loss (out x g wg wu wd) (γ 0) y) j := by
  have ha := act_blk B
  rw [outsAt0_A m c t hc] at ha ⊢
  frame_out
  simp only [readCov_whole]
  frame_out at ha
  generalize hQ : View.canon (Val := Elt Ideal) _ = Q
  rw [hQ] at ha
  subst ha
  have e : k0_pay64 (F := Ideal) _ _ = emat (out x g wg wu wd) := pay64_eq x (act (eLin (eNrm x (g 0)) wg) (eLin (eNrm x (g 0)) wu)) wd
  rw [B.b0, B.b4, B.b5, B.b6, pay71_eq _ _ _ e]
  rw [show k0_pay66 (F := Ideal) j = 0 by idx_vars j; pointwise [k0_pay66], zero_add]

theorem loss_blk_B (hc : ¬ t.val % 8 = 0) (j) : (outsAt0 m c t.val t.isLt).2.2.2.2.2.1 j = (outsAt0 m c (t.val - 1) (Nat.lt_of_le_of_lt (Nat.sub_le _ _) t.isLt)).2.2.2.2.2.1 j + emat (fun (_ _ : Fin 1) => loss (out x g wg wu wd) (γ 0) y) j := by
  have ha := act_blk B
  rw [outsAt0_B m c t hc] at ha
  rw [outsAt0_B m c t hc]
  frame_out
  simp only [readCov_whole]
  frame_out at ha
  generalize hQ : View.canon (Val := Elt Ideal) _ = Q
  rw [hQ] at ha
  subst ha
  have e : k0_pay64 (F := Ideal) _ _ = emat (out x g wg wu wd) := pay64_eq x (act (eLin (eNrm x (g 0)) wg) (eLin (eNrm x (g 0)) wu)) wd
  rw [B.b0, B.b4, B.b5, B.b6, pay71_eq _ _ _ e]

theorem dg_blk_A (hc : t.val % 8 = 0) (j) : (outsAt0 m c t.val t.isLt).2.2.2.2.2.2 j = emat (fun (_ : Fin 1) k => eScale (out x g wg wu wd) (dErr (out x g wg wu wd) (γ 0) y) k) j := by
  have ha := act_blk B
  rw [outsAt0_A m c t hc] at ha ⊢
  frame_out
  simp only [readCov_whole]
  frame_out at ha
  generalize hQ : View.canon (Val := Elt Ideal) _ = Q
  rw [hQ] at ha
  subst ha
  have e : k0_pay64 (F := Ideal) _ _ = emat (out x g wg wu wd) := pay64_eq x (act (eLin (eNrm x (g 0)) wg) (eLin (eNrm x (g 0)) wu)) wd
  rw [B.b0, B.b4, B.b5, B.b6, pay69_eq _ e, pay72_eq _ _ _ e, pay1_eq]
  rw [show k0_pay67 (F := Ideal) j = 0 by idx_vars j; pointwise [k0_pay67], zero_add]

theorem dg_blk_B (hc : ¬ t.val % 8 = 0) (j) : (outsAt0 m c t.val t.isLt).2.2.2.2.2.2 j = (outsAt0 m c (t.val - 1) (Nat.lt_of_le_of_lt (Nat.sub_le _ _) t.isLt)).2.2.2.2.2.2 j + emat (fun (_ : Fin 1) k => eScale (out x g wg wu wd) (dErr (out x g wg wu wd) (γ 0) y) k) j := by
  have ha := act_blk B
  rw [outsAt0_B m c t hc] at ha
  rw [outsAt0_B m c t hc]
  frame_out
  simp only [readCov_whole]
  frame_out at ha
  generalize hQ : View.canon (Val := Elt Ideal) _ = Q
  rw [hQ] at ha
  subst ha
  have e : k0_pay64 (F := Ideal) _ _ = emat (out x g wg wu wd) := pay64_eq x (act (eLin (eNrm x (g 0)) wg) (eLin (eNrm x (g 0)) wu)) wd
  rw [B.b0, B.b4, B.b5, B.b6, pay69_eq _ e, pay72_eq _ _ _ e, pay1_eq]
end grads

end Cert.Proof.Head
end
-- ==== Proof.HeadArr.lean ====
/- The second half-step's forward call with the loss: its seven arrays. -/
module

public import proofs.«01_k».proof.Proof.Final
public import proofs.«01_k».proof.Proof.Head

@[expose] public section

set_option maxRecDepth 16384

noncomputable section

namespace Cert.Proof.Head

open Cert.HeadIdeal Cert.HeadIdeal.Gen Idealize.ShloMosaic
open scoped BigOperators

variable (m : (ℓ : Loc nD τ sig) → Buf (Elt Ideal) ℓ) (c : Dev nD)

/-- The array rows of grid point `t`. -/
def rows (t : Fin cfg0.N) (r : Fin 512) : Fin 4096 := ⟨t.val * 512 + r.val, by have := lt_of_lt_of_eq t.isLt N_0; omega⟩

theorem idx_in : ∀ t : Fin cfg0.N, (win0_0.index t 0 = t.val ∧ win0_0.index t 1 = 0) ∧ (win0_6.index t 0 = t.val ∧ win0_6.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, (win0_0.index t 0 = t.val ∧ win0_0.index t 1 = 0) ∧ (win0_6.index t 0 = t.val ∧ win0_6.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0))

theorem idx_out : ∀ t : Fin cfg0.N, (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = 0 ∧ win0_11.index t 1 = t.val) ∧ (win0_12.index t 0 = 0 ∧ win0_12.index t 1 = 0) ∧ (win0_13.index t 0 = 0 ∧ win0_13.index t 1 = 0) :=
  (by decide +kernel : ∀ t : Fin grid0.N, (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = 0 ∧ win0_11.index t 1 = t.val) ∧ (win0_12.index t 0 = 0 ∧ win0_12.index t 1 = 0) ∧ (win0_13.index t 0 = 0 ∧ win0_13.index t 1 = 0))

/-- The arguments as matrices and rows. -/
structure Args (x : Fin 4096 → Fin 1024 → EReal) (g : Fin 1 → Fin 1024 → EReal) (wg wu : Fin 1024 → Fin 2816 → EReal) (wd : Fin 2816 → Fin 1024 → EReal)
    (γ : Fin 1024 → EReal) (y : Fin 4096 → Fin 1024 → EReal) : Prop where
  a0 : m ((c.tc : Thread nD τ).loc main_arg0) = emat x
  a1 : m ((c.tc : Thread nD τ).loc main_arg1) = emat g
  a2 : m ((c.tc : Thread nD τ).loc main_arg2) = emat1 wg
  a3 : m ((c.tc : Thread nD τ).loc main_arg3) = emat1 wu
  a4 : m ((c.tc : Thread nD τ).loc main_arg4) = emat1 wd
  a5 : m ((c.tc : Thread nD τ).loc main_arg5) = evec γ
  a6 : m ((c.tc : Thread nD τ).loc main_arg6) = emat1 y

section
variable {m c} {x : Fin 4096 → Fin 1024 → EReal} {g : Fin 1 → Fin 1024 → EReal} {wg wu : Fin 1024 → Fin 2816 → EReal} {wd : Fin 2816 → Fin 1024 → EReal}
  {γ : Fin 1024 → EReal} {y : Fin 4096 → Fin 1024 → EReal} (A : Args m c x g wg wu wd γ y) (t : Fin cfg0.N)
include A

theorem V_wg : V m c main_v2 = emat fun f k => wg k f := by
  have h : m (c, Proc.tc.devRef main_arg2) = emat1 wg := A.a2
  entry_read; rw [h]
  funext i; idx_vars i; pointwise; rfl

theorem V_wu : V m c main_v5 = emat fun f k => wu k f := by
  have h : m (c, Proc.tc.devRef main_arg3) = emat1 wu := A.a3
  entry_read; rw [h]
  funext i; idx_vars i; pointwise; rfl

theorem V_wd : V m c main_v7 = emat wd := by
  have h : m (c, Proc.tc.devRef main_arg4) = emat1 wd := A.a4
  entry_read; rw [h]
  funext i; idx_vars i; pointwise; rfl

theorem V_gf : V m c main_v8 = emat fun (_ : Fin 1) k => γ k := by
  have h : m (c, Proc.tc.devRef main_arg5) = evec γ := A.a5
  entry_read; rw [h]
  funext i; idx_vars i; pointwise; rfl

theorem V_y : V m c main_v9 = emat y := by
  have h : m (c, Proc.tc.devRef main_arg6) = emat1 y := A.a6
  entry_read; rw [h]
  funext i; idx_vars i; pointwise; rfl

theorem blocks : Blocks m c t (fun r => x (rows t r)) (fun r => y (rows t r)) g (fun _ => γ) wg wu wd := by
  obtain ⟨i0, i6, i1, i2, i3, i4, i5⟩ := idx_in t
  have V0 : V m c main_arg0 = emat x := (V_main_arg0 m c).trans A.a0
  have V1 : V m c main_arg1 = emat g := (V_main_arg1 m c).trans A.a1
  constructor
  · funext i; blk_simp [iblk]; rw [V0]; exact emat_at _ _ (rows t (i 0)) (i 1) (by blk_simp [i0]; rfl) (by blk_simp [i0])
  · funext i; blk_simp [iblk]; rw [V1]; exact emat_at _ _ (i 0) (i 1) (by blk_simp [i1]) (by blk_simp [i1])
  · funext i; blk_simp [iblk]; rw [V_wg A]; exact emat_at _ _ (i 0) (i 1) (by blk_simp [i2]) (by blk_simp [i2])
  · funext i; blk_simp [iblk]; rw [V_wu A]; exact emat_at _ _ (i 0) (i 1) (by blk_simp [i3]) (by blk_simp [i3])
  · funext i; blk_simp [iblk]; rw [V_wd A]; exact emat_at _ _ (i 0) (i 1) (by blk_simp [i4]) (by blk_simp [i4])
  · funext i; blk_simp [iblk]; rw [V_gf A]; exact emat_at _ _ (i 0) (i 1) (by blk_simp [i5]) (by blk_simp [i5])
  · funext i; blk_simp [iblk]; rw [V_y A]; exact emat_at _ _ (rows t (i 0)) (i 1) (by blk_simp [i6]; rfl) (by blk_simp [i6])

theorem arr7 : (dats m 0 c).arrAt 7 (cfgs 0).N = emat (eIn (out x g wg wu wd) γ (dErr (out x g wg wu wd) γ y)) := by
  refine (dats m 0 c).arrAt_eq_of_covers 7 _ (by decide +kernel) fun t hf j => ?_
  have ij := (idx_out t).1
  blk_simp
  rw [after0_7, dh_blk (blocks A t)]
  refine Eq.trans ?_ (emat_at (eIn (out x g wg wu wd) γ (dErr (out x g wg wu wd) γ y)) ((win0_7.blk t).view.emb j) (rows t (j 0)) (j 1) ?_ ?_).symm
  · rfl
  · blk_simp [ij]; rfl
  · blk_simp [ij]

theorem arr8 : (dats m 0 c).arrAt 8 (cfgs 0).N = emat (eNrm x (g 0)) := by
  refine (dats m 0 c).arrAt_eq_of_covers 8 _ (by decide +kernel) fun t hf j => ?_
  have ij := (idx_out t).2.1
  blk_simp
  rw [after0_8, nrm_blk (blocks A t)]
  refine Eq.trans ?_ (emat_at (eNrm x (g 0)) ((win0_8.blk t).view.emb j) (rows t (j 0)) (j 1) ?_ ?_).symm
  · rfl
  · blk_simp [ij]; rfl
  · blk_simp [ij]

theorem arr9 : (dats m 0 c).arrAt 9 (cfgs 0).N = emat (eLin (eNrm x (g 0)) wg) := by
  refine (dats m 0 c).arrAt_eq_of_covers 9 _ (by decide +kernel) fun t hf j => ?_
  have ij := (idx_out t).2.2.1
  blk_simp
  rw [after0_9, gate_blk (blocks A t)]
  refine Eq.trans ?_ (emat_at (eLin (eNrm x (g 0)) wg) ((win0_9.blk t).view.emb j) (rows t (j 0)) (j 1) ?_ ?_).symm
  · rfl
  · blk_simp [ij]; rfl
  · blk_simp [ij]

theorem arr10 : (dats m 0 c).arrAt 10 (cfgs 0).N = emat (eLin (eNrm x (g 0)) wu) := by
  refine (dats m 0 c).arrAt_eq_of_covers 10 _ (by decide +kernel) fun t hf j => ?_
  have ij := (idx_out t).2.2.2.1
  blk_simp
  rw [after0_10, up_blk (blocks A t)]
  refine Eq.trans ?_ (emat_at (eLin (eNrm x (g 0)) wu) ((win0_10.blk t).view.emb j) (rows t (j 0)) (j 1) ?_ ?_).symm
  · rfl
  · blk_simp [ij]; rfl
  · blk_simp [ij]

theorem arr11 : (dats m 0 c).arrAt 11 (cfgs 0).N = emat (fun f r => act (eLin (eNrm x (g 0)) wg) (eLin (eNrm x (g 0)) wu) r f) := by
  refine (dats m 0 c).arrAt_eq_of_covers 11 _ (by decide +kernel) fun t hf j => ?_
  have ij := (idx_out t).2.2.2.2.1
  blk_simp
  rw [after0_11, act_blk (blocks A t)]
  refine Eq.trans ?_ (emat_at (fun f r => act (eLin (eNrm x (g 0)) wg) (eLin (eNrm x (g 0)) wu) r f) ((win0_11.blk t).view.emb j) (j 0) (rows t (j 1)) ?_ ?_).symm
  · rfl
  · blk_simp [ij]
  · blk_simp [ij]; rfl

theorem arr12 : (dats m 0 c).arrAt 12 (cfgs 0).N = emat (fun (_ _ : Fin 1) => loss (out x g wg wu wd) γ y) := by
  refine (dats m 0 c).arrAt_eq_of_covers 12 _ (by decide +kernel) fun t hf j => ?_
  have ij := (idx_out t).2.2.2.2.2.1
  have ht : t.val < 8 := lt_of_lt_of_eq t.isLt N_0
  blk_simp
  rw [after0_12, Pipeline.eq_sum_fin_of_reset_step_apply_of_flush (fun n h => (outsAt0 m c n h).2.2.2.2.2.1) 8 (fun _ => 0)
    (fun t j => emat (fun (_ _ : Fin 1) => loss (out (fun r => x (rows t r)) g wg wu wd) γ (fun r => y (rows t r))) j)
    (fun t h j => by rw [loss_blk_A (blocks A t) h, zero_add]) (fun t h j => by rw [loss_blk_B (blocks A t) h]) t ((flush0_12 t).mp hf) _, zero_add]
  refine Eq.trans ?_ (emat_at (fun (_ _ : Fin 1) => loss (out x g wg wu wd) γ y) ((win0_12.blk t).view.emb j) (j 0) (j 1) ?_ ?_).symm
  · refine (mul_sum_of_nonneg _ (1 / 2) (by norm_num) _).symm.trans (congrArg _ ?_)
    refine Fin.sum_mul_add_congr (fun s k hl => ?_)
    have er : rows ⟨8 * (t.val / 8) + s.val, Pipeline.run_point_lt_of_flush t ((flush0_12 t).mp hf) s⟩ k = ⟨s.val * 512 + k.val, hl⟩ :=
      Fin.ext (by show (8 * (t.val / 8) + s.val) * 512 + k.val = s.val * 512 + k.val; rw [Nat.div_eq_of_lt ht]; omega)
    exact congrArg (fun r : Fin 4096 => avg (∑ k, err (out x g wg wu wd) γ y r k * err (out x g wg wu wd) γ y r k)) er
  · blk_simp [ij]
  · blk_simp [ij]

theorem arr13 : (dats m 0 c).arrAt 13 (cfgs 0).N = emat (fun (_ : Fin 1) k => eScale (out x g wg wu wd) (dErr (out x g wg wu wd) γ y) k) := by
  refine (dats m 0 c).arrAt_eq_of_covers 13 _ (by decide +kernel) fun t hf j => ?_
  have ij := (idx_out t).2.2.2.2.2.2
  have ht : t.val < 8 := lt_of_lt_of_eq t.isLt N_0
  blk_simp
  rw [after0_13, Pipeline.eq_sum_fin_of_reset_step_apply_of_flush (fun n h => (outsAt0 m c n h).2.2.2.2.2.2) 8 (fun _ => 0)
    (fun t j => emat (fun (_ : Fin 1) k => eScale (out (fun r => x (rows t r)) g wg wu wd) (dErr (out (fun r => x (rows t r)) g wg wu wd) γ (fun r => y (rows t r))) k) j)
    (fun t h j => by rw [dg_blk_A (blocks A t) h, zero_add]) (fun t h j => by rw [dg_blk_B (blocks A t) h]) t ((flush0_13 t).mp hf) _, zero_add]
  refine Eq.trans ?_ (emat_at (fun (_ : Fin 1) k => eScale (out x g wg wu wd) (dErr (out x g wg wu wd) γ y) k) ((win0_13.blk t).view.emb j) (j 0) (j 1) ?_ ?_).symm
  · refine Fin.sum_mul_add_congr (fun s k hl => ?_)
    have er : rows ⟨8 * (t.val / 8) + s.val, Pipeline.run_point_lt_of_flush t ((flush0_13 t).mp hf) s⟩ k = ⟨s.val * 512 + k.val, hl⟩ :=
      Fin.ext (by show (8 * (t.val / 8) + s.val) * 512 + k.val = s.val * 512 + k.val; rw [Nat.div_eq_of_lt ht]; omega)
    exact congrArg (fun r : Fin 4096 => dErr (out x g wg wu wd) γ y r (j 1) * eHat (out x g wg wu wd) r (j 1)) er
  · blk_simp [ij]
  · blk_simp [ij]

end

end Cert.Proof.Head
end
-- ==== Proof.HeadSame.lean ====
/- The second half-step's forward call with the loss: the reference's seven results, and the claim that they are the kernel's. -/
module

public import proofs.«01_k».proof.Defs
public import proofs.«01_k».proof.Proof.HeadArr
public import proofs.«01_k».proof.Proof.RefExt
public import proofs.«01_k».proof.Proof.Out
public import proofs.«01_k».proof.Proof.Gen.HeadIdeal.Value
public import proofs.«01_k».proof.Proof.Gen.HeadRefIdeal.Run
public import Idealize.ShloMosaic.Adequacy
public import Idealize.ShloMosaic.Init

@[expose] public section

set_option maxRecDepth 16384

noncomputable section

namespace Cert.Proof.Head

open Idealize.ShloMosaic Idealize.SL.Sem
open scoped BigOperators

section reference
open Cert.HeadRefIdeal Cert.HeadRefIdeal.Gen Cert.HeadRefIdeal.Value

section stages
abbrev A (s : Shape) := FVec Ideal s .f32

def hLin (N : A S4096x1024) (W : A S1x1024x2816) : A S4096x2816 :=
  Host.dotGeneral dot_S4096x1024_S1024x2816_S4096x2816_1_0_0_1_n_n none N (shapeCast S1024x2816 W shapeCasts_S1x1024x2816_S1024x2816)
def hMid (H : A S4096x1024) (P : A S4096x2816) (W : A S1x2816x1024) : A S4096x1024 :=
  addf H (mulf (broadcastInDim S4096x1024 ![] bcast_S_S4096x1024 (constant S_ .f32 0x3F000000#32))
    (Host.dotGeneral dot_S4096x2816_S2816x1024_S4096x1024_1_0_0_1_n_n none P (shapeCast S2816x1024 W shapeCasts_S1x2816x1024_S2816x1024)))
def hScale (G : A S1024) : A S4096x1024 :=
  broadcastInDim S4096x1024 ![0, 1] bcast_S1x1024_S4096x1024_0_1 (broadcastInDim S1x1024 ![1] bcast_S1024_S1x1024_1 G)
def hErr (H : A S4096x1024) (G : A S1024) (T : A S1x4096x1024) : A S4096x1024 :=
  subf (mulf (Ref.rHat H) (hScale G)) (shapeCast S4096x1024 T shapeCasts_S1x4096x1024_S4096x1024)
def hLoss (E : A S4096x1024) : A S1x1 :=
  shapeCast S1x1 (mulf (constant S_ .f32 0x3F000000#32) (Host.reduceAdd (Host.divf (Host.reduceAdd (mulf E E) (constant S_ .f32 0x00000000#32)
    reducesTo_S4096x1024_S4096_d1 h_S_) (broadcastInDim S4096 ![] bcast_S_S4096 (constant S_ .f32 0x44800000#32))) (constant S_ .f32 0x00000000#32)
    reducesTo_S4096_S_d0 h_S_)) shapeCasts_S_S1x1
def hDe (E : A S4096x1024) : A S4096x1024 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) E)
def hDg (H D : A S4096x1024) : A S1x1024 :=
  shapeCast S1x1024 (Host.reduceAdd (shapeCast S1x1024 (Host.reduceAdd (mulf (Ref.rHat H) D) (constant S_ .f32 0x00000000#32)
    reducesTo_S4096x1024_S1024_d0 h_S_) shapeCasts_S1024_S1x1024) (constant S_ .f32 0x00000000#32) reducesTo_S1x1024_S1024_d0 h_S_) shapeCasts_S1024_S1x1024
def hDh (H X : A S4096x1024) : A S4096x1024 :=
  addf (addf (mulf X (broadcastInDim S4096x1024 ![0, 1] bcast_S4096x1_S4096x1024_0_1 (Ref.rInv H))) (mulf H (Ref.rBack H X))) (mulf (Ref.rBack H X) H)

variable (x y h d : Fin 4096 → Fin 1024 → EReal) (w : Fin 1024 → Fin 2816 → EReal) (wd : Fin 2816 → Fin 1024 → EReal) (z u : Fin 4096 → Fin 2816 → EReal) (γ : Fin 1024 → EReal)

theorem hLin_eq : hLin (emat x) (emat1 w) = emat (eLin x w) := by
  funext i; idx_vars i
  pointwise [hLin]
  simp only [emat_ix2, emat1_ix3]; rfl

theorem hMid_eq : hMid (emat x) (emat z) (emat1 wd) = emat (mid x z wd) := by
  funext i; idx_vars i
  pointwise [hMid]
  simp only [emat_ix2, emat1_ix3, ofBits_half]; rfl

theorem hErr_eq : hErr (emat h) (evec γ) (emat1 y) = emat (err h γ y) := by
  funext i; idx_vars i
  pointwise [hErr, hScale]
  rw [Ref.rHat_at]
  simp only [emat_ix2, emat1_ix3, evec_ix1]; rfl

theorem hLoss_eq : hLoss (emat (err h γ y)) = emat fun (_ _ : Fin 1) => loss h γ y := by
  funext i; idx_vars i
  pointwise [hLoss]
  simp only [emat_ix2, ofBits_1024, ofBits_half]; rfl

theorem ofBits_two : Ideal.ofBits .f32 0x40000000#32 = ((2 : ℝ) : EReal) := by
  simp [Ideal.ofBits, Ideal.ieee, -EReal.coe_mul]; norm_num

theorem hDe_eq : hDe (emat (err h γ y)) = emat (dErr h γ y) := by
  funext i; idx_vars i
  pointwise [hDe]
  simp only [emat_ix2, ofBits_1024, ofBits_half, ofBits_two]
  rw [div_coe' _ (1024 : ℝ) (by norm_num), ← mul_assoc, ← EReal.coe_mul, mul_comm]
  unfold dErr; norm_num

theorem hDg_eq : hDg (emat h) (emat d) = emat fun (_ : Fin 1) k => eScale h d k := by
  funext i; idx_vars i
  pointwise [hDg]
  rw [Ref.rHat_at]
  simp only [emat_ix2, Finset.univ_unique, Finset.sum_singleton]
  unfold eScale; exact Finset.sum_congr rfl fun r _ => mul_comm _ _

theorem hDx_eq : mulf (emat d : A S4096x1024) (hScale (evec γ)) = emat fun r k => d r k * γ k := by
  funext i; idx_vars i
  pointwise [hScale]
  simp only [emat_ix2, evec_ix1]

theorem hDh_eq : hDh (emat h) (emat fun r k => d r k * γ k) = emat (eIn h γ d) := by
  funext i; idx_vars i
  pointwise [hDh]
  rw [Ref.rInv_at, Ref.rBack_at]
  exact eIn_eq h γ d i0 i1
end stages

variable (m : (ℓ : Loc nD τ sig) → Buf (Elt Ideal) ℓ) (c : Dev nD)

abbrev arg0 : A S4096x1024 := m ((c.tc : Thread nD τ).loc main_arg0)
abbrev arg1 : A S1x1024 := m ((c.tc : Thread nD τ).loc main_arg1)
abbrev arg2 : A S1x1024x2816 := m ((c.tc : Thread nD τ).loc main_arg2)
abbrev arg3 : A S1x1024x2816 := m ((c.tc : Thread nD τ).loc main_arg3)
abbrev arg4 : A S1x2816x1024 := m ((c.tc : Thread nD τ).loc main_arg4)
abbrev arg5 : A S1024 := m ((c.tc : Thread nD τ).loc main_arg5)
abbrev arg6 : A S1x4096x1024 := m ((c.tc : Thread nD τ).loc main_arg6)

def sN : A S4096x1024 := Ref.rNrm (arg0 m c) (arg1 m c)
def sZ : A S4096x2816 := hLin (sN m c) (arg2 m c)
def sU : A S4096x2816 := hLin (sN m c) (arg3 m c)
def sP : A S4096x2816 := Ref.rUp (sZ m c) (sU m c)
def sH : A S4096x1024 := hMid (arg0 m c) (sP m c) (arg4 m c)
def sE : A S4096x1024 := hErr (sH m c) (arg5 m c) (arg6 m c)
def sD : A S4096x1024 := hDe (sE m c)

theorem out0 : res_out0 m c = hDh (sH m c) (mulf (sD m c) (hScale (arg5 m c))) := rfl
theorem out5 : res_out5 m c = hLoss (sE m c) := rfl
theorem out6 : res_out6 m c = hDg (sH m c) (sD m c) := rfl

section values
variable {m c} {x : Fin 4096 → Fin 1024 → EReal} {g : Fin 1 → Fin 1024 → EReal} {wg wu : Fin 1024 → Fin 2816 → EReal} {wd : Fin 2816 → Fin 1024 → EReal}
  {γ : Fin 1024 → EReal} {y : Fin 4096 → Fin 1024 → EReal}
  (h0 : arg0 m c = emat x) (h1 : arg1 m c = emat g) (h2 : arg2 m c = emat1 wg) (h3 : arg3 m c = emat1 wu) (h4 : arg4 m c = emat1 wd) (h5 : arg5 m c = evec γ) (h6 : arg6 m c = emat1 y)

include h0 h1 in
theorem sN_eq : sN m c = emat (eNrm x (g 0)) := by
  unfold sN; rw [h0, h1]; exact Ref.rNrm_at x g

include h0 h1 h2 in
theorem sZ_eq : sZ m c = emat (eLin (eNrm x (g 0)) wg) := by
  unfold sZ; rw [sN_eq h0 h1, h2, hLin_eq]

include h0 h1 h3 in
theorem sU_eq : sU m c = emat (eLin (eNrm x (g 0)) wu) := by
  unfold sU; rw [sN_eq h0 h1, h3, hLin_eq]

include h0 h1 h2 h3 in
theorem sP_eq : sP m c = emat (act (eLin (eNrm x (g 0)) wg) (eLin (eNrm x (g 0)) wu)) := by
  unfold sP; rw [sZ_eq h0 h1 h2, sU_eq h0 h1 h3]; exact Ref.rUp_at _ _

include h0 h1 h2 h3 h4 in
theorem sH_eq : sH m c = emat (out x g wg wu wd) := by
  unfold sH; rw [sP_eq h0 h1 h2 h3, h0, h4, hMid_eq]; rfl

include h0 h1 h2 h3 h4 h5 h6 in
theorem sE_eq : sE m c = emat (err (out x g wg wu wd) γ y) := by
  unfold sE; rw [sH_eq h0 h1 h2 h3 h4, h5, h6, hErr_eq]

include h0 h1 h2 h3 h4 h5 h6 in
theorem sD_eq : sD m c = emat (dErr (out x g wg wu wd) γ y) := by
  unfold sD; rw [sE_eq h0 h1 h2 h3 h4 h5 h6, hDe_eq]
end values
end reference

/-- The reference runs to the end, leaves its arguments as they were, and has no semaphore. -/
theorem refFrame : Cert.quiescent_HeadRefIdeal := fun m g _ =>
  (θ_run Cert.HeadRefIdeal.defs _ _).mono (fun r h => ⟨fun c => (h c).2.2.2.2.2.2.2, sem_eq_zero_of_no_sems (by decide) r.2⟩)
    (Cert.HeadRefIdeal.Value.run (F := Ideal) m g)

set_option maxHeartbeats 4000000 in
theorem same : Cert.algebraic_HeadIdeal_HeadRefIdeal := by
  intro m g m' g' hp ha
  refine ⟨fun c => (Cert.HeadIdeal.Gen.dats m 0 c).arrAt 7 _, fun c => (Cert.HeadIdeal.Gen.dats m 0 c).arrAt 8 _,
    fun c => (Cert.HeadIdeal.Gen.dats m 0 c).arrAt 9 _, fun c => (Cert.HeadIdeal.Gen.dats m 0 c).arrAt 10 _,
    fun c => (Cert.HeadIdeal.Gen.dats m 0 c).arrAt 11 _, fun c => (Cert.HeadIdeal.Gen.dats m 0 c).arrAt 12 _,
    fun c => (Cert.HeadIdeal.Gen.dats m 0 c).arrAt 13 _, Cert.HeadIdeal.Value.run_blocks m g,
    (θ_run Cert.HeadRefIdeal.defs _ _).mono (fun r h c => ?_) (Cert.HeadRefIdeal.Value.run (F := Ideal) m' g')⟩
  obtain ⟨e0, e1, e2, e3, e4, e5, e6⟩ := ha c
  obtain ⟨x, a0⟩ := exists_emat (m ((c.tc : Thread Cert.HeadIdeal.nD Cert.HeadIdeal.τ).loc Cert.HeadIdeal.main_arg0))
  obtain ⟨γ, a1⟩ := exists_emat (m ((c.tc : Thread Cert.HeadIdeal.nD Cert.HeadIdeal.τ).loc Cert.HeadIdeal.main_arg1))
  obtain ⟨wg, a2⟩ := exists_emat1 (m ((c.tc : Thread Cert.HeadIdeal.nD Cert.HeadIdeal.τ).loc Cert.HeadIdeal.main_arg2))
  obtain ⟨wu, a3⟩ := exists_emat1 (m ((c.tc : Thread Cert.HeadIdeal.nD Cert.HeadIdeal.τ).loc Cert.HeadIdeal.main_arg3))
  obtain ⟨wd, a4⟩ := exists_emat1 (m ((c.tc : Thread Cert.HeadIdeal.nD Cert.HeadIdeal.τ).loc Cert.HeadIdeal.main_arg4))
  obtain ⟨γf, a5⟩ := exists_evec (m ((c.tc : Thread Cert.HeadIdeal.nD Cert.HeadIdeal.τ).loc Cert.HeadIdeal.main_arg5))
  obtain ⟨y, a6⟩ := exists_emat1 (m ((c.tc : Thread Cert.HeadIdeal.nD Cert.HeadIdeal.τ).loc Cert.HeadIdeal.main_arg6))
  have A : Args m c x γ wg wu wd γf y := ⟨a0, a1, a2, a3, a4, a5, a6⟩
  have n := sN_eq (m := m') (c := c) (e0.trans a0) (e1.trans a1)
  have z := sZ_eq (m := m') (c := c) (e0.trans a0) (e1.trans a1) (e2.trans a2)
  have u := sU_eq (m := m') (c := c) (e0.trans a0) (e1.trans a1) (e3.trans a3)
  have p := sP_eq (m := m') (c := c) (e0.trans a0) (e1.trans a1) (e2.trans a2) (e3.trans a3)
  have o := sH_eq (m := m') (c := c) (e0.trans a0) (e1.trans a1) (e2.trans a2) (e3.trans a3) (e4.trans a4)
  have er := sE_eq (m := m') (c := c) (e0.trans a0) (e1.trans a1) (e2.trans a2) (e3.trans a3) (e4.trans a4) (e5.trans a5) (e6.trans a6)
  have de := sD_eq (m := m') (c := c) (e0.trans a0) (e1.trans a1) (e2.trans a2) (e3.trans a3) (e4.trans a4) (e5.trans a5) (e6.trans a6)
  obtain ⟨h0, h1, h2, h3, h4, h5, h6, hk⟩ := h c
  refine ⟨h0.trans ?_, h1.trans ?_, h2.trans ?_, h3.trans ?_, h4.trans ?_, h5.trans ?_, h6.trans ?_, hk⟩
  · refine (out0 m' c).trans ?_
    rw [o, de, show arg5 m' c = evec γf from e5.trans a5, hDx_eq]
    exact (hDh_eq _ _ _).trans (arr7 A).symm
  · refine Eq.trans (b := truncf (F := Ideal) .bf16 (sN m' c) Cert.HeadRefIdeal.Gen.bitsLt_bf16_f32) rfl ?_
    rw [n]; exact (Ref.cast_eq' _).trans (arr8 A).symm
  · refine Eq.trans (b := truncf (F := Ideal) .bf16 (sZ m' c) Cert.HeadRefIdeal.Gen.bitsLt_bf16_f32) rfl ?_
    rw [z]; exact Eq.trans (b := emat _) rfl (arr9 A).symm
  · refine Eq.trans (b := truncf (F := Ideal) .bf16 (sU m' c) Cert.HeadRefIdeal.Gen.bitsLt_bf16_f32) rfl ?_
    rw [u]; exact Eq.trans (b := emat _) rfl (arr10 A).symm
  · refine Eq.trans (b := truncf (F := Ideal) .bf16 (transpose Cert.HeadRefIdeal.S2816x4096 [1, 0] (sP m' c)
      Cert.HeadRefIdeal.Gen.transposes_S4096x2816_S2816x4096_1_0) Cert.HeadRefIdeal.Gen.bitsLt_bf16_f32) rfl ?_
    rw [p]; exact (Ref.transpose_at _).trans (arr11 A).symm
  · refine (out5 m' c).trans ?_
    rw [er]; exact (hLoss_eq _ _ _).trans (arr12 A).symm
  · refine (out6 m' c).trans ?_
    rw [o, de]; exact (hDg_eq _ _).trans (arr13 A).symm

end Cert.Proof.Head
end
-- ==== Proof.Forward.lean ====
/- The first half-step's two forward calls: the normed row with the gate projection, and the up projection with the product of the
   gates. Their arrays are the reference's at any arguments. -/
module

public import proofs.«01_k».proof.Defs
public import proofs.«01_k».proof.Proof.HeadSame
public import proofs.«01_k».proof.Proof.Gen.Gate1Ideal.Value
public import proofs.«01_k».proof.Proof.Gen.Gate1RefIdeal.Run
public import proofs.«01_k».proof.Proof.Gen.Up1Ideal.Value
public import proofs.«01_k».proof.Proof.Gen.Up1RefIdeal.Run

@[expose] public section

set_option maxRecDepth 16384

noncomputable section

namespace Cert.Proof.Gate1

open Idealize.ShloMosaic Idealize.SL.Sem
open scoped BigOperators

section kernel
open Cert.Gate1Ideal Cert.Gate1Ideal.Gen

section payloads
variable (x : Fin 512 → Fin 1024 → EReal) (g : Fin 1 → Fin 1024 → EReal) (w : Fin 1024 → Fin 2816 → EReal)

theorem pay1_eq : k0_pay1 (F := Ideal) (emat x) (emat g) = emat (eNrm x (g 0)) := by
  funext i; idx_vars i
  pointwise [k0_pay1]
  simp only [emat_ix2, ofBits_1024, ofBits_eps]; rfl

theorem pay2_eq : k0_pay2 (F := Ideal) (emat x) (emat g) (emat fun f k => w k f) = emat (eLin (eNrm x (g 0)) w) := by
  funext i; idx_vars i
  pointwise [k0_pay2]
  rw [pay1_eq]; rfl

theorem nrm_out : out0_3 (F := Ideal) (emat x) (emat g) (emat fun f k => w k f) = emat (eNrm x (g 0)) := by
  funext y; frame_out; rw [pay1_eq]

theorem gate_out : out0_4 (F := Ideal) (emat x) (emat g) (emat fun f k => w k f) = emat (eLin (eNrm x (g 0)) w) := by
  funext y; frame_out; rw [pay2_eq]
end payloads

variable (m : (ℓ : Loc nD τ sig) → Buf (Elt Ideal) ℓ) (c : Dev nD)

/-- The array rows of grid point `t`. -/
def rows (t : Fin cfg0.N) (r : Fin 512) : Fin 4096 := ⟨t.val * 512 + r.val, by have := lt_of_lt_of_eq t.isLt N_0; omega⟩

theorem idx_all : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0))

/-- The arguments as matrices. -/
structure Args (x : Fin 4096 → Fin 1024 → EReal) (g : Fin 1 → Fin 1024 → EReal) (w : Fin 1024 → Fin 2816 → EReal) : Prop where
  a0 : m ((c.tc : Thread nD τ).loc main_arg0) = emat x
  a1 : m ((c.tc : Thread nD τ).loc main_arg1) = emat g
  a2 : m ((c.tc : Thread nD τ).loc main_arg2) = emat1 w

section
variable {m c} {x : Fin 4096 → Fin 1024 → EReal} {g : Fin 1 → Fin 1024 → EReal} {w : Fin 1024 → Fin 2816 → EReal} (A : Args m c x g w) (t : Fin cfg0.N)
include A

theorem V_w : V m c main_v2 = emat fun f k => w k f := by
  have h : m (c, Proc.tc.devRef main_arg2) = emat1 w := A.a2
  entry_read; rw [h]
  funext i; idx_vars i; pointwise; rfl

theorem b0 : iblk m c 0 t = emat fun r => x (rows t r) := by
  obtain ⟨i0, -⟩ := idx_all t
  have V0 : V m c main_arg0 = emat x := (V_main_arg0 m c).trans A.a0
  funext i; blk_simp [iblk]; rw [V0]; exact emat_at _ _ (rows t (i 0)) (i 1) (by blk_simp [i0]; rfl) (by blk_simp [i0])

theorem b1 : iblk m c 1 t = emat g := by
  obtain ⟨-, i1, -⟩ := idx_all t
  have V1 : V m c main_arg1 = emat g := (V_main_arg1 m c).trans A.a1
  funext i; blk_simp [iblk]; rw [V1]; exact emat_at _ _ (i 0) (i 1) (by blk_simp [i1]) (by blk_simp [i1])

theorem b2 : iblk m c 2 t = emat fun f k => w k f := by
  obtain ⟨-, -, i2, -⟩ := idx_all t
  funext i; blk_simp [iblk]; rw [V_w A]; exact emat_at _ _ (i 0) (i 1) (by blk_simp [i2]) (by blk_simp [i2])

theorem arr3 : (dats m 0 c).arrAt 3 (cfgs 0).N = emat (eNrm x (g 0)) := by
  refine (dats m 0 c).arrAt_eq_of_covers 3 _ (by decide +kernel) fun t hf y => ?_
  have ij := (idx_all t).2.2.2.1
  blk_simp
  rw [after0_3, b0 A, b1 A, b2 A, nrm_out]
  refine Eq.trans ?_ (emat_at (eNrm x (g 0)) ((win0_3.blk t).view.emb y) (rows t (y 0)) (y 1) ?_ ?_).symm
  · rfl
  · blk_simp [ij]; rfl
  · blk_simp [ij]

theorem arr4 : (dats m 0 c).arrAt 4 (cfgs 0).N = emat (eLin (eNrm x (g 0)) w) := by
  refine (dats m 0 c).arrAt_eq_of_covers 4 _ (by decide +kernel) fun t hf y => ?_
  have ij := (idx_all t).2.2.2.2
  blk_simp
  rw [after0_4, b0 A, b1 A, b2 A, gate_out]
  refine Eq.trans ?_ (emat_at (eLin (eNrm x (g 0)) w) ((win0_4.blk t).view.emb y) (rows t (y 0)) (y 1) ?_ ?_).symm
  · rfl
  · blk_simp [ij]; rfl
  · blk_simp [ij]
end
end kernel

/-- The reference runs to the end, leaves its arguments as they were, and has no semaphore. -/
theorem refFrame : Cert.quiescent_Gate1RefIdeal := fun m g _ =>
  (θ_run Cert.Gate1RefIdeal.defs _ _).mono (fun r h => ⟨fun c => (h c).2.2, sem_eq_zero_of_no_sems (by decide) r.2⟩)
    (Cert.Gate1RefIdeal.Value.run (F := Ideal) m g)

set_option maxHeartbeats 4000000 in
theorem same : Cert.algebraic_Gate1Ideal_Gate1RefIdeal := by
  intro m g m' g' hp ha
  refine ⟨fun c => (Cert.Gate1Ideal.Gen.dats m 0 c).arrAt 3 _, fun c => (Cert.Gate1Ideal.Gen.dats m 0 c).arrAt 4 _, Cert.Gate1Ideal.Value.run_blocks m g,
    (θ_run Cert.Gate1RefIdeal.defs _ _).mono (fun r h c => ?_) (Cert.Gate1RefIdeal.Value.run (F := Ideal) m' g')⟩
  obtain ⟨e0, e1, e2⟩ := ha c
  obtain ⟨x, a0⟩ := exists_emat (m ((c.tc : Thread Cert.Gate1Ideal.nD Cert.Gate1Ideal.τ).loc Cert.Gate1Ideal.main_arg0))
  obtain ⟨γ, a1⟩ := exists_emat (m ((c.tc : Thread Cert.Gate1Ideal.nD Cert.Gate1Ideal.τ).loc Cert.Gate1Ideal.main_arg1))
  obtain ⟨w, a2⟩ := exists_emat1 (m ((c.tc : Thread Cert.Gate1Ideal.nD Cert.Gate1Ideal.τ).loc Cert.Gate1Ideal.main_arg2))
  have A : Args m c x γ w := ⟨a0, a1, a2⟩
  obtain ⟨h0, h1, hk⟩ := h c
  have n : Ref.rNrm (m' ((c.tc : Thread Cert.Gate1RefIdeal.nD Cert.Gate1RefIdeal.τ).loc Cert.Gate1RefIdeal.main_arg0))
      (m' ((c.tc : Thread Cert.Gate1RefIdeal.nD Cert.Gate1RefIdeal.τ).loc Cert.Gate1RefIdeal.main_arg1)) = emat (eNrm x (γ 0)) := by
    rw [e0, e1, a0, a1]; exact Ref.rNrm_at x γ
  refine ⟨h0.trans ?_, h1.trans ?_, hk⟩
  · refine Eq.trans (b := truncf (F := Ideal) .bf16 (Ref.rNrm (m' ((c.tc : Thread Cert.Gate1RefIdeal.nD Cert.Gate1RefIdeal.τ).loc Cert.Gate1RefIdeal.main_arg0))
      (m' ((c.tc : Thread Cert.Gate1RefIdeal.nD Cert.Gate1RefIdeal.τ).loc Cert.Gate1RefIdeal.main_arg1))) Cert.Gate1RefIdeal.Gen.bitsLt_bf16_f32) rfl ?_
    rw [n]; exact (Ref.cast_eq' _).trans (arr3 A).symm
  · refine Eq.trans (b := truncf (F := Ideal) .bf16 (Head.hLin (Ref.rNrm (m' ((c.tc : Thread Cert.Gate1RefIdeal.nD Cert.Gate1RefIdeal.τ).loc Cert.Gate1RefIdeal.main_arg0))
      (m' ((c.tc : Thread Cert.Gate1RefIdeal.nD Cert.Gate1RefIdeal.τ).loc Cert.Gate1RefIdeal.main_arg1)))
      (m' ((c.tc : Thread Cert.Gate1RefIdeal.nD Cert.Gate1RefIdeal.τ).loc Cert.Gate1RefIdeal.main_arg2))) Cert.Gate1RefIdeal.Gen.bitsLt_bf16_f32) rfl ?_
    rw [n, e2, a2, Head.hLin_eq]
    exact Eq.trans (b := emat _) rfl (arr4 A).symm

end Cert.Proof.Gate1

namespace Cert.Proof.Up1

open Idealize.ShloMosaic Idealize.SL.Sem
open scoped BigOperators

section kernel
open Cert.Up1Ideal Cert.Up1Ideal.Gen

section cells
variable (n : Fin 512 → Fin 1024 → EReal) (z : Fin 512 → Fin 2816 → EReal) (w : Fin 1024 → Fin 2816 → EReal)

theorem act_cell (y : (⟨2, ![2816, 512]⟩ : Shape).Idx) (f : Fin 2816) (r : Fin 512) (hf : (y 0 : ℕ) = f) (hr : (y 1 : ℕ) = r) :
    emat z (ix2 r f) * Ideal.div 1 (1 + Ideal.exp (0 - emat z (ix2 r f))) * (∑ k, emat n (ix2 r k) * emat (fun f k => w k f) (ix2 f k))
      = emat (fun f r => Head.act z (eLin n w) r f) y := by
  obtain rfl : y = ix2 f r := (eq_ix2 y).trans (by rw [show y 0 = f from Fin.ext hf, show y 1 = r from Fin.ext hr])
  rfl

theorem up_out : out0_3 (F := Ideal) (emat n) (emat z) (emat fun f k => w k f) = emat (eLin n w) := by
  funext y
  unfold_out out0_3
  canon_tiles y h
  all_goals (unfold_payloads; pointwise; exact Head.lin_cell _ _ _ _ _ h0 h1)

theorem act_out : out0_4 (F := Ideal) (emat n) (emat z) (emat fun f k => w k f) = emat fun f r => Head.act z (eLin n w) r f := by
  funext y
  unfold_out out0_4
  canon_tiles y h
  all_goals (unfold_payloads; pointwise; exact act_cell n z w _ _ _ h0 h1)
end cells

variable (m : (ℓ : Loc nD τ sig) → Buf (Elt Ideal) ℓ) (c : Dev nD)

/-- The array rows of grid point `t`. -/
def rows (t : Fin cfg0.N) (r : Fin 512) : Fin 4096 := ⟨t.val * 512 + r.val, by have := lt_of_lt_of_eq t.isLt N_0; omega⟩

theorem idx_all : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) ∧ (win0_4.index t 0 = 0 ∧ win0_4.index t 1 = t.val) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) ∧ (win0_4.index t 0 = 0 ∧ win0_4.index t 1 = t.val))

/-- The arguments as matrices. -/
structure Args (x : Fin 4096 → Fin 1024 → EReal) (g : Fin 1 → Fin 1024 → EReal) (wg wu : Fin 1024 → Fin 2816 → EReal) : Prop where
  a0 : m ((c.tc : Thread nD τ).loc main_arg0) = emat x
  a1 : m ((c.tc : Thread nD τ).loc main_arg1) = emat g
  a2 : m ((c.tc : Thread nD τ).loc main_arg2) = emat1 wg
  a3 : m ((c.tc : Thread nD τ).loc main_arg3) = emat1 wu

section
variable {m c} {x : Fin 4096 → Fin 1024 → EReal} {g : Fin 1 → Fin 1024 → EReal} {wg wu : Fin 1024 → Fin 2816 → EReal} (A : Args m c x g wg wu) (t : Fin cfg0.N)
include A

theorem V_n : V m c main_v17 = emat (eNrm x (g 0)) := by
  have h0 : m (c, Proc.tc.devRef main_arg0) = emat x := A.a0
  have h1 : m (c, Proc.tc.devRef main_arg1) = emat g := A.a1
  entry_read; rw [h0, h1]
  funext i; idx_vars i; pointwise
  simp only [emat_ix2, ofBits_1024, ofBits_eps]; rfl

theorem V_gate : V m c main_v16 = emat (eLin (eNrm x (g 0)) wg) := by
  have h0 : m (c, Proc.tc.devRef main_arg0) = emat x := A.a0
  have h1 : m (c, Proc.tc.devRef main_arg1) = emat g := A.a1
  have h2 : m (c, Proc.tc.devRef main_arg2) = emat1 wg := A.a2
  entry_read; rw [h0, h1, h2]
  funext i; idx_vars i; pointwise
  simp only [emat_ix2, emat1_ix3, ofBits_1024, ofBits_eps]; rfl

theorem V_w : V m c main_v20 = emat fun f k => wu k f := by
  have h : m (c, Proc.tc.devRef main_arg3) = emat1 wu := A.a3
  entry_read; rw [h]
  funext i; idx_vars i; pointwise; rfl

theorem b0 : iblk m c 0 t = emat fun r => eNrm x (g 0) (rows t r) := by
  obtain ⟨i0, -⟩ := idx_all t
  funext i; blk_simp [iblk]; rw [V_n A]; exact emat_at _ _ (rows t (i 0)) (i 1) (by blk_simp [i0]; rfl) (by blk_simp [i0])

theorem b1 : iblk m c 1 t = emat fun r => eLin (eNrm x (g 0)) wg (rows t r) := by
  obtain ⟨-, i1, -⟩ := idx_all t
  funext i; blk_simp [iblk]; rw [V_gate A]; exact emat_at _ _ (rows t (i 0)) (i 1) (by blk_simp [i1]; rfl) (by blk_simp [i1])

theorem b2 : iblk m c 2 t = emat fun f k => wu k f := by
  obtain ⟨-, -, i2, -⟩ := idx_all t
  funext i; blk_simp [iblk]; rw [V_w A]; exact emat_at _ _ (i 0) (i 1) (by blk_simp [i2]) (by blk_simp [i2])

theorem arr3 : (dats m 0 c).arrAt 3 (cfgs 0).N = emat (eLin (eNrm x (g 0)) wu) := by
  refine (dats m 0 c).arrAt_eq_of_covers 3 _ (by decide +kernel) fun t hf y => ?_
  have ij := (idx_all t).2.2.2.1
  blk_simp
  rw [after0_3, b0 A, b1 A, b2 A, up_out]
  refine Eq.trans ?_ (emat_at (eLin (eNrm x (g 0)) wu) ((win0_3.blk t).view.emb y) (rows t (y 0)) (y 1) ?_ ?_).symm
  · rfl
  · blk_simp [ij]; rfl
  · blk_simp [ij]

theorem arr4 : (dats m 0 c).arrAt 4 (cfgs 0).N = emat fun f r => Head.act (eLin (eNrm x (g 0)) wg) (eLin (eNrm x (g 0)) wu) r f := by
  refine (dats m 0 c).arrAt_eq_of_covers 4 _ (by decide +kernel) fun t hf y => ?_
  have ij := (idx_all t).2.2.2.2
  blk_simp
  rw [after0_4, b0 A, b1 A, b2 A, act_out]
  refine Eq.trans ?_ (emat_at (fun f r => Head.act (eLin (eNrm x (g 0)) wg) (eLin (eNrm x (g 0)) wu) r f) ((win0_4.blk t).view.emb y) (y 0) (rows t (y 1)) ?_ ?_).symm
  · rfl
  · blk_simp [ij]
  · blk_simp [ij]; rfl
end
end kernel

section reference
open Cert.Up1RefIdeal
variable (m : (ℓ : Loc nD τ sig) → Buf (Elt Ideal) ℓ) (c : Dev nD)

/-- The normed row, as the reference prints it. -/
def sN : Ref.A Cert.FfnRefIdeal.S4096x1024 := Ref.rNrm (m ((c.tc : Thread nD τ).loc main_arg0)) (m ((c.tc : Thread nD τ).loc main_arg1))
/-- The up projection, as the reference prints it. -/
def sU : Ref.A Cert.FfnRefIdeal.S4096x2816 := Head.hLin (sN m c) (m ((c.tc : Thread nD τ).loc main_arg3))
/-- The product of the gates, as the reference prints it. -/
def sP : Ref.A Cert.FfnRefIdeal.S4096x2816 := Ref.rUp (Head.hLin (sN m c) (m ((c.tc : Thread nD τ).loc main_arg2))) (sU m c)
end reference

/-- The reference runs to the end, leaves its arguments as they were, and has no semaphore. -/
theorem refFrame : Cert.quiescent_Up1RefIdeal := fun m g _ =>
  (θ_run Cert.Up1RefIdeal.defs _ _).mono (fun r h => ⟨fun c => (h c).2.2, sem_eq_zero_of_no_sems (by decide) r.2⟩)
    (Cert.Up1RefIdeal.Value.run (F := Ideal) m g)

set_option maxHeartbeats 4000000 in
theorem same : Cert.algebraic_Up1Ideal_Up1RefIdeal := by
  intro m g m' g' hp ha
  refine ⟨fun c => (Cert.Up1Ideal.Gen.dats m 0 c).arrAt 3 _, fun c => (Cert.Up1Ideal.Gen.dats m 0 c).arrAt 4 _, Cert.Up1Ideal.Value.run_blocks m g,
    (θ_run Cert.Up1RefIdeal.defs _ _).mono (fun r h c => ?_) (Cert.Up1RefIdeal.Value.run (F := Ideal) m' g')⟩
  obtain ⟨e0, e1, e2, e3⟩ := ha c
  obtain ⟨x, a0⟩ := exists_emat (m ((c.tc : Thread Cert.Up1Ideal.nD Cert.Up1Ideal.τ).loc Cert.Up1Ideal.main_arg0))
  obtain ⟨γ, a1⟩ := exists_emat (m ((c.tc : Thread Cert.Up1Ideal.nD Cert.Up1Ideal.τ).loc Cert.Up1Ideal.main_arg1))
  obtain ⟨wg, a2⟩ := exists_emat1 (m ((c.tc : Thread Cert.Up1Ideal.nD Cert.Up1Ideal.τ).loc Cert.Up1Ideal.main_arg2))
  obtain ⟨wu, a3⟩ := exists_emat1 (m ((c.tc : Thread Cert.Up1Ideal.nD Cert.Up1Ideal.τ).loc Cert.Up1Ideal.main_arg3))
  have A : Args m c x γ wg wu := ⟨a0, a1, a2, a3⟩
  have n : sN m' c = emat (eNrm x (γ 0)) := by unfold sN; rw [e0, e1, a0, a1]; exact Ref.rNrm_at x γ
  have u : sU m' c = emat (eLin (eNrm x (γ 0)) wu) := by unfold sU; rw [n, e3, a3]; exact Head.hLin_eq _ _
  have p : sP m' c = emat (Head.act (eLin (eNrm x (γ 0)) wg) (eLin (eNrm x (γ 0)) wu)) := by
    unfold sP; rw [n, u, e2, a2]; exact (congrArg (Ref.rUp · _) (Head.hLin_eq _ _)).trans (Ref.rUp_at _ _)
  obtain ⟨h0, h1, hk⟩ := h c
  refine ⟨h0.trans ?_, h1.trans ?_, hk⟩
  · refine Eq.trans (b := truncf (F := Ideal) .bf16 (sU m' c) Cert.Up1RefIdeal.Gen.bitsLt_bf16_f32) rfl ?_
    rw [u]; exact Eq.trans (b := emat _) rfl (arr3 A).symm
  · refine Eq.trans (b := truncf (F := Ideal) .bf16 (transpose Cert.Up1RefIdeal.S2816x4096 [1, 0] (sP m' c)
      Cert.Up1RefIdeal.Gen.transposes_S4096x2816_S2816x4096_1_0) Cert.Up1RefIdeal.Gen.bitsLt_bf16_f32) rfl ?_
    rw [p]; exact (Ref.transpose_at _).trans (arr4 A).symm

end Cert.Proof.Up1
end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.Gate1
public import proofs.«01_k».proof.Proof.Gen.Gate1.Skeleton
public import proofs.«01_k».proof.Proof.Gen.Gate1.Launch
public import proofs.«01_k».proof.Proof.Gen.Gate1.Points
public import proofs.«01_k».proof.Proof.Gen.Gate1.Frame
public import proofs.«01_k».proof.Proof.Gen.Gate1Ideal
public import proofs.«01_k».proof.Proof.Gen.Gate1Ideal.Skeleton
public import proofs.«01_k».proof.Proof.Gen.Gate1Ideal.Launch
public import proofs.«01_k».proof.Proof.Gen.Gate1Ideal.Points
public import proofs.«01_k».proof.Proof.Gen.Gate1Ideal.Frame
public import proofs.«01_k».proof.Proof.Gen.Gate1Ideal.Value
public import proofs.«01_k».proof.Proof.Gen.Gate1RefIdeal
public import proofs.«01_k».proof.Proof.Gen.Gate1RefIdeal.Run
public import proofs.«01_k».proof.Proof.Gen.Up1
public import proofs.«01_k».proof.Proof.Gen.Up1.Skeleton
public import proofs.«01_k».proof.Proof.Gen.Up1.Launch
public import proofs.«01_k».proof.Proof.Gen.Up1.Points
public import proofs.«01_k».proof.Proof.Gen.Up1.Frame
public import proofs.«01_k».proof.Proof.Gen.Up1Ideal
public import proofs.«01_k».proof.Proof.Gen.Up1Ideal.Skeleton
public import proofs.«01_k».proof.Proof.Gen.Up1Ideal.Launch
public import proofs.«01_k».proof.Proof.Gen.Up1Ideal.Points
public import proofs.«01_k».proof.Proof.Gen.Up1Ideal.Frame
public import proofs.«01_k».proof.Proof.Gen.Up1Ideal.Value
public import proofs.«01_k».proof.Proof.Gen.Up1RefIdeal
public import proofs.«01_k».proof.Proof.Gen.Up1RefIdeal.Run
public import proofs.«01_k».proof.Proof.Final
public import proofs.«01_k».proof.Proof.Out
public import proofs.«01_k».proof.Proof.Pre
public import proofs.«01_k».proof.Proof.AttnSame
public import proofs.«01_k».proof.Proof.FfnGates
public import proofs.«01_k».proof.Proof.FfnInSame
public import proofs.«01_k».proof.Proof.HeadSame
public import proofs.«01_k».proof.Proof.Forward
public import Idealize.ShloMosaic.Adequacy
public import Idealize.ShloMosaic.Init

@[expose] public section

noncomputable section

namespace Cert.Proof

open Idealize.ShloMosaic Idealize.SL.Sem

/-- The reference runs to the end, leaves its arguments as they were, and has no semaphore. -/
theorem refFrame : Cert.quiescent_FfnRefIdeal := fun m g _ =>
  (θ_run Cert.FfnRefIdeal.defs _ _).mono (fun r h => ⟨fun c => (h c).2.2.2.2.2.2.2, sem_eq_zero_of_no_sems (by decide) r.2⟩)
    (Cert.FfnRefIdeal.Value.run (F := Ideal) m g)

set_option maxHeartbeats 4000000 in
theorem same : Cert.algebraic_FfnIdeal_FfnRefIdeal_pre_finite (hPre_finite := pre_facts) := by
  intro m g m' g' hp ha
  refine ⟨fun c => (Cert.FfnIdeal.Gen.dats m 0 c).arrAt 9 _, fun c => (Cert.FfnIdeal.Gen.dats m 0 c).arrAt 10 _, fun c => (Cert.FfnIdeal.Gen.dats m 0 c).arrAt 11 _,
    fun c => (Cert.FfnIdeal.Gen.dats m 0 c).arrAt 12 _, fun c => (Cert.FfnIdeal.Gen.dats m 0 c).arrAt 13 _, fun c => (Cert.FfnIdeal.Gen.dats m 0 c).arrAt 14 _,
    fun c => (Cert.FfnIdeal.Gen.dats m 0 c).arrAt 15 _, Cert.FfnIdeal.Value.run_blocks m g,
    (θ_run Cert.FfnRefIdeal.defs _ _).mono (fun r h c => ?_) (Cert.FfnRefIdeal.Value.run (F := Ideal) m' g')⟩
  obtain ⟨e0, e1, e2, e3, e4, e5, e6⟩ := ha c
  obtain ⟨f1, f2, f4, f5⟩ := pre_finite _ _ _ _ _ _ _ (fun i => i.elim0) (congrFun (hp c) _)
  obtain ⟨x, a0⟩ := exists_emat (m ((c.tc : Thread Cert.FfnIdeal.nD Cert.FfnIdeal.τ).loc Cert.FfnIdeal.main_arg0))
  obtain ⟨d, a1⟩ := exists_coe _ f1
  obtain ⟨γ, a2⟩ := exists_coe _ f2
  obtain ⟨wg, a3⟩ := exists_emat1 (m ((c.tc : Thread Cert.FfnIdeal.nD Cert.FfnIdeal.τ).loc Cert.FfnIdeal.main_arg3))
  obtain ⟨wu, a4⟩ := exists_coe1 _ f4
  obtain ⟨wd, a5⟩ := exists_coe1 _ f5
  have hc := factor_coe x d (γ 0) wu wd
  have A : Blk.Args m c x _ _ wg _ _ := ⟨a0, a1, a2, a3, a4, a5⟩
  have sE := Ref.sE_eq (e0.trans a0) (e1.trans a1) (e2.trans a2) (e3.trans a3) (e5.trans a5)
  have sQ := Ref.sQ_eq (e0.trans a0) (e1.trans a1) (e2.trans a2) (e3.trans a3) (e4.trans a4) (e5.trans a5) hc
  have sN := Ref.sN_eq (e0.trans a0) (e1.trans a1) (e2.trans a2) (e3.trans a3) (e4.trans a4) (e5.trans a5) hc
  have sH := Ref.sH_eq (e0.trans a0) (e1.trans a1) (e2.trans a2) (e3.trans a3) (e4.trans a4) (e5.trans a5) hc
  obtain ⟨h0, h1, h2, h3, h4, h5, h6, hk⟩ := h c
  refine ⟨h0.trans ?_, h1.trans ?_, h2.trans ?_, h3.trans ?_, h4.trans ?_, h5.trans ?_, h6.trans ?_, hk⟩
  · exact (Ref.out0 m' c).trans (sH.trans (Blk.arr9 A).symm)
  · refine (Ref.out1 m' c).trans ?_
    rw [sN, show Ref.arg0 m' c = emat x from e0.trans a0, Ref.rDg_at]
    exact (Blk.arr10 A).symm
  · refine (Ref.out2 m' c).trans ?_
    rw [sQ]
    exact (Ref.transpose_at _).trans (Blk.arr11 A).symm
  · refine Eq.trans (b := truncf (F := Ideal) .bf16 (transpose Cert.FfnRefIdeal.S2816x4096 [1, 0] (Ref.sE m' c) Cert.FfnRefIdeal.Gen.transposes_S4096x2816_S2816x4096_1_0) Cert.FfnRefIdeal.Gen.bitsLt_bf16_f32) rfl ?_
    rw [sE]
    exact (Ref.transpose_at _).trans (Blk.arr12 A).symm
  · refine Eq.trans (b := Ref.rHalf (Ref.arg1 m' c)) rfl ?_
    rw [show Ref.arg1 m' c = emat _ from e1.trans a1, Ref.rHalf_at]
    exact (Blk.arr13 A).symm
  · refine (Ref.out5 m' c).trans ?_
    rw [sH, show Ref.arg6 m' c = m ((c.tc : Thread Cert.FfnIdeal.nD Cert.FfnIdeal.τ).loc Cert.FfnIdeal.main_arg6) from e6]
    exact (Ref.mix_eq _ _).trans (Blk.arr14 A).symm
  · exact (Ref.out6 m' c).trans ((Ref.cast_eq' _).trans (sH.trans (Blk.arr15 A).symm))

theorem claim : Cert.Claim := ⟨Cert.Ffn.Gen.facts, Cert.FfnIdeal.Gen.facts, Cert.FfnRefIdeal.Gen.facts, Cert.Attn.Gen.facts, Cert.AttnIdeal.Gen.facts, Cert.AttnRefIdeal.Gen.facts,
  Cert.Gates.Gen.facts, Cert.GatesIdeal.Gen.facts, Cert.GatesRefIdeal.Gen.facts, Cert.Inp.Gen.facts, Cert.InpIdeal.Gen.facts, Cert.InpRefIdeal.Gen.facts,
  Cert.Head.Gen.facts, Cert.HeadIdeal.Gen.facts, Cert.HeadRefIdeal.Gen.facts,
  Cert.Gate1.Gen.facts, Cert.Gate1Ideal.Gen.facts, Cert.Gate1RefIdeal.Gen.facts, Cert.Up1.Gen.facts, Cert.Up1Ideal.Gen.facts, Cert.Up1RefIdeal.Gen.facts,
  pre_facts, Attn.pre_facts, Gates.pre_facts,
  fun m g _ => Cert.Ffn.Gen.frame m g, fun m g _ => Cert.FfnIdeal.Gen.frame m g, fun m g _ => Cert.FfnIdeal.Gen.frame m g,
  refFrame, fun m g _ => refFrame m g trivial,
  fun m g _ => Cert.Attn.Gen.frame m g, fun m g _ => Cert.AttnIdeal.Gen.frame m g, fun m g _ => Cert.AttnIdeal.Gen.frame m g,
  Attn.refFrame, fun m g _ => Attn.refFrame m g trivial,
  fun m g _ => Cert.Gates.Gen.frame m g, fun m g _ => Cert.GatesIdeal.Gen.frame m g, fun m g _ => Cert.GatesIdeal.Gen.frame m g,
  Gates.refFrame, fun m g _ => Gates.refFrame m g trivial,
  fun m g _ => Cert.Inp.Gen.frame m g, fun m g _ => Cert.InpIdeal.Gen.frame m g, Inp.refFrame,
  fun m g _ => Cert.Head.Gen.frame m g, fun m g _ => Cert.HeadIdeal.Gen.frame m g, Head.refFrame,
  fun m g _ => Cert.Gate1.Gen.frame m g, fun m g _ => Cert.Gate1Ideal.Gen.frame m g, Gate1.refFrame,
  fun m g _ => Cert.Up1.Gen.frame m g, fun m g _ => Cert.Up1Ideal.Gen.frame m g, Up1.refFrame,
  trivial, same, IdealRules.named_const.statement _ _ _ _ _ rfl, Attn.same, trivial, Gates.same, trivial, Inp.same, trivial, Head.same, trivial, Gate1.same, trivial, Up1.same⟩

end Cert.Proof

end
